-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v10)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v10) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v263) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v9_0)) (v1 : (c : Dev Cert.MixIdeal.nD) → Buf (Elt Ideal) ((c.tc : Thread Cert.MixIdeal.nD Cert.MixIdeal.τ).loc Cert.MixIdeal.main_v9_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v9_0) = v0 c
          ∧ r.2.mem ((c.tc : Thread Cert.MixIdeal.nD Cert.MixIdeal.τ).loc Cert.MixIdeal.main_v9_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v44) = v0 c
          ∧ r.2.mem ((c.tc : Thread Cert.MixRefIdeal.nD Cert.MixRefIdeal.τ).loc Cert.MixRefIdeal.main_v45) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Fox_FoxIdeal : Prop :=
  True

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v61)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v61) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v25) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def Claim : Prop :=
  ∃ (hConv : Cert.Conv.Facts) (hConvIdeal : Cert.ConvIdeal.Facts) (hConvRefIdeal : Cert.ConvRefIdeal.Facts) (hMix : Cert.Mix.Facts) (hMixIdeal : Cert.MixIdeal.Facts) (hMixRefIdeal : Cert.MixRefIdeal.Facts) (hFox : Cert.Fox.Facts) (hFoxIdeal : Cert.FoxIdeal.Facts) (hFoxRefIdeal : Cert.FoxRefIdeal.Facts),
    quiescent_Conv (hConv := hConv)
    ∧ quiescent_ConvIdeal (hConvIdeal := hConvIdeal)
    ∧ quiescent_ConvRefIdeal (hConvRefIdeal := hConvRefIdeal)
    ∧ quiescent_Mix (hMix := hMix)
    ∧ quiescent_MixIdeal (hMixIdeal := hMixIdeal)
    ∧ quiescent_MixRefIdeal (hMixRefIdeal := hMixRefIdeal)
    ∧ quiescent_Fox (hFox := hFox)
    ∧ quiescent_FoxIdeal (hFoxIdeal := hFoxIdeal)
    ∧ quiescent_FoxRefIdeal (hFoxRefIdeal := hFoxRefIdeal)
    ∧ preserves_Conv_ConvIdeal
    ∧ algebraic_ConvIdeal_ConvRefIdeal (hConvIdeal := hConvIdeal) (hConvRefIdeal := hConvRefIdeal)
    ∧ preserves_Mix_MixIdeal
    ∧ algebraic_MixIdeal_MixRefIdeal (hMixIdeal := hMixIdeal) (hMixRefIdeal := hMixRefIdeal)
    ∧ preserves_Fox_FoxIdeal
    ∧ algebraic_FoxIdeal_FoxRefIdeal (hFoxIdeal := hFoxIdeal) (hFoxRefIdeal := hFoxRefIdeal)
-- ==== Conv.lean ====
abbrev S2x16384x1024 : Shape := ⟨3, ![2, 16384, 1024]⟩
abbrev S31x1024 : Shape := ⟨2, ![31, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S2x30x1024 : Shape := ⟨3, ![2, 30, 1024]⟩
abbrev S2x2x1024 : Shape := ⟨3, ![2, 2, 1024]⟩
abbrev S2x32x1024 : Shape := ⟨3, ![2, 32, 1024]⟩
abbrev S1x1024 : Shape := ⟨2, ![1, 1024]⟩
abbrev S1x512x1024 : Shape := ⟨3, ![1, 512, 1024]⟩
abbrev S1x32x1024 : Shape := ⟨3, ![1, 32, 1024]⟩
abbrev S1x544x1024 : Shape := ⟨3, ![1, 544, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x544x128 : Shape := ⟨3, ![1, 544, 128]⟩
abbrev S544x128 : Shape := ⟨2, ![544, 128]⟩
abbrev S512x128 : Shape := ⟨2, ![512, 128]⟩
abbrev S1x128 : Shape := ⟨2, ![1, 128]⟩
abbrev S512x896 : Shape := ⟨2, ![512, 896]⟩

abbrev nBuf : Space → Nat
  | .hbm => 23
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S_, .f32⟩
  | .hbm, ⟨11, _⟩ => ⟨S2x30x1024, .f32⟩
  | .hbm, ⟨12, _⟩ => ⟨S_, .f32⟩
  | .hbm, ⟨13, _⟩ => ⟨S2x2x1024, .f32⟩
  | .hbm, ⟨14, _⟩ => ⟨S2x32x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S1024x4096, .bf16⟩
  | .hbm, ⟨21, _⟩ => ⟨S4096x1024, .bf16⟩
  | .hbm, ⟨22, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x544x1024, .f32⟩
  | .local _ .vmem, ⟨19, _⟩ => ⟨S512x1024, .f32⟩
  | .local _ .vmem, ⟨20, _⟩ => ⟨S512x1024, .bf16⟩
  | .local _ .vmem, ⟨21, _⟩ => ⟨S512x4096, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c32_i32_8 : BitVec 32 := 32#32
  let c0_i32_9 : BitVec 32 := 0#32
  let v21 : BitVec 1 := Scalar.cmpi .eq c32_i32_8 c0_i32_9
  let c1_i32_10 : BitVec 32 := 1#32
  let v22 : BitVec 32 := Scalar.select v21 c1_i32_10 c32_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c32_i32_5 : BitVec 32 := 32#32
  let c0_i32_6 : BitVec 32 := 0#32
  let v19 : BitVec 1 := Scalar.cmpi .eq c32_i32_5 c0_i32_6
  let c1_i32_7 : BitVec 32 := 1#32
  let v20 : BitVec 32 := Scalar.select v19 c1_i32_7 c32_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c32_i32_5 : BitVec 32 := 32#32
  let c0_i32_6 : BitVec 32 := 0#32
  let v19 : BitVec 1 := Scalar.cmpi .eq c32_i32_5 c0_i32_6
  let c1_i32_7 : BitVec 32 := 1#32
  let v20 : BitVec 32 := Scalar.select v19 c1_i32_7 c32_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c1_i32_11 : BitVec 32 := 1#32
  let v30 : BitVec 32 := Scalar.subi v29 c1_i32_11
  let c0_i32_12 : BitVec 32 := 0#32
  let v31 : BitVec 32 := Scalar.maxsi v30 c0_i32_12
  let c0_i32_13 : BitVec 32 := 0#32
  let c0_i32_14 : BitVec 32 := 0#32
  ![v17.toNat, v31.toNat, c0_i32_13.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c32_i32_8 : BitVec 32 := 32#32
  let c0_i32_9 : BitVec 32 := 0#32
  let v21 : BitVec 1 := Scalar.cmpi .eq c32_i32_8 c0_i32_9
  let c1_i32_10 : BitVec 32 := 1#32
  let v22 : BitVec 32 := Scalar.select v21 c1_i32_10 c32_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvRefIdeal.lean ====
abbrev S2x16384x1024 : Shape := ⟨3, ![2, 16384, 1024]⟩
abbrev S31x1024 : Shape := ⟨2, ![31, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S2x30x1024 : Shape := ⟨3, ![2, 30, 1024]⟩
abbrev S2x16414x1024 : Shape := ⟨3, ![2, 16414, 1024]⟩
abbrev S1x1024 : Shape := ⟨2, ![1, 1024]⟩
abbrev S1x1x1024 : Shape := ⟨3, ![1, 1, 1024]⟩
abbrev S2x16384 : Shape := ⟨2, ![2, 16384]⟩
abbrev S2x16384x1 : Shape := ⟨3, ![2, 16384, 1]⟩
abbrev S2x16384x4096 : Shape := ⟨3, ![2, 16384, 4096]⟩

abbrev nBuf : Space → Nat
  | .hbm => 293
  | .vmem => 0
  | .smem => 0
  | _ => 0

abbrev hbmTy0_0 (i : Nat) : BufTy := match i % 128 with
  | 0 => ⟨S2x16384x1024, .f32⟩
  | 1 => ⟨S2x16384x1024, .f32⟩
  | 2 => ⟨S31x1024, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S1024x4096, .f32⟩
  | 9 => ⟨S4096x1024, .f32⟩
  | 10 => ⟨S_, .f32⟩
  | 11 => ⟨S2x30x1024, .f32⟩
  | 12 => ⟨S2x16414x1024, .f32⟩
  | 13 => ⟨S2x16384x1024, .f32⟩
  | 14 => ⟨S1x1024, .f32⟩
  | 15 => ⟨S1024, .f32⟩
  | 16 => ⟨S1x1x1024, .f32⟩
  | 17 => ⟨S2x16384x1024, .f32⟩
  | 18 => ⟨S2x16384x1024, .f32⟩
  | 19 => ⟨S2x16384x1024, .f32⟩
  | 20 => ⟨S1x1024, .f32⟩
  | 21 => ⟨S1024, .f32⟩
  | 22 => ⟨S1x1x1024, .f32⟩
  | 23 => ⟨S2x16384x1024, .f32⟩
  | 24 => ⟨S2x16384x1024, .f32⟩
  | 25 => ⟨S2x16384x1024, .f32⟩
  | 26 => ⟨S2x16384x1024, .f32⟩
  | 27 => ⟨S1x1024, .f32⟩
  | 28 => ⟨S1024, .f32⟩
  | 29 => ⟨S1x1x1024, .f32⟩
  | 30 => ⟨S2x16384x1024, .f32⟩
  | 31 => ⟨S2x16384x1024, .f32⟩
  | 32 => ⟨S2x16384x1024, .f32⟩
  | 33 => ⟨S2x16384x1024, .f32⟩
  | 34 => ⟨S1x1024, .f32⟩
  | 35 => ⟨S1024, .f32⟩
  | 36 => ⟨S1x1x1024, .f32⟩
  | 37 => ⟨S2x16384x1024, .f32⟩
  | 38 => ⟨S2x16384x1024, .f32⟩
  | 39 => ⟨S2x16384x1024, .f32⟩
  | 40 => ⟨S2x16384x1024, .f32⟩
  | 41 => ⟨S1x1024, .f32⟩
  | 42 => ⟨S1024, .f32⟩
  | 43 => ⟨S1x1x1024, .f32⟩
  | 44 => ⟨S2x16384x1024, .f32⟩
  | 45 => ⟨S2x16384x1024, .f32⟩
  | 46 => ⟨S2x16384x1024, .f32⟩
  | 47 => ⟨S2x16384x1024, .f32⟩
  | 48 => ⟨S1x1024, .f32⟩
  | 49 => ⟨S1024, .f32⟩
  | 50 => ⟨S1x1x1024, .f32⟩
  | 51 => ⟨S2x16384x1024, .f32⟩
  | 52 => ⟨S2x16384x1024, .f32⟩
  | 53 => ⟨S2x16384x1024, .f32⟩
  | 54 => ⟨S2x16384x1024, .f32⟩
  | 55 => ⟨S1x1024, .f32⟩
  | 56 => ⟨S1024, .f32⟩
  | 57 => ⟨S1x1x1024, .f32⟩
  | 58 => ⟨S2x16384x1024, .f32⟩
  | 59 => ⟨S2x16384x1024, .f32⟩
  | 60 => ⟨S2x16384x1024, .f32⟩
  | 61 => ⟨S2x16384x1024, .f32⟩
  | 62 => ⟨S1x1024, .f32⟩
  | 63 => ⟨S1024, .f32⟩
  | 64 => ⟨S1x1x1024, .f32⟩
  | 65 => ⟨S2x16384x1024, .f32⟩
  | 66 => ⟨S2x16384x1024, .f32⟩
  | 67 => ⟨S2x16384x1024, .f32⟩
  | 68 => ⟨S2x16384x1024, .f32⟩
  | 69 => ⟨S1x1024, .f32⟩
  | 70 => ⟨S1024, .f32⟩
  | 71 => ⟨S1x1x1024, .f32⟩
  | 72 => ⟨S2x16384x1024, .f32⟩
  | 73 => ⟨S2x16384x1024, .f32⟩
  | 74 => ⟨S2x16384x1024, .f32⟩
  | 75 => ⟨S2x16384x1024, .f32⟩
  | 76 => ⟨S1x1024, .f32⟩
  | 77 => ⟨S1024, .f32⟩
  | 78 => ⟨S1x1x1024, .f32⟩
  | 79 => ⟨S2x16384x1024, .f32⟩
  | 80 => ⟨S2x16384x1024, .f32⟩
  | 81 => ⟨S2x16384x1024, .f32⟩
  | 82 => ⟨S2x16384x1024, .f32⟩
  | 83 => ⟨S1x1024, .f32⟩
  | 84 => ⟨S1024, .f32⟩
  | 85 => ⟨S1x1x1024, .f32⟩
  | 86 => ⟨S2x16384x1024, .f32⟩
  | 87 => ⟨S2x16384x1024, .f32⟩
  | 88 => ⟨S2x16384x1024, .f32⟩
  | 89 => ⟨S2x16384x1024, .f32⟩
  | 90 => ⟨S1x1024, .f32⟩
  | 91 => ⟨S1024, .f32⟩
  | 92 => ⟨S1x1x1024, .f32⟩
  | 93 => ⟨S2x16384x1024, .f32⟩
  | 94 => ⟨S2x16384x1024, .f32⟩
  | 95 => ⟨S2x16384x1024, .f32⟩
  | 96 => ⟨S2x16384x1024, .f32⟩
  | 97 => ⟨S1x1024, .f32⟩
  | 98 => ⟨S1024, .f32⟩
  | 99 => ⟨S1x1x1024, .f32⟩
  | 100 => ⟨S2x16384x1024, .f32⟩
  | 101 => ⟨S2x16384x1024, .f32⟩
  | 102 => ⟨S2x16384x1024, .f32⟩
  | 103 => ⟨S2x16384x1024, .f32⟩
  | 104 => ⟨S1x1024, .f32⟩
  | 105 => ⟨S1024, .f32⟩
  | 106 => ⟨S1x1x1024, .f32⟩
  | 107 => ⟨S2x16384x1024, .f32⟩
  | 108 => ⟨S2x16384x1024, .f32⟩
  | 109 => ⟨S2x16384x1024, .f32⟩
  | 110 => ⟨S2x16384x1024, .f32⟩
  | 111 => ⟨S1x1024, .f32⟩
  | 112 => ⟨S1024, .f32⟩
  | 113 => ⟨S1x1x1024, .f32⟩
  | 114 => ⟨S2x16384x1024, .f32⟩
  | 115 => ⟨S2x16384x1024, .f32⟩
  | 116 => ⟨S2x16384x1024, .f32⟩
  | 117 => ⟨S2x16384x1024, .f32⟩
  | 118 => ⟨S1x1024, .f32⟩
  | 119 => ⟨S1024, .f32⟩
  | 120 => ⟨S1x1x1024, .f32⟩
  | 121 => ⟨S2x16384x1024, .f32⟩
  | 122 => ⟨S2x16384x1024, .f32⟩
  | 123 => ⟨S2x16384x1024, .f32⟩
  | 124 => ⟨S2x16384x1024, .f32⟩
  | 125 => ⟨S1x1024, .f32⟩
  | 126 => ⟨S1024, .f32⟩
  | 127 => ⟨S1x1x1024, .f32⟩
  | _ => ⟨S2x16384x1024, .f32⟩

abbrev hbmTy0_1 (i : Nat) : BufTy := match i % 128 with
  | 0 => ⟨S2x16384x1024, .f32⟩
  | 1 => ⟨S2x16384x1024, .f32⟩
  | 2 => ⟨S2x16384x1024, .f32⟩
  | 3 => ⟨S2x16384x1024, .f32⟩
  | 4 => ⟨S1x1024, .f32⟩
  | 5 => ⟨S1024, .f32⟩
  | 6 => ⟨S1x1x1024, .f32⟩
  | 7 => ⟨S2x16384x1024, .f32⟩
  | 8 => ⟨S2x16384x1024, .f32⟩
  | 9 => ⟨S2x16384x1024, .f32⟩
  | 10 => ⟨S2x16384x1024, .f32⟩
  | 11 => ⟨S1x1024, .f32⟩
  | 12 => ⟨S1024, .f32⟩
  | 13 => ⟨S1x1x1024, .f32⟩
  | 14 => ⟨S2x16384x1024, .f32⟩
  | 15 => ⟨S2x16384x1024, .f32⟩
  | 16 => ⟨S2x16384x1024, .f32⟩
  | 17 => ⟨S2x16384x1024, .f32⟩
  | 18 => ⟨S1x1024, .f32⟩
  | 19 => ⟨S1024, .f32⟩
  | 20 => ⟨S1x1x1024, .f32⟩
  | 21 => ⟨S2x16384x1024, .f32⟩
  | 22 => ⟨S2x16384x1024, .f32⟩
  | 23 => ⟨S2x16384x1024, .f32⟩
  | 24 => ⟨S2x16384x1024, .f32⟩
  | 25 => ⟨S1x1024, .f32⟩
  | 26 => ⟨S1024, .f32⟩
  | 27 => ⟨S1x1x1024, .f32⟩
  | 28 => ⟨S2x16384x1024, .f32⟩
  | 29 => ⟨S2x16384x1024, .f32⟩
  | 30 => ⟨S2x16384x1024, .f32⟩
  | 31 => ⟨S2x16384x1024, .f32⟩
  | 32 => ⟨S1x1024, .f32⟩
  | 33 => ⟨S1024, .f32⟩
  | 34 => ⟨S1x1x1024, .f32⟩
  | 35 => ⟨S2x16384x1024, .f32⟩
  | 36 => ⟨S2x16384x1024, .f32⟩
  | 37 => ⟨S2x16384x1024, .f32⟩
  | 38 => ⟨S2x16384x1024, .f32⟩
  | 39 => ⟨S1x1024, .f32⟩
  | 40 => ⟨S1024, .f32⟩
  | 41 => ⟨S1x1x1024, .f32⟩
  | 42 => ⟨S2x16384x1024, .f32⟩
  | 43 => ⟨S2x16384x1024, .f32⟩
  | 44 => ⟨S2x16384x1024, .f32⟩
  | 45 => ⟨S2x16384x1024, .f32⟩
  | 46 => ⟨S1x1024, .f32⟩
  | 47 => ⟨S1024, .f32⟩
  | 48 => ⟨S1x1x1024, .f32⟩
  | 49 => ⟨S2x16384x1024, .f32⟩
  | 50 => ⟨S2x16384x1024, .f32⟩
  | 51 => ⟨S2x16384x1024, .f32⟩
  | 52 => ⟨S2x16384x1024, .f32⟩
  | 53 => ⟨S1x1024, .f32⟩
  | 54 => ⟨S1024, .f32⟩
  | 55 => ⟨S1x1x1024, .f32⟩
  | 56 => ⟨S2x16384x1024, .f32⟩
  | 57 => ⟨S2x16384x1024, .f32⟩
  | 58 => ⟨S2x16384x1024, .f32⟩
  | 59 => ⟨S2x16384x1024, .f32⟩
  | 60 => ⟨S1x1024, .f32⟩
  | 61 => ⟨S1024, .f32⟩
  | 62 => ⟨S1x1x1024, .f32⟩
  | 63 => ⟨S2x16384x1024, .f32⟩
  | 64 => ⟨S2x16384x1024, .f32⟩
  | 65 => ⟨S2x16384x1024, .f32⟩
  | 66 => ⟨S2x16384x1024, .f32⟩
  | 67 => ⟨S1x1024, .f32⟩
  | 68 => ⟨S1024, .f32⟩
  | 69 => ⟨S1x1x1024, .f32⟩
  | 70 => ⟨S2x16384x1024, .f32⟩
  | 71 => ⟨S2x16384x1024, .f32⟩
  | 72 => ⟨S2x16384x1024, .f32⟩
  | 73 => ⟨S2x16384x1024, .f32⟩
  | 74 => ⟨S1x1024, .f32⟩
  | 75 => ⟨S1024, .f32⟩
  | 76 => ⟨S1x1x1024, .f32⟩
  | 77 => ⟨S2x16384x1024, .f32⟩
  | 78 => ⟨S2x16384x1024, .f32⟩
  | 79 => ⟨S2x16384x1024, .f32⟩
  | 80 => ⟨S2x16384x1024, .f32⟩
  | 81 => ⟨S1x1024, .f32⟩
  | 82 => ⟨S1024, .f32⟩
  | 83 => ⟨S1x1x1024, .f32⟩
  | 84 => ⟨S2x16384x1024, .f32⟩
  | 85 => ⟨S2x16384x1024, .f32⟩
  | 86 => ⟨S2x16384x1024, .f32⟩
  | 87 => ⟨S2x16384x1024, .f32⟩
  | 88 => ⟨S1x1024, .f32⟩
  | 89 => ⟨S1024, .f32⟩
  | 90 => ⟨S1x1x1024, .f32⟩
  | 91 => ⟨S2x16384x1024, .f32⟩
  | 92 => ⟨S2x16384x1024, .f32⟩
  | 93 => ⟨S2x16384x1024, .f32⟩
  | 94 => ⟨S2x16384x1024, .f32⟩
  | 95 => ⟨S1x1024, .f32⟩
  | 96 => ⟨S1024, .f32⟩
  | 97 => ⟨S1x1x1024, .f32⟩
  | 98 => ⟨S2x16384x1024, .f32⟩
  | 99 => ⟨S2x16384x1024, .f32⟩
  | 100 => ⟨S2x16384x1024, .f32⟩
  | 101 => ⟨S1x1x1024, .f32⟩
  | 102 => ⟨S2x16384x1024, .f32⟩
  | 103 => ⟨S2x16384x1024, .f32⟩
  | 104 => ⟨S_, .f32⟩
  | 105 => ⟨S2x16384, .f32⟩
  | 106 => ⟨S2x16384x1, .f32⟩
  | 107 => ⟨S_, .f32⟩
  | 108 => ⟨S2x16384x1, .f32⟩
  | 109 => ⟨S2x16384x1, .f32⟩
  | 110 => ⟨S2x16384x1024, .f32⟩
  | 111 => ⟨S2x16384x1024, .f32⟩
  | 112 => ⟨S2x16384x1024, .f32⟩
  | 113 => ⟨S_, .f32⟩
  | 114 => ⟨S2x16384, .f32⟩
  | 115 => ⟨S2x16384x1, .f32⟩
  | 116 => ⟨S_, .f32⟩
  | 117 => ⟨S2x16384x1, .f32⟩
  | 118 => ⟨S2x16384x1, .f32⟩
  | 119 => ⟨S_, .f32⟩
  | 120 => ⟨S2x16384x1, .f32⟩
  | 121 => ⟨S2x16384x1, .f32⟩
  | 122 => ⟨S2x16384x1, .f32⟩
  | 123 => ⟨S2x16384x1024, .f32⟩
  | 124 => ⟨S2x16384x1024, .f32⟩
  | 125 => ⟨S1x1x1024, .f32⟩
  | 126 => ⟨S2x16384x1024, .f32⟩
  | 127 => ⟨S2x16384x1024, .f32⟩
  | _ => ⟨S2x16384x1024, .f32⟩

abbrev hbmTy0_2 (i : Nat) : BufTy := match i % 128 with
  | 0 => ⟨S1x1x1024, .f32⟩
  | 1 => ⟨S2x16384x1024, .f32⟩
  | 2 => ⟨S2x16384x1024, .f32⟩
  | 3 => ⟨S2x16384x1024, .f32⟩
  | 4 => ⟨S2x16384x1024, .f32⟩
  | 5 => ⟨S_, .f32⟩
  | 6 => ⟨S2x16384x1024, .f32⟩
  | 7 => ⟨S2x16384x1024, .f32⟩
  | 8 => ⟨S_, .f32⟩
  | 9 => ⟨S2x16384x1024, .f32⟩
  | 10 => ⟨S2x16384x1024, .f32⟩
  | 11 => ⟨S2x16384x1024, .f32⟩
  | 12 => ⟨S2x16384x1024, .f32⟩
  | 13 => ⟨S2x16384x1024, .f32⟩
  | 14 => ⟨S2x16384x1024, .f32⟩
  | 15 => ⟨S_, .f32⟩
  | 16 => ⟨S2x16384, .f32⟩
  | 17 => ⟨S2x16384x1, .f32⟩
  | 18 => ⟨S_, .f32⟩
  | 19 => ⟨S2x16384x1, .f32⟩
  | 20 => ⟨S2x16384x1, .f32⟩
  | 21 => ⟨S_, .f32⟩
  | 22 => ⟨S2x16384x1, .f32⟩
  | 23 => ⟨S2x16384x1, .f32⟩
  | 24 => ⟨S2x16384x1, .f32⟩
  | 25 => ⟨S2x16384x1024, .f32⟩
  | 26 => ⟨S2x16384x1024, .f32⟩
  | 27 => ⟨S1x1x1024, .f32⟩
  | 28 => ⟨S2x16384x1024, .f32⟩
  | 29 => ⟨S2x16384x1024, .f32⟩
  | 30 => ⟨S2x16384x4096, .f32⟩
  | 31 => ⟨S_, .f32⟩
  | 32 => ⟨S2x16384x4096, .f32⟩
  | 33 => ⟨S2x16384x4096, .f32⟩
  | 34 => ⟨S2x16384x4096, .f32⟩
  | 35 => ⟨S2x16384x1024, .f32⟩
  | 36 => ⟨S2x16384x1024, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_cst_0 : Ref sig .tc := ⟨.hbm, 232, rfl⟩
abbrev main_v221 : Ref sig .tc := ⟨.hbm, 233, rfl⟩
abbrev main_v222 : Ref sig .tc := ⟨.hbm, 234, rfl⟩
abbrev main_cst_1 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_cst_2 : Ref sig .tc := ⟨.hbm, 241, rfl⟩
abbrev main_v228 : Ref sig .tc := ⟨.hbm, 242, rfl⟩
abbrev main_v229 : Ref sig .tc := ⟨.hbm, 243, rfl⟩
abbrev main_cst_3 : Ref sig .tc := ⟨.hbm, 244, rfl⟩
abbrev main_v230 : Ref sig .tc := ⟨.hbm, 245, rfl⟩
abbrev main_v231 : Ref sig .tc := ⟨.hbm, 246, rfl⟩
abbrev main_cst_4 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_call0_v0 : Ref sig .tc := ⟨.hbm, 259, rfl⟩
abbrev main_call0_v1 : Ref sig .tc := ⟨.hbm, 260, rfl⟩
abbrev main_call0_cst : Ref sig .tc := ⟨.hbm, 261, rfl⟩
abbrev main_call0_v2 : Ref sig .tc := ⟨.hbm, 262, rfl⟩
abbrev main_call0_v3 : Ref sig .tc := ⟨.hbm, 263, rfl⟩
abbrev main_call0_cst_0 : Ref sig .tc := ⟨.hbm, 264, rfl⟩
abbrev main_call0_v4 : Ref sig .tc := ⟨.hbm, 265, rfl⟩
abbrev main_call0_v5 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_cst_5 : Ref sig .tc := ⟨.hbm, 271, rfl⟩
abbrev main_v247 : Ref sig .tc := ⟨.hbm, 272, rfl⟩
abbrev main_v248 : Ref sig .tc := ⟨.hbm, 273, rfl⟩
abbrev main_cst_6 : Ref sig .tc := ⟨.hbm, 274, rfl⟩
abbrev main_v249 : Ref sig .tc := ⟨.hbm, 275, rfl⟩
abbrev main_v250 : Ref sig .tc := ⟨.hbm, 276, rfl⟩
abbrev main_cst_7 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_call1_cst : Ref sig .tc := ⟨.hbm, 287, rfl⟩
abbrev main_call1_v0 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩

abbrev nD : Nat := 1
abbrev τ : Topo := Topo.v7x

variable {F : FTy → Type} [FloatOps F]
-- ==== Mix.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x2048 : Shape := ⟨2, ![1024, 2048]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512x4096 : Shape := ⟨2, ![512, 4096]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x768 : Shape := ⟨2, ![512, 768]⟩

abbrev nBuf : Space → Nat
  | .hbm => 20
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x2048, .f32⟩
  | .hbm, ⟨9, _⟩ => ⟨S32768x1024, .f32⟩
  | .hbm, ⟨10, _⟩ => ⟨S32768x512, .f32⟩
  | .hbm, ⟨11, _⟩ => ⟨S32768x512, .f32⟩
  | .hbm, ⟨12, _⟩ => ⟨S1024x1024, .bf16⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S1024x2048, .bf16⟩
  | .hbm, ⟨18, _⟩ => ⟨S32768x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x2048, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x4096, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x2048 : Shape := ⟨2, ![1024, 2048]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S2x16384x2048 : Shape := ⟨3, ![2, 16384, 2048]⟩
abbrev S32768x1024 : Shape := ⟨2, ![32768, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x2048, .f32⟩
  | .hbm, ⟨9, _⟩ => ⟨S2x16384x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S2x16384x4096, .f32⟩
  | .hbm, ⟨29, _⟩ => ⟨S_, .f32⟩
  | .hbm, ⟨30, _⟩ => ⟨S2x16384x4096, .f32⟩
  | .hbm, ⟨31, _⟩ => ⟨S2x16384x4096, .f32⟩
  | .hbm, ⟨32, _⟩ => ⟨S2x16384x4096, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x1024, .f32⟩
  | .hbm, ⟨47, _⟩ => ⟨S2x16384x1024, .f32⟩
  | .hbm, ⟨48, _⟩ => ⟨S1x1x1024, .f32⟩
  | .hbm, ⟨49, _⟩ => ⟨S2x16384x1024, .f32⟩
  | .hbm, ⟨50, _⟩ => ⟨S2x16384x1024, .f32⟩
  | .hbm, ⟨51, _⟩ => ⟨S2x16384x2048, .f32⟩
  | .hbm, ⟨52, _⟩ => ⟨S2x16384x1024, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | .hbm, ⟨56, _⟩ => ⟨S_, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S32768x1024, .f32⟩
  | .hbm, ⟨64, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Fox.lean ====
abbrev S2x16384x4x128 : Shape := ⟨4, ![2, 16384, 4, 128]⟩
abbrev S2x16384x4 : Shape := ⟨3, ![2, 16384, 4]⟩
abbrev S2x4x16384x128 : Shape := ⟨4, ![2, 4, 16384, 128]⟩
abbrev S_ : Shape := ⟨0, ![]⟩
abbrev S2x4x16384 : Shape := ⟨3, ![2, 4, 16384]⟩
abbrev S2x4x16384x1 : Shape := ⟨4, ![2, 4, 16384, 1]⟩
abbrev S2x4x16384x256 : Shape := ⟨4, ![2, 4, 16384, 256]⟩
abbrev S2x16x1024x4x128 : Shape := ⟨5, ![2, 16, 1024, 4, 128]⟩
abbrev S2x4x16x128x1024 : Shape := ⟨5, ![2, 4, 16, 128, 1024]⟩
abbrev S2x4x16x1024x256 : Shape := ⟨5, ![2, 4, 16, 1024, 256]⟩
abbrev S2x16384x512 : Shape := ⟨3, ![2, 16384, 512]⟩
abbrev S1x1x1x1024x256 : Shape := ⟨5, ![1, 1, 1, 1024, 256]⟩
abbrev S1x1x16x1024x256 : Shape := ⟨5, ![1, 1, 16, 1024, 256]⟩
abbrev S1x1x16x128x1024 : Shape := ⟨5, ![1, 1, 16, 128, 1024]⟩
abbrev S1x1024x128 : Shape := ⟨3, ![1, 1024, 128]⟩
abbrev S4x1024x256 : Shape := ⟨3, ![4, 1024, 256]⟩
abbrev S4x1x256 : Shape := ⟨3, ![4, 1, 256]⟩
abbrev S4x128x256 : Shape := ⟨3, ![4, 128, 256]⟩
abbrev S1024x256 : Shape := ⟨2, ![1024, 256]⟩
abbrev S1x1x1x256x256 : Shape := ⟨5, ![1, 1, 1, 256, 256]⟩
abbrev S256x256 : Shape := ⟨2, ![256, 256]⟩
abbrev S1x1024x256 : Shape := ⟨3, ![1, 1024, 256]⟩
abbrev S256 : Shape := ⟨1, ![256]⟩
abbrev S1x256 : Shape := ⟨2, ![1, 256]⟩
abbrev S1x1x256 : Shape := ⟨3, ![1, 1, 256]⟩
abbrev S1x128x256 : Shape := ⟨3, ![1, 128, 256]⟩
abbrev S128x256 : Shape := ⟨2, ![128, 256]⟩
abbrev S1x1x1x128x1024 : Shape := ⟨5, ![1, 1, 1, 128, 1024]⟩
abbrev S128x1024 : Shape := ⟨2, ![128, 1024]⟩
abbrev S1x256x256 : Shape := ⟨3, ![1, 256, 256]⟩
abbrev S1x1x1x128x256 : Shape := ⟨5, ![1, 1, 1, 128, 256]⟩
abbrev S1x512x256 : Shape := ⟨3, ![1, 512, 256]⟩
abbrev S512x256 : Shape := ⟨2, ![512, 256]⟩
abbrev S1x1x1x128x512 : Shape := ⟨5, ![1, 1, 1, 128, 512]⟩
abbrev S128x512 : Shape := ⟨2, ![128, 512]⟩
abbrev S1x768x256 : Shape := ⟨3, ![1, 768, 256]⟩
abbrev S768x256 : Shape := ⟨2, ![768, 256]⟩
abbrev S1x1x1x128x768 : Shape := ⟨5, ![1, 1, 1, 128, 768]⟩
abbrev S128x768 : Shape := ⟨2, ![128, 768]⟩
abbrev S256x128 : Shape := ⟨2, ![256, 128]⟩
abbrev S1x256x128 : Shape := ⟨3, ![1, 256, 128]⟩

abbrev nBuf : Space → Nat
  | .hbm => 88
  | .vmem => 15
  | .smem => 0
  | _ => 0

abbrev bufTy : (tb : Table) → Fin (tcTables nBuf tb) → BufTy
  | .hbm, ⟨0, _⟩ => ⟨S2x16384x4x128, .f32⟩
  | .hbm, ⟨1, _⟩ => ⟨S2x16384x4x128, .f32⟩
  | .hbm, ⟨2, _⟩ => ⟨S2x16384x4x128, .f32⟩
  | .hbm, ⟨3, _⟩ => ⟨S2x16384x4, .f32⟩
  | .hbm, ⟨4, _⟩ => ⟨S2x4x16384x128, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x4x16384, .f32⟩
  | .hbm, ⟨10, _⟩ => ⟨S2x4x16384, .f32⟩
  | .hbm, ⟨11, _⟩ => ⟨S2x4x16384, .f32⟩
  | .hbm, ⟨12, _⟩ => ⟨S2x4x16384x1, .f32⟩
  | .hbm, ⟨13, _⟩ => ⟨S2x4x16384x128, .f32⟩
  | .hbm, ⟨14, _⟩ => ⟨S2x4x16384x128, .bf16⟩
  | .hbm, ⟨15, _⟩ => ⟨S2x4x16384x128, .f32⟩
  | .hbm, ⟨16, _⟩ => ⟨S2x4x16384x128, .f32⟩
  | .hbm, ⟨17, _⟩ => ⟨S2x4x16384x128, .bf16⟩
  | .hbm, ⟨18, _⟩ => ⟨S2x4x16384x128, .f32⟩
  | .hbm, ⟨19, _⟩ => ⟨S2x4x16384x128, .f32⟩
  | .hbm, ⟨20, _⟩ => ⟨S2x4x16384x128, .bf16⟩
  | .hbm, ⟨21, _⟩ => ⟨S2x4x16384x128, .f32⟩
  | .hbm, ⟨22, _⟩ => ⟨S2x4x16384x128, .f32⟩
  | .hbm, ⟨23, _⟩ => ⟨S2x4x16384x128, .f32⟩
  | .hbm, ⟨24, _⟩ => ⟨S_, .i32⟩
  | .hbm, ⟨25, _⟩ => ⟨S2x4x16384x128, .i32⟩
  | .hbm, ⟨26, _⟩ => ⟨S2x4x16384x128, .i1⟩
  | .hbm, ⟨27, _⟩ => ⟨S_, .i32⟩
  | .hbm, ⟨28, _⟩ => ⟨S2x4x16384x128, .i32⟩
  | .hbm, ⟨29, _⟩ => ⟨S2x4x16384x128, .i1⟩
  | .hbm, ⟨30, _⟩ => ⟨S_, .i32⟩
  | .hbm, ⟨31, _⟩ => ⟨S2x4x16384x128, .i32⟩
  | .hbm, ⟨32, _⟩ => ⟨S2x4x16384x128, .i1⟩
  | .hbm, ⟨33, _⟩ => ⟨S_, .i32⟩
  | .hbm, ⟨34, _⟩ => ⟨S2x4x16384x128, .i32⟩
  | .hbm, ⟨35, _⟩ => ⟨S2x4x16384x128, .i1⟩
  | .hbm, ⟨36, _⟩ => ⟨S_, .f32⟩
  | .hbm, ⟨37, _⟩ => ⟨S_, .f32⟩
  | .hbm, ⟨38, _⟩ => ⟨S2x4x16384x128, .f32⟩
  | .hbm, ⟨39, _⟩ => ⟨S2x4x16384x128, .f32⟩
  | .hbm, ⟨40, _⟩ => ⟨S2x4x16384x128, .f32⟩
  | .hbm, ⟨41, _⟩ => ⟨S2x4x16384x128, .f32⟩
  | .hbm, ⟨42, _⟩ => ⟨S2x4x16384x128, .f32⟩
  | .hbm, ⟨43, _⟩ => ⟨S2x4x16384x128, .f32⟩
  | .hbm, ⟨44, _⟩ => ⟨S2x4x16384x128, .f32⟩
  | .hbm, ⟨45, _⟩ => ⟨S2x4x16384x128, .bf16⟩
  | .hbm, ⟨46, _⟩ => ⟨S_, .i32⟩
  | .hbm, ⟨47, _⟩ => ⟨S2x4x16384x128, .i32⟩
  | .hbm, ⟨48, _⟩ => ⟨S2x4x16384x128, .i1⟩
  | .hbm, ⟨49, _⟩ => ⟨S_, .i32⟩
  | .hbm, ⟨50, _⟩ => ⟨S2x4x16384x128, .i32⟩
  | .hbm, ⟨51, _⟩ => ⟨S2x4x16384x128, .i1⟩
  | .hbm, ⟨52, _⟩ => ⟨S2x4x16384x128, .f32⟩
  | .hbm, ⟨53, _⟩ => ⟨S_, .i32⟩
  | .hbm, ⟨54, _⟩ => ⟨S2x4x16384x128, .i32⟩
  | .hbm, ⟨55, _⟩ => ⟨S2x4x16384x128, .i1⟩
  | .hbm, ⟨56, _⟩ => ⟨S2x4x16384x128, .f32⟩
  | .hbm, ⟨57, _⟩ => ⟨S_, .i32⟩
  | .hbm, ⟨58, _⟩ => ⟨S2x4x16384x128, .i32⟩
  | .hbm, ⟨59, _⟩ => ⟨S2x4x16384x128, .i1⟩
  | .hbm, ⟨60, _⟩ => ⟨S2x4x16384x128, .f32⟩
  | .hbm, ⟨61, _⟩ => ⟨S_, .f32⟩
  | .hbm, ⟨62, _⟩ => ⟨S_, .f32⟩
  | .hbm, ⟨63, _⟩ => ⟨S2x4x16384x128, .f32⟩
  | .hbm, ⟨64, _⟩ => ⟨S2x4x16384x128, .f32⟩
  | .hbm, ⟨65, _⟩ => ⟨S2x4x16384x128, .f32⟩
  | .hbm, ⟨66, _⟩ => ⟨S2x4x16384x128, .f32⟩
  | .hbm, ⟨67, _⟩ => ⟨S_, .f32⟩
  | .hbm, ⟨68, _⟩ => ⟨S_, .f32⟩
  | .hbm, ⟨69, _⟩ => ⟨S2x4x16384x128, .f32⟩
  | .hbm, ⟨70, _⟩ => ⟨S2x4x16384x128, .f32⟩
  | .hbm, ⟨71, _⟩ => ⟨S2x4x16384x128, .bf16⟩
  | .hbm, ⟨72, _⟩ => ⟨S2x4x16384x128, .f32⟩
  | .hbm, ⟨73, _⟩ => ⟨S_, .f32⟩
  | .hbm, ⟨74, _⟩ => ⟨S_, .f32⟩
  | .hbm, ⟨75, _⟩ => ⟨S2x4x16384x128, .f32⟩
  | .hbm, ⟨76, _⟩ => ⟨S2x4x16384x128, .f32⟩
  | .hbm, ⟨77, _⟩ => ⟨S2x4x16384x128, .bf16⟩
  | .hbm, ⟨78, _⟩ => ⟨S2x4x16384x128, .f32⟩
  | .hbm, ⟨79, _⟩ => ⟨S2x4x16384x128, .bf16⟩
  | .hbm, ⟨80, _⟩ => ⟨S2x4x16384x256, .bf16⟩
  | .hbm, ⟨81, _⟩ => ⟨S2x4x16384x256, .bf16⟩
  | .hbm, ⟨82, _⟩ => ⟨S2x16x1024x4x128, .f32⟩
  | .hbm, ⟨83, _⟩ => ⟨S2x4x16x128x1024, .f32⟩
  | .hbm, ⟨84, _⟩ => ⟨S2x4x16x128x1024, .bf16⟩
  | .hbm, ⟨85, _⟩ => ⟨S2x4x16x1024x256, .bf16⟩
  | .hbm, ⟨86, _⟩ => ⟨S2x4x16x1024x256, .bf16⟩
  | .hbm, ⟨87, _⟩ => ⟨S2x16384x512, .f32⟩
  | .local _ .vmem, ⟨0, _⟩ => ⟨S1x1x1x1024x256, .bf16⟩
  | .local _ .vmem, ⟨1, _⟩ => ⟨S1x1x1x1024x256, .bf16⟩
  | .local _ .vmem, ⟨2, _⟩ => ⟨S1x1x16x1024x256, .bf16⟩
  | .local _ .vmem, ⟨3, _⟩ => ⟨S1x1x16x1024x256, .bf16⟩
  | .local _ .vmem, ⟨4, _⟩ => ⟨S1x1x16x128x1024, .bf16⟩
  | .local _ .vmem, ⟨5, _⟩ => ⟨S1x1x16x128x1024, .bf16⟩
  | .local _ .vmem, ⟨6, _⟩ => ⟨S1x1024x128, .f32⟩
  | .local _ .vmem, ⟨7, _⟩ => ⟨S1x1024x128, .f32⟩
  | .local _ .vmem, ⟨8, _⟩ => ⟨S4x1024x256, .f32⟩
  | .local _ .vmem, ⟨9, _⟩ => ⟨S4x1024x256, .f32⟩
  | .local _ .vmem, ⟨10, _⟩ => ⟨S4x1x256, .f32⟩
  | .local _ .vmem, ⟨11, _⟩ => ⟨S4x1x256, .f32⟩
  | .local _ .vmem, ⟨12, _⟩ => ⟨S4x1x256, .f32⟩
  | .local _ .vmem, ⟨13, _⟩ => ⟨S4x1x256, .f32⟩
  | .local _ .vmem, ⟨14, _⟩ => ⟨S4x128x256, .f32⟩
  | _, _ => ⟨S2x16384x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_call4_v0 : Ref sig .tc := ⟨.hbm, 62, rfl⟩
abbrev main_call4_v1 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_call7_v0 : Ref sig .tc := ⟨.hbm, 68, rfl⟩
abbrev main_call7_v1 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_66 : BitVec 32 := 0#32
  let arg2 : BitVec 32 := BitVec.ofNat 32 (i 2).val
  let c0_i32 : BitVec 32 := 0#32
  let v59 : BitVec 1 := Scalar.cmpi .sgt arg2 c0_i32
  let v60 : BitVec 32 := Scalar.extui v59
  let c0_i32_61 : BitVec 32 := 0#32
  let v61 : BitVec 1 := Scalar.cmpi .slt arg2 c0_i32_61
  let v62 : BitVec 32 := Scalar.extui v61
  let v63 : BitVec 32 := Scalar.subi v60 v62
  let c2_i32 : BitVec 32 := 2#32
  let c0_i32_62 : BitVec 32 := 0#32
  let v64 : BitVec 1 := Scalar.cmpi .sgt c2_i32 c0_i32_62
  let v65 : BitVec 32 := Scalar.extui v64
  let c0_i32_63 : BitVec 32 := 0#32
  let v66 : BitVec 1 := Scalar.cmpi .slt c2_i32 c0_i32_63
  let v67 : BitVec 32 := Scalar.extui v66
  let v68 : BitVec 32 := Scalar.subi v65 v67
  let v69 : BitVec 1 := Scalar.cmpi .ne v63 v68
  let v70 : BitVec 32 := Scalar.remsi arg2 c2_i32
  let c0_i32_64 : BitVec 32 := 0#32
  let v71 : BitVec 1 := Scalar.cmpi .ne v70 c0_i32_64
  let v72 : BitVec 1 := Scalar.andi v69 v71
  let v58 : BitVec 32 := Scalar.divsi arg2 c2_i32
  let c1_i32 : BitVec 32 := 1#32
  let v73 : BitVec 32 := Scalar.subi v58 c1_i32
  let v74 : BitVec 32 := Scalar.select v72 v73 v58
  let v75 : BitVec 32 := Scalar.subi v74 c0_i32_66
  let c1_i32_67 : BitVec 32 := 1#32
  let v77 : BitVec 32 := Scalar.divsi v75 c1_i32_67
  let v78 : BitVec 32 := Scalar.muli v77 c1_i32_67
  let v79 : BitVec 32 := Scalar.addi c0_i32_66 v78
  let c1_i32_68 : BitVec 32 := 1#32
  ⟨c0_i32_66, v79, c1_i32_68⟩
def k0_off1 (i : grid0.Coords) (k0_t1 : Fin (k0_t1_loop i).trips) (c1_i32_123 : BitVec 32) : Fin 5 → Nat :=
  let c0_124 : Index := 0#32
  let c0_125 : Index := 0#32
  let c2_i32_122 : BitVec 32 := 2#32
  let c0_i32_66 : BitVec 32 := 0#32
  let c1_i32_68 : BitVec 32 := 1#32
  let arg14 : BitVec 32 := Scf.iv c0_i32_66 c1_i32_68 k0_t1
  let v146 : BitVec 32 := Scalar.muli c2_i32_122 arg14
  let v147 : BitVec 32 := Scalar.addi v146 c1_i32_123
  let v148 : Index := Scalar.indexCast v147
  let c0_126 : Index := 0#32
  let c0_127 : Index := 0#32
  ![0, 0, v148.toNat, 0, 0]
def k0_off2 (i : grid0.Coords) (k0_t1 : Fin (k0_t1_loop i).trips) : Fin 5 → Nat :=
  let c0_199 : Index := 0#32
  let c0_200 : Index := 0#32
  let c2_i32_122 : BitVec 32 := 2#32
  let c0_i32_66 : BitVec 32 := 0#32
  let c1_i32_68 : BitVec 32 := 1#32
  let arg14 : BitVec 32 := Scf.iv c0_i32_66 c1_i32_68 k0_t1
  let v146 : BitVec 32 := Scalar.muli c2_i32_122 arg14
  let v220 : Index := Scalar.indexCast v146
  let c0_201 : Index := 0#32
  let c0_202 : Index := 0#32
  ![0, 0, v220.toNat, 0, 0]
def k0_off3 (i : grid0.Coords) (k0_t1 : Fin (k0_t1_loop i).trips) : Fin 5 → Nat :=
  let c0_377 : Index := 0#32
  let c0_378 : Index := 0#32
  let c2_i32_122 : BitVec 32 := 2#32
  let c0_i32_66 : BitVec 32 := 0#32
  let c1_i32_68 : BitVec 32 := 1#32
  let arg14 : BitVec 32 := Scf.iv c0_i32_66 c1_i32_68 k0_t1
  let v146 : BitVec 32 := Scalar.muli c2_i32_122 arg14
  let c1_i32_357 : BitVec 32 := 1#32
  let v391 : BitVec 32 := Scalar.addi v146 c1_i32_357
  let v417 : Index := Scalar.indexCast v391
  let c0_379 : Index := 0#32
  let c0_380 : Index := 0#32
  ![0, 0, v417.toNat, 0, 0]
@[reducible] def k0_t2_loop (i : grid0.Coords) : Scf.Loop 32 :=
  let c0_i32_66 : BitVec 32 := 0#32
  let arg2 : BitVec 32 := BitVec.ofNat 32 (i 2).val
  let c0_i32 : BitVec 32 := 0#32
  let v59 : BitVec 1 := Scalar.cmpi .sgt arg2 c0_i32
  let v60 : BitVec 32 := Scalar.extui v59
  let c0_i32_61 : BitVec 32 := 0#32
  let v61 : BitVec 1 := Scalar.cmpi .slt arg2 c0_i32_61
  let v62 : BitVec 32 := Scalar.extui v61
  let v63 : BitVec 32 := Scalar.subi v60 v62
  let c2_i32 : BitVec 32 := 2#32
  let c0_i32_62 : BitVec 32 := 0#32
  let v64 : BitVec 1 := Scalar.cmpi .sgt c2_i32 c0_i32_62
  let v65 : BitVec 32 := Scalar.extui v64
  let c0_i32_63 : BitVec 32 := 0#32
  let v66 : BitVec 1 := Scalar.cmpi .slt c2_i32 c0_i32_63
  let v67 : BitVec 32 := Scalar.extui v66
  let v68 : BitVec 32 := Scalar.subi v65 v67
  let v69 : BitVec 1 := Scalar.cmpi .ne v63 v68
  let v70 : BitVec 32 := Scalar.remsi arg2 c2_i32
  let c0_i32_64 : BitVec 32 := 0#32
  let v71 : BitVec 1 := Scalar.cmpi .ne v70 c0_i32_64
  let v72 : BitVec 1 := Scalar.andi v69 v71
  let v58 : BitVec 32 := Scalar.divsi arg2 c2_i32
  let c1_i32 : BitVec 32 := 1#32
  let v73 : BitVec 32 := Scalar.subi v58 c1_i32
  let v74 : BitVec 32 := Scalar.select v72 v73 v58
  let v75 : BitVec 32 := Scalar.subi v74 c0_i32_66
  let c1_i32_67 : BitVec 32 := 1#32
  let v77 : BitVec 32 := Scalar.divsi v75 c1_i32_67
  let v78 : BitVec 32 := Scalar.muli v77 c1_i32_67
  let v79 : BitVec 32 := Scalar.addi c0_i32_66 v78
  let v76 : BitVec 32 := Scalar.addi c0_i32_66 v75
  let c1_i32_69 : BitVec 32 := 1#32
  ⟨v79, v76, c1_i32_69⟩
def k0_off4 (i : grid0.Coords) (k0_t2 : Fin (k0_t2_loop i).trips) (c1_i32_123 : BitVec 32) : Fin 5 → Nat :=
  let c0_124 : Index := 0#32
  let c0_125 : Index := 0#32
  let c2_i32_122 : BitVec 32 := 2#32
  let c0_i32_66 : BitVec 32 := 0#32
  let arg2 : BitVec 32 := BitVec.ofNat 32 (i 2).val
  let c0_i32 : BitVec 32 := 0#32
  let v59 : BitVec 1 := Scalar.cmpi .sgt arg2 c0_i32
  let v60 : BitVec 32 := Scalar.extui v59
  let c0_i32_61 : BitVec 32 := 0#32
  let v61 : BitVec 1 := Scalar.cmpi .slt arg2 c0_i32_61
  let v62 : BitVec 32 := Scalar.extui v61
  let v63 : BitVec 32 := Scalar.subi v60 v62
  let c2_i32 : BitVec 32 := 2#32
  let c0_i32_62 : BitVec 32 := 0#32
  let v64 : BitVec 1 := Scalar.cmpi .sgt c2_i32 c0_i32_62
  let v65 : BitVec 32 := Scalar.extui v64
  let c0_i32_63 : BitVec 32 := 0#32
  let v66 : BitVec 1 := Scalar.cmpi .slt c2_i32 c0_i32_63
  let v67 : BitVec 32 := Scalar.extui v66
  let v68 : BitVec 32 := Scalar.subi v65 v67
  let v69 : BitVec 1 := Scalar.cmpi .ne v63 v68
  let v70 : BitVec 32 := Scalar.remsi arg2 c2_i32
  let c0_i32_64 : BitVec 32 := 0#32
  let v71 : BitVec 1 := Scalar.cmpi .ne v70 c0_i32_64
  let v72 : BitVec 1 := Scalar.andi v69 v71
  let v58 : BitVec 32 := Scalar.divsi arg2 c2_i32
  let c1_i32 : BitVec 32 := 1#32
  let v73 : BitVec 32 := Scalar.subi v58 c1_i32
  let v74 : BitVec 32 := Scalar.select v72 v73 v58
  let v75 : BitVec 32 := Scalar.subi v74 c0_i32_66
  let c1_i32_67 : BitVec 32 := 1#32
  let v77 : BitVec 32 := Scalar.divsi v75 c1_i32_67
  let v78 : BitVec 32 := Scalar.muli v77 c1_i32_67
  let v79 : BitVec 32 := Scalar.addi c0_i32_66 v78
  let c1_i32_69 : BitVec 32 := 1#32
  let arg14 : BitVec 32 := Scf.iv v79 c1_i32_69 k0_t2
  let v146 : BitVec 32 := Scalar.muli c2_i32_122 arg14
  let v147 : BitVec 32 := Scalar.addi v146 c1_i32_123
  let v148 : Index := Scalar.indexCast v147
  let c0_126 : Index := 0#32
  let c0_127 : Index := 0#32
  ![0, 0, v148.toNat, 0, 0]
def k0_off5 (i : grid0.Coords) (k0_t2 : Fin (k0_t2_loop i).trips) : Fin 5 → Nat :=
  let c0_199 : Index := 0#32
  let c0_200 : Index := 0#32
  let c2_i32_122 : BitVec 32 := 2#32
  let c0_i32_66 : BitVec 32 := 0#32
  let arg2 : BitVec 32 := BitVec.ofNat 32 (i 2).val
  let c0_i32 : BitVec 32 := 0#32
  let v59 : BitVec 1 := Scalar.cmpi .sgt arg2 c0_i32
  let v60 : BitVec 32 := Scalar.extui v59
  let c0_i32_61 : BitVec 32 := 0#32
  let v61 : BitVec 1 := Scalar.cmpi .slt arg2 c0_i32_61
  let v62 : BitVec 32 := Scalar.extui v61
  let v63 : BitVec 32 := Scalar.subi v60 v62
  let c2_i32 : BitVec 32 := 2#32
  let c0_i32_62 : BitVec 32 := 0#32
  let v64 : BitVec 1 := Scalar.cmpi .sgt c2_i32 c0_i32_62
  let v65 : BitVec 32 := Scalar.extui v64
  let c0_i32_63 : BitVec 32 := 0#32
  let v66 : BitVec 1 := Scalar.cmpi .slt c2_i32 c0_i32_63
  let v67 : BitVec 32 := Scalar.extui v66
  let v68 : BitVec 32 := Scalar.subi v65 v67
  let v69 : BitVec 1 := Scalar.cmpi .ne v63 v68
  let v70 : BitVec 32 := Scalar.remsi arg2 c2_i32
  let c0_i32_64 : BitVec 32 := 0#32
  let v71 : BitVec 1 := Scalar.cmpi .ne v70 c0_i32_64
  let v72 : BitVec 1 := Scalar.andi v69 v71
  let v58 : BitVec 32 := Scalar.divsi arg2 c2_i32
  let c1_i32 : BitVec 32 := 1#32
  let v73 : BitVec 32 := Scalar.subi v58 c1_i32
  let v74 : BitVec 32 := Scalar.select v72 v73 v58
  let v75 : BitVec 32 := Scalar.subi v74 c0_i32_66
  let c1_i32_67 : BitVec 32 := 1#32
  let v77 : BitVec 32 := Scalar.divsi v75 c1_i32_67
  let v78 : BitVec 32 := Scalar.muli v77 c1_i32_67
  let v79 : BitVec 32 := Scalar.addi c0_i32_66 v78
  let c1_i32_69 : BitVec 32 := 1#32
  let arg14 : BitVec 32 := Scf.iv v79 c1_i32_69 k0_t2
  let v146 : BitVec 32 := Scalar.muli c2_i32_122 arg14
  let v220 : Index := Scalar.indexCast v146
  let c0_201 : Index := 0#32
  let c0_202 : Index := 0#32
  ![0, 0, v220.toNat, 0, 0]
def k0_off6 (i : grid0.Coords) (k0_t2 : Fin (k0_t2_loop i).trips) : Fin 5 → Nat :=
  let c0_377 : Index := 0#32
  let c0_378 : Index := 0#32
  let c2_i32_122 : BitVec 32 := 2#32
  let c0_i32_66 : BitVec 32 := 0#32
  let arg2 : BitVec 32 := BitVec.ofNat 32 (i 2).val
  let c0_i32 : BitVec 32 := 0#32
  let v59 : BitVec 1 := Scalar.cmpi .sgt arg2 c0_i32
  let v60 : BitVec 32 := Scalar.extui v59
  let c0_i32_61 : BitVec 32 := 0#32
  let v61 : BitVec 1 := Scalar.cmpi .slt arg2 c0_i32_61
  let v62 : BitVec 32 := Scalar.extui v61
  let v63 : BitVec 32 := Scalar.subi v60 v62
  let c2_i32 : BitVec 32 := 2#32
  let c0_i32_62 : BitVec 32 := 0#32
  let v64 : BitVec 1 := Scalar.cmpi .sgt c2_i32 c0_i32_62
  let v65 : BitVec 32 := Scalar.extui v64
  let c0_i32_63 : BitVec 32 := 0#32
  let v66 : BitVec 1 := Scalar.cmpi .slt c2_i32 c0_i32_63
  let v67 : BitVec 32 := Scalar.extui v66
  let v68 : BitVec 32 := Scalar.subi v65 v67
  let v69 : BitVec 1 := Scalar.cmpi .ne v63 v68
  let v70 : BitVec 32 := Scalar.remsi arg2 c2_i32
  let c0_i32_64 : BitVec 32 := 0#32
  let v71 : BitVec 1 := Scalar.cmpi .ne v70 c0_i32_64
  let v72 : BitVec 1 := Scalar.andi v69 v71
  let v58 : BitVec 32 := Scalar.divsi arg2 c2_i32
  let c1_i32 : BitVec 32 := 1#32
  let v73 : BitVec 32 := Scalar.subi v58 c1_i32
  let v74 : BitVec 32 := Scalar.select v72 v73 v58
  let v75 : BitVec 32 := Scalar.subi v74 c0_i32_66
  let c1_i32_67 : BitVec 32 := 1#32
  let v77 : BitVec 32 := Scalar.divsi v75 c1_i32_67
  let v78 : BitVec 32 := Scalar.muli v77 c1_i32_67
  let v79 : BitVec 32 := Scalar.addi c0_i32_66 v78
  let c1_i32_69 : BitVec 32 := 1#32
  let arg14 : BitVec 32 := Scf.iv v79 c1_i32_69 k0_t2
  let v146 : BitVec 32 := Scalar.muli c2_i32_122 arg14
  let c1_i32_357 : BitVec 32 := 1#32
  let v391 : BitVec 32 := Scalar.addi v146 c1_i32_357
  let v417 : Index := Scalar.indexCast v391
  let c0_379 : Index := 0#32
  let c0_380 : Index := 0#32
  ![0, 0, v417.toNat, 0, 0]
def k0_cond1 (i : grid0.Coords) : BitVec 1 :=
  let arg2 : BitVec 32 := BitVec.ofNat 32 (i 2).val
  let c2_i32_70 : BitVec 32 := 2#32
  let c0_i32_71 : BitVec 32 := 0#32
  let v80 : BitVec 1 := Scalar.cmpi .eq c2_i32_70 c0_i32_71
  let c1_i32_72 : BitVec 32 := 1#32
  let v81 : BitVec 32 := Scalar.select v80 c1_i32_72 c2_i32_70
  let v82 : BitVec 32 := Scalar.remsi arg2 v81
  let c0_i32_74 : BitVec 32 := 0#32
  let v84 : BitVec 1 := Scalar.cmpi .slt v82 c0_i32_74
  let c0_i32_75 : BitVec 32 := 0#32
  let v85 : BitVec 1 := Scalar.cmpi .slt v81 c0_i32_75
  let v86 : BitVec 1 := Scalar.xori v84 v85
  let c0_i32_73 : BitVec 32 := 0#32
  let v83 : BitVec 1 := Scalar.cmpi .ne v82 c0_i32_73
  let v87 : BitVec 1 := Scalar.andi v86 v83
  let v88 : BitVec 32 := Scalar.addi v82 v81
  let v89 : BitVec 32 := Scalar.select v87 v88 v82
  let c0_i32_76 : BitVec 32 := 0#32
  let v90 : BitVec 1 := Scalar.cmpi .eq v89 c0_i32_76
  let v91 : BitVec 32 := Scalar.extui v90
  let c0_i32_77 : BitVec 32 := 0#32
  let v92 : BitVec 1 := Scalar.cmpi .ne v91 c0_i32_77
  v92

def k0_off7 (i : grid0.Coords) : Fin 5 → Nat :=
  let c0_141 : Index := 0#32
  let c0_142 : Index := 0#32
  let arg2 : BitVec 32 := BitVec.ofNat 32 (i 2).val
  let v178 : Index := Scalar.indexCast arg2
  let c0_143 : Index := 0#32
  let c0_144 : Index := 0#32
  ![0, 0, v178.toNat, 0, 0]
def k0_off8 (i : grid0.Coords) : Fin 5 → Nat :=
  let c0_170 : Index := 0#32
  let c0_171 : Index := 0#32
  let arg2 : BitVec 32 := BitVec.ofNat 32 (i 2).val
  let v222 : Index := Scalar.indexCast arg2
  let c0_172 : Index := 0#32
  let c0_173 : Index := 0#32
  ![0, 0, v222.toNat, 0, 0]
def k0_off9 (i : grid0.Coords) : Fin 5 → Nat :=
  let c0_199 : Index := 0#32
  let c0_200 : Index := 0#32
  let arg2 : BitVec 32 := BitVec.ofNat 32 (i 2).val
  let v266 : Index := Scalar.indexCast arg2
  let c0_201 : Index := 0#32
  let c0_202 : Index := 0#32
  ![0, 0, v266.toNat, 0, 0]
def k0_off10 (i : grid0.Coords) : Fin 5 → Nat :=
  let c0_228 : Index := 0#32
  let c0_229 : Index := 0#32
  let arg2 : BitVec 32 := BitVec.ofNat 32 (i 2).val
  let v310 : Index := Scalar.indexCast arg2
  let c0_230 : Index := 0#32
  let c0_231 : Index := 0#32
  ![0, 0, v310.toNat, 0, 0]
def k0_cond2 (i : grid0.Coords) : BitVec 1 :=
  let arg2 : BitVec 32 := BitVec.ofNat 32 (i 2).val
  let c2_i32_78 : BitVec 32 := 2#32
  let c0_i32_79 : BitVec 32 := 0#32
  let v93 : BitVec 1 := Scalar.cmpi .eq c2_i32_78 c0_i32_79
  let c1_i32_80 : BitVec 32 := 1#32
  let v94 : BitVec 32 := Scalar.select v93 c1_i32_80 c2_i32_78
  let v95 : BitVec 32 := Scalar.remsi arg2 v94
  let c0_i32_82 : BitVec 32 := 0#32
  let v97 : BitVec 1 := Scalar.cmpi .slt v95 c0_i32_82
  let c0_i32_83 : BitVec 32 := 0#32
  let v98 : BitVec 1 := Scalar.cmpi .slt v94 c0_i32_83
  let v99 : BitVec 1 := Scalar.xori v97 v98
  let c0_i32_81 : BitVec 32 := 0#32
  let v96 : BitVec 1 := Scalar.cmpi .ne v95 c0_i32_81
  let v100 : BitVec 1 := Scalar.andi v99 v96
  let v101 : BitVec 32 := Scalar.addi v95 v94
  let v102 : BitVec 32 := Scalar.select v100 v101 v95
  let c1_i32_84 : BitVec 32 := 1#32
  let v103 : BitVec 1 := Scalar.cmpi .eq v102 c1_i32_84
  let v104 : BitVec 32 := Scalar.extui v103
  let c0_i32_85 : BitVec 32 := 0#32
  let v105 : BitVec 1 := Scalar.cmpi .ne v104 c0_i32_85
  v105

def k0_off11 (i : grid0.Coords) : Fin 5 → Nat :=
  let c0_122 : Index := 0#32
  let c0_123 : Index := 0#32
  let arg2 : BitVec 32 := BitVec.ofNat 32 (i 2).val
  let v146 : Index := Scalar.indexCast arg2
  let c0_124 : Index := 0#32
  let c0_125 : Index := 0#32
  ![0, 0, v146.toNat, 0, 0]
def k0_off12 (i : grid0.Coords) : Fin 5 → Nat :=
  let c0_198 : Index := 0#32
  let c0_199 : Index := 0#32
  let arg2 : BitVec 32 := BitVec.ofNat 32 (i 2).val
  let c1_i32_178 : BitVec 32 := 1#32
  let v193 : BitVec 32 := Scalar.subi arg2 c1_i32_178
  let v219 : Index := Scalar.indexCast v193
  let c0_200 : Index := 0#32
  let c0_201 : Index := 0#32
  ![0, 0, v219.toNat, 0, 0]
def k0_off13 (i : grid0.Coords) : Fin 5 → Nat :=
  let c0_318 : Index := 0#32
  let c0_319 : Index := 0#32
  let arg2 : BitVec 32 := BitVec.ofNat 32 (i 2).val
  let v374 : Index := Scalar.indexCast arg2
  let c0_320 : Index := 0#32
  let c0_321 : Index := 0#32
  ![0, 0, v374.toNat, 0, 0]
def k0_off14 (i : grid0.Coords) : Fin 5 → Nat :=
  let c0_347 : Index := 0#32
  let c0_348 : Index := 0#32
  let arg2 : BitVec 32 := BitVec.ofNat 32 (i 2).val
  let v418 : Index := Scalar.indexCast arg2
  let c0_349 : Index := 0#32
  let c0_350 : Index := 0#32
  ![0, 0, v418.toNat, 0, 0]
def k0_off15 (i : grid0.Coords) : Fin 5 → Nat :=
  let c0_376 : Index := 0#32
  let c0_377 : Index := 0#32
  let arg2 : BitVec 32 := BitVec.ofNat 32 (i 2).val
  let v462 : Index := Scalar.indexCast arg2
  let c0_378 : Index := 0#32
  let c0_379 : Index := 0#32
  ![0, 0, v462.toNat, 0, 0]
def k0_off16 (i : grid0.Coords) : Fin 5 → Nat :=
  let c0_405 : Index := 0#32
  let c0_406 : Index := 0#32
  let arg2 : BitVec 32 := BitVec.ofNat 32 (i 2).val
  let v506 : Index := Scalar.indexCast arg2
  let c0_407 : Index := 0#32
  let c0_408 : Index := 0#32
  ![0, 0, v506.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FoxRefIdeal.lean ====
abbrev S2x16384x4x128 : Shape := ⟨4, ![2, 16384, 4, 128]⟩
abbrev S2x16384x4 : Shape := ⟨3, ![2, 16384, 4]⟩
abbrev S_ : Shape := ⟨0, ![]⟩
abbrev S2x4x16384x16384 : Shape := ⟨4, ![2, 4, 16384, 16384]⟩
abbrev S2x4x16384 : Shape := ⟨3, ![2, 4, 16384]⟩
abbrev S2x4x16384x1 : Shape := ⟨4, ![2, 4, 16384, 1]⟩
abbrev S2x4x1x16384 : Shape := ⟨4, ![2, 4, 1, 16384]⟩
abbrev S2x4x16384x128 : Shape := ⟨4, ![2, 4, 16384, 128]⟩
abbrev S2x16384x512 : Shape := ⟨3, ![2, 16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x4x128, .f32⟩
  | .hbm, ⟨1, _⟩ => ⟨S2x16384x4x128, .f32⟩
  | .hbm, ⟨2, _⟩ => ⟨S2x16384x4x128, .f32⟩
  | .hbm, ⟨3, _⟩ => ⟨S2x16384x4, .f32⟩
  | .hbm, ⟨4, _⟩ => ⟨S_, .f32⟩
  | .hbm, ⟨5, _⟩ => ⟨S2x16384x4x128, .f32⟩
  | .hbm, ⟨6, _⟩ => ⟨S2x16384x4x128, .f32⟩
  | .hbm, ⟨7, _⟩ => ⟨S2x4x16384x16384, .f32⟩
  | .hbm, ⟨8, _⟩ => ⟨S2x4x16384, .f32⟩
  | .hbm, ⟨9, _⟩ => ⟨S2x4x16384x1, .f32⟩
  | .hbm, ⟨10, _⟩ => ⟨S2x4x16384x16384, .f32⟩
  | .hbm, ⟨11, _⟩ => ⟨S2x4x16384x16384, .f32⟩
  | .hbm, ⟨12, _⟩ => ⟨S2x4x1x16384, .f32⟩
  | .hbm, ⟨13, _⟩ => ⟨S2x4x16384x16384, .f32⟩
  | .hbm, ⟨14, _⟩ => ⟨S2x4x16384x16384, .f32⟩
  | .hbm, ⟨15, _⟩ => ⟨S2x4x16384x16384, .i32⟩
  | .hbm, ⟨16, _⟩ => ⟨S2x4x16384x16384, .i32⟩
  | .hbm, ⟨17, _⟩ => ⟨S2x4x16384x16384, .i1⟩
  | .hbm, ⟨18, _⟩ => ⟨S_, .f32⟩
  | .hbm, ⟨19, _⟩ => ⟨S_, .f32⟩
  | .hbm, ⟨20, _⟩ => ⟨S2x4x16384x16384, .f32⟩
  | .hbm, ⟨21, _⟩ => ⟨S2x4x16384x16384, .f32⟩
  | .hbm, ⟨22, _⟩ => ⟨S_, .f32⟩
  | .hbm, ⟨23, _⟩ => ⟨S2x4x16384, .f32⟩
  | .hbm, ⟨24, _⟩ => ⟨S2x4x16384x1, .f32⟩
  | .hbm, ⟨25, _⟩ => ⟨S2x4x16384x16384, .f32⟩
  | .hbm, ⟨26, _⟩ => ⟨S2x4x16384x16384, .f32⟩
  | .hbm, ⟨27, _⟩ => ⟨S2x4x16384x16384, .f32⟩
  | .hbm, ⟨28, _⟩ => ⟨S_, .f32⟩
  | .hbm, ⟨29, _⟩ => ⟨S2x4x16384, .f32⟩
  | .hbm, ⟨30, _⟩ => ⟨S2x4x16384x128, .f32⟩
  | .hbm, ⟨31, _⟩ => ⟨S2x4x16384x1, .f32⟩
  | .hbm, ⟨32, _⟩ => ⟨S2x4x16384x128, .f32⟩
  | .hbm, ⟨33, _⟩ => ⟨S2x4x16384x128, .f32⟩
  | .hbm, ⟨34, _⟩ => ⟨S2x16384x4x128, .f32⟩
  | .hbm, ⟨35, _⟩ => ⟨S2x16384x512, .f32⟩
  | _, _ => ⟨S2x16384x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Rows.lean ====
/- The row functions that the layer's dense parts are made of, over the extended reals: a row normalised by its root
   mean square, the squared-relu MLP with its residual, the output projection of the two mixers with its residual, and
   the gated linear unit. Each is a function of one row of its operands; kernel and reference are both read as these. -/
module

public import Idealize.ShloMosaic.Lib.Pointwise

@[expose] public section

set_option maxRecDepth 16384

noncomputable section

namespace Cert.Rows

open Idealize.ShloMosaic

/-- A row divided by its root mean square (with the literal offset under the root) and scaled by a gain. -/
def rms (v g : Fin 1024 → EReal) (j : Fin 1024) : EReal :=
  v j * Ideal.rsqrt (Ideal.div (∑ k, v k * v k) (Ideal.ofBits .f32 0x44800000#32) + Ideal.ofBits .f32 0x358637BD#32) * g j

/-- One hidden unit: the normalised row times one column of the up projection, its positive part squared. -/
def hid (v g : Fin 1024 → EReal) (wu : Fin 1024 → Fin 4096 → EReal) (f : Fin 4096) : EReal :=
  max (∑ k, rms v g k * wu k f) 0 * max (∑ k, rms v g k * wu k f) 0

/-- The MLP with its residual. -/
def mlp (v g : Fin 1024 → EReal) (wu : Fin 1024 → Fin 4096 → EReal) (wd : Fin 4096 → Fin 1024 → EReal) (j : Fin 1024) : EReal :=
  v j + ∑ f, hid v g wu f * wd f j

/-- The residual plus the two mixers' rows through the two halves of the output projection. -/
def proj (x : Fin 1024 → EReal) (oa ob : Fin 512 → EReal) (wo : Fin 1024 → Fin 1024 → EReal) (j : Fin 1024) : EReal :=
  x j + ((∑ k : Fin 512, oa k * wo ⟨k.val, by omega⟩ j) + ∑ k : Fin 512, ob k * wo ⟨512 + k.val, by omega⟩ j)

/-- The logistic function as it is computed: one over one plus the exponential of the negated argument. -/
def logi (b : EReal) : EReal := Ideal.div 1 (1 + Ideal.exp (-b))

/-- The gated linear unit of the normalised row. -/
def glu (v g : Fin 1024 → EReal) (wg : Fin 1024 → Fin 2048 → EReal) (j : Fin 1024) : EReal :=
  (∑ k, rms v g k * wg k ⟨j.val, by omega⟩) * logi (∑ k, rms v g k * wg k ⟨1024 + j.val, by omega⟩)

end Cert.Rows

end
-- ==== Proof.ConvRows.lean ====
/- The Conformer convolution module, a token's row at a time. -/
module

public import proofs.«01_k».proof.Proof.Rows

@[expose] public section

set_option maxRecDepth 16384

noncomputable section

namespace Cert.Rows

open Idealize.ShloMosaic

/-- The sum of the 31 taps, from the oldest row on. -/
def taps (t : Fin 31 → EReal) : EReal :=
  t 0 + t 1 + t 2 + t 3 + t 4 + t 5 + t 6 + t 7 + t 8 + t 9 + t 10 + t 11 + t 12 + t 13 + t 14 + t 15 + t 16 + t 17 + t 18 + t 19 + t 20 + t 21 + t 22 + t 23 + t 24 + t 25 + t 26 + t 27 + t 28 + t 29 + t 30

/-- The same sum with the taps in the order of the shifts modulo eight. -/
theorem taps_shifted (t : Fin 31 → EReal) :
    t 6 + t 14 + t 22 + t 30 + t 7 + t 15 + t 23 + t 0 + t 8 + t 16 + t 24 + t 1 + t 9 + t 17 + t 25 + t 2 + t 10 + t 18 + t 26 + t 3 + t 11 + t 19 + t 27 + t 4 + t 12 + t 20 + t 28 + t 5 + t 13 + t 21 + t 29 = taps t := by
  unfold taps
  ac_rfl

/-- A column of the gated rows with 30 rows of zeros before it, at any row. -/
def padded (x : Fin 16384 → EReal) (n : ℕ) : EReal :=
  if h : 30 ≤ n ∧ n - 30 < 16384 then x ⟨n - 30, h.2⟩ else 0

/-- The causal depthwise convolution of a column at row `n`. -/
def dconv (x : Fin 16384 → EReal) (w : Fin 31 → EReal) (n : ℕ) : EReal :=
  taps fun j => padded x (j.val + n) * w j

/-- A row less its mean. -/
def centred (v : Fin 1024 → EReal) (j : Fin 1024) : EReal :=
  v j - Ideal.div (∑ k, v k) (Ideal.ofBits .f32 0x44800000#32)

/-- The layer norm of a row (with the literal offset under the root), a gain and a bias. -/
def lnorm (v g b : Fin 1024 → EReal) (j : Fin 1024) : EReal :=
  centred v j * Ideal.rsqrt (Ideal.div (∑ k, centred v k * centred v k) (Ideal.ofBits .f32 0x44800000#32) + Ideal.ofBits .f32 0x358637BD#32) * g j + b j

/-- The layer norm of a row through the swish. -/
def swish (v g b : Fin 1024 → EReal) (j : Fin 1024) : EReal :=
  lnorm v g b j * logi (lnorm v g b j)

/-- The residual plus the activated row through the pointwise projection. -/
def pw (x a : Fin 1024 → EReal) (w : Fin 1024 → Fin 1024 → EReal) (j : Fin 1024) : EReal :=
  x j + ∑ k, a k * w k j

end Cert.Rows

end
-- ==== Proof.ConvStrip.lean ====
/- The eight column strips of the depthwise convolution: each stored strip, row by row. -/
module

public import proofs.«01_k».proof.Proof.ConvRows
public import proofs.«01_k».proof.Proof.Gen.ConvIdeal.Skeleton
public import Idealize.ShloMosaic.Lib.Pointwise

@[expose] public section

set_option maxRecDepth 16384

noncomputable section

namespace Cert.ConvIdeal.Value

open Cert.ConvIdeal Cert.ConvIdeal.Gen Idealize.ShloMosaic Cert.Rows

/-! Each strip adds its 31 taps in the order of the shifts modulo eight; the rows it reads are named by `Y`, the taps'
    weights by `W`. -/

theorem strip0_row (X : Vec Ideal S1x544x128 .f32) (w0 w1 w2 w3 w4 w5 w6 w7 w8 w9 w10 w11 w12 w13 w14 w15 w16 w17 w18 w19 w20 w21 w22 w23 w24 w25 w26 w27 w28 w29 w30 : Vec Ideal S1x128 .f32)
    (r : Fin 512) (f : Fin 128) (Y : ℕ → EReal) (W : Fin 31 → EReal) (hX : ∀ n : Fin 544, X (ix3 0 n f) = Y n.val)
    (h0 : w0 (ix2 0 f) = W 0) (h1 : w1 (ix2 0 f) = W 1) (h2 : w2 (ix2 0 f) = W 2) (h3 : w3 (ix2 0 f) = W 3) (h4 : w4 (ix2 0 f) = W 4) (h5 : w5 (ix2 0 f) = W 5) (h6 : w6 (ix2 0 f) = W 6) (h7 : w7 (ix2 0 f) = W 7) (h8 : w8 (ix2 0 f) = W 8) (h9 : w9 (ix2 0 f) = W 9) (h10 : w10 (ix2 0 f) = W 10) (h11 : w11 (ix2 0 f) = W 11) (h12 : w12 (ix2 0 f) = W 12) (h13 : w13 (ix2 0 f) = W 13) (h14 : w14 (ix2 0 f) = W 14) (h15 : w15 (ix2 0 f) = W 15) (h16 : w16 (ix2 0 f) = W 16) (h17 : w17 (ix2 0 f) = W 17) (h18 : w18 (ix2 0 f) = W 18) (h19 : w19 (ix2 0 f) = W 19) (h20 : w20 (ix2 0 f) = W 20) (h21 : w21 (ix2 0 f) = W 21) (h22 : w22 (ix2 0 f) = W 22) (h23 : w23 (ix2 0 f) = W 23) (h24 : w24 (ix2 0 f) = W 24) (h25 : w25 (ix2 0 f) = W 25) (h26 : w26 (ix2 0 f) = W 26) (h27 : w27 (ix2 0 f) = W 27) (h28 : w28 (ix2 0 f) = W 28) (h29 : w29 (ix2 0 f) = W 29) (h30 : w30 (ix2 0 f) = W 30) :
    k0_pay22 (F := Ideal)
      (k0_pay18 (k0_pay9 X)
        (k0_pay15 (k0_pay9 X) (k0_pay12 (k0_pay9 X) (k0_pay10 X w6 w14 w22) (k0_pay11 X) w30 w7 w15 w23 w0 w8 w16 w24)
          (k0_pay13 (k0_pay9 X)) (k0_pay14 (k0_pay9 X)) w1 w9 w17 w25 w2 w10 w18 w26)
        (k0_pay16 (k0_pay9 X)) (k0_pay17 (k0_pay9 X)) w3 w11 w19 w27 w4 w12 w20 w28)
      (k0_pay19 (k0_pay9 X)) (k0_pay20 (k0_pay9 X)) w5 w13 w21 w29 (ix2 r f) = taps fun i => Y (r.val + i.val + 2) * W i := by
  refine Eq.trans ?_ (taps_shifted _)
  pointwise [k0_pay9, k0_pay10, k0_pay11, k0_pay12, k0_pay13, k0_pay14, k0_pay15, k0_pay16, k0_pay17, k0_pay18, k0_pay19, k0_pay20, k0_pay21, k0_pay22, hX, h0, h1, h2, h3, h4, h5, h6, h7, h8, h9, h10, h11, h12, h13, h14, h15, h16, h17, h18, h19, h20, h21, h22, h23, h24, h25, h26, h27, h28, h29, h30]
  repeat' first | exact congrArg₂ (· * ·) (congrArg Y (by omega)) rfl | refine congrArg₂ (· + ·) ?_ ?_

theorem strip1_row (X : Vec Ideal S1x544x128 .f32) (w0 w1 w2 w3 w4 w5 w6 w7 w8 w9 w10 w11 w12 w13 w14 w15 w16 w17 w18 w19 w20 w21 w22 w23 w24 w25 w26 w27 w28 w29 w30 : Vec Ideal S1x128 .f32)
    (r : Fin 512) (f : Fin 128) (Y : ℕ → EReal) (W : Fin 31 → EReal) (hX : ∀ n : Fin 544, X (ix3 0 n f) = Y n.val)
    (h0 : w0 (ix2 0 f) = W 0) (h1 : w1 (ix2 0 f) = W 1) (h2 : w2 (ix2 0 f) = W 2) (h3 : w3 (ix2 0 f) = W 3) (h4 : w4 (ix2 0 f) = W 4) (h5 : w5 (ix2 0 f) = W 5) (h6 : w6 (ix2 0 f) = W 6) (h7 : w7 (ix2 0 f) = W 7) (h8 : w8 (ix2 0 f) = W 8) (h9 : w9 (ix2 0 f) = W 9) (h10 : w10 (ix2 0 f) = W 10) (h11 : w11 (ix2 0 f) = W 11) (h12 : w12 (ix2 0 f) = W 12) (h13 : w13 (ix2 0 f) = W 13) (h14 : w14 (ix2 0 f) = W 14) (h15 : w15 (ix2 0 f) = W 15) (h16 : w16 (ix2 0 f) = W 16) (h17 : w17 (ix2 0 f) = W 17) (h18 : w18 (ix2 0 f) = W 18) (h19 : w19 (ix2 0 f) = W 19) (h20 : w20 (ix2 0 f) = W 20) (h21 : w21 (ix2 0 f) = W 21) (h22 : w22 (ix2 0 f) = W 22) (h23 : w23 (ix2 0 f) = W 23) (h24 : w24 (ix2 0 f) = W 24) (h25 : w25 (ix2 0 f) = W 25) (h26 : w26 (ix2 0 f) = W 26) (h27 : w27 (ix2 0 f) = W 27) (h28 : w28 (ix2 0 f) = W 28) (h29 : w29 (ix2 0 f) = W 29) (h30 : w30 (ix2 0 f) = W 30) :
    k0_pay35 (F := Ideal) (k0_pay24 X) (k0_pay31 (k0_pay24 X))
      (k0_pay32 (k0_pay24 X) (k0_pay28 (k0_pay24 X))
        (k0_pay29 (k0_pay24 X) (k0_pay25 (k0_pay24 X)) (k0_pay26 (k0_pay24 X) w6 w14 w22 w30 w7 w15 w23 w0)
          (k0_pay27 (k0_pay24 X)) w8 w16 w24 w1 w9 w17 w25 w2)
        (k0_pay30 (k0_pay24 X)) w10 w18 w26 w3 w11 w19 w27 w4)
      (k0_pay33 (k0_pay24 X)) w12 w20 w28 w5 w13 w21 w29 (ix2 r f) = taps fun i => Y (r.val + i.val + 2) * W i := by
  refine Eq.trans ?_ (taps_shifted _)
  pointwise [k0_pay24, k0_pay25, k0_pay26, k0_pay27, k0_pay28, k0_pay29, k0_pay30, k0_pay31, k0_pay32, k0_pay33, k0_pay34, k0_pay35, k0_pay36, k0_pay37, hX, h0, h1, h2, h3, h4, h5, h6, h7, h8, h9, h10, h11, h12, h13, h14, h15, h16, h17, h18, h19, h20, h21, h22, h23, h24, h25, h26, h27, h28, h29, h30]
  repeat' first | exact congrArg₂ (· * ·) (congrArg Y (by omega)) rfl | refine congrArg₂ (· + ·) ?_ ?_

theorem strip2_row (X : Vec Ideal S1x544x128 .f32) (w0 w1 w2 w3 w4 w5 w6 w7 w8 w9 w10 w11 w12 w13 w14 w15 w16 w17 w18 w19 w20 w21 w22 w23 w24 w25 w26 w27 w28 w29 w30 : Vec Ideal S1x128 .f32)
    (r : Fin 512) (f : Fin 128) (Y : ℕ → EReal) (W : Fin 31 → EReal) (hX : ∀ n : Fin 544, X (ix3 0 n f) = Y n.val)
    (h0 : w0 (ix2 0 f) = W 0) (h1 : w1 (ix2 0 f) = W 1) (h2 : w2 (ix2 0 f) = W 2) (h3 : w3 (ix2 0 f) = W 3) (h4 : w4 (ix2 0 f) = W 4) (h5 : w5 (ix2 0 f) = W 5) (h6 : w6 (ix2 0 f) = W 6) (h7 : w7 (ix2 0 f) = W 7) (h8 : w8 (ix2 0 f) = W 8) (h9 : w9 (ix2 0 f) = W 9) (h10 : w10 (ix2 0 f) = W 10) (h11 : w11 (ix2 0 f) = W 11) (h12 : w12 (ix2 0 f) = W 12) (h13 : w13 (ix2 0 f) = W 13) (h14 : w14 (ix2 0 f) = W 14) (h15 : w15 (ix2 0 f) = W 15) (h16 : w16 (ix2 0 f) = W 16) (h17 : w17 (ix2 0 f) = W 17) (h18 : w18 (ix2 0 f) = W 18) (h19 : w19 (ix2 0 f) = W 19) (h20 : w20 (ix2 0 f) = W 20) (h21 : w21 (ix2 0 f) = W 21) (h22 : w22 (ix2 0 f) = W 22) (h23 : w23 (ix2 0 f) = W 23) (h24 : w24 (ix2 0 f) = W 24) (h25 : w25 (ix2 0 f) = W 25) (h26 : w26 (ix2 0 f) = W 26) (h27 : w27 (ix2 0 f) = W 27) (h28 : w28 (ix2 0 f) = W 28) (h29 : w29 (ix2 0 f) = W 29) (h30 : w30 (ix2 0 f) = W 30) :
    k0_pay53 (F := Ideal) (k0_pay49 (k0_pay39 X))
      (k0_pay50 (k0_pay39 X) (k0_pay46 (k0_pay39 X))
        (k0_pay47 (k0_pay39 X) (k0_pay43 (k0_pay39 X))
          (k0_pay44 (k0_pay39 X) (k0_pay40 X) (k0_pay41 X w6 w14 w22 w30 w7) (k0_pay42 X) w15 w23 w0 w8 w16 w24 w1 w9)
          (k0_pay45 (k0_pay39 X)) w17 w25 w2 w10 w18 w26 w3 w11)
        (k0_pay48 (k0_pay39 X)) w19 w27 w4 w12 w20 w28 w5 w13)
      (k0_pay51 (k0_pay39 X)) w21 w29 (ix2 r f) = taps fun i => Y (r.val + i.val + 2) * W i := by
  refine Eq.trans ?_ (taps_shifted _)
  pointwise [k0_pay39, k0_pay40, k0_pay41, k0_pay42, k0_pay43, k0_pay44, k0_pay45, k0_pay46, k0_pay47, k0_pay48, k0_pay49, k0_pay50, k0_pay51, k0_pay52, k0_pay53, hX, h0, h1, h2, h3, h4, h5, h6, h7, h8, h9, h10, h11, h12, h13, h14, h15, h16, h17, h18, h19, h20, h21, h22, h23, h24, h25, h26, h27, h28, h29, h30]
  repeat' first | exact congrArg₂ (· * ·) (congrArg Y (by omega)) rfl | refine congrArg₂ (· + ·) ?_ ?_

theorem strip3_row (X : Vec Ideal S1x544x128 .f32) (w0 w1 w2 w3 w4 w5 w6 w7 w8 w9 w10 w11 w12 w13 w14 w15 w16 w17 w18 w19 w20 w21 w22 w23 w24 w25 w26 w27 w28 w29 w30 : Vec Ideal S1x128 .f32)
    (r : Fin 512) (f : Fin 128) (Y : ℕ → EReal) (W : Fin 31 → EReal) (hX : ∀ n : Fin 544, X (ix3 0 n f) = Y n.val)
    (h0 : w0 (ix2 0 f) = W 0) (h1 : w1 (ix2 0 f) = W 1) (h2 : w2 (ix2 0 f) = W 2) (h3 : w3 (ix2 0 f) = W 3) (h4 : w4 (ix2 0 f) = W 4) (h5 : w5 (ix2 0 f) = W 5) (h6 : w6 (ix2 0 f) = W 6) (h7 : w7 (ix2 0 f) = W 7) (h8 : w8 (ix2 0 f) = W 8) (h9 : w9 (ix2 0 f) = W 9) (h10 : w10 (ix2 0 f) = W 10) (h11 : w11 (ix2 0 f) = W 11) (h12 : w12 (ix2 0 f) = W 12) (h13 : w13 (ix2 0 f) = W 13) (h14 : w14 (ix2 0 f) = W 14) (h15 : w15 (ix2 0 f) = W 15) (h16 : w16 (ix2 0 f) = W 16) (h17 : w17 (ix2 0 f) = W 17) (h18 : w18 (ix2 0 f) = W 18) (h19 : w19 (ix2 0 f) = W 19) (h20 : w20 (ix2 0 f) = W 20) (h21 : w21 (ix2 0 f) = W 21) (h22 : w22 (ix2 0 f) = W 22) (h23 : w23 (ix2 0 f) = W 23) (h24 : w24 (ix2 0 f) = W 24) (h25 : w25 (ix2 0 f) = W 25) (h26 : w26 (ix2 0 f) = W 26) (h27 : w27 (ix2 0 f) = W 27) (h28 : w28 (ix2 0 f) = W 28) (h29 : w29 (ix2 0 f) = W 29) (h30 : w30 (ix2 0 f) = W 30) :
    k0_pay68 (F := Ideal) (k0_pay55 X)
      (k0_pay65 (k0_pay55 X)
        (k0_pay62 (k0_pay55 X) (k0_pay59 (k0_pay55 X) (k0_pay56 X w6 w14) (k0_pay57 X) w22 w30 w7 w15 w23 w0 w8 w16)
          (k0_pay60 (k0_pay55 X)) w24 w1 w9 w17 w25 w2 w10 w18)
        (k0_pay63 (k0_pay55 X)) w26 w3 w11 w19 w27 w4 w12 w20)
      (k0_pay66 (k0_pay55 X)) w28 w5 w13 w21 w29 (ix2 r f) = taps fun i => Y (r.val + i.val + 2) * W i := by
  refine Eq.trans ?_ (taps_shifted _)
  pointwise [k0_pay55, k0_pay56, k0_pay57, k0_pay58, k0_pay59, k0_pay60, k0_pay61, k0_pay62, k0_pay63, k0_pay64, k0_pay65, k0_pay66, k0_pay67, k0_pay68, k0_pay69, hX, h0, h1, h2, h3, h4, h5, h6, h7, h8, h9, h10, h11, h12, h13, h14, h15, h16, h17, h18, h19, h20, h21, h22, h23, h24, h25, h26, h27, h28, h29, h30]
  repeat' first | exact congrArg₂ (· * ·) (congrArg Y (by omega)) rfl | refine congrArg₂ (· + ·) ?_ ?_

theorem strip4_row (X : Vec Ideal S1x544x128 .f32) (w0 w1 w2 w3 w4 w5 w6 w7 w8 w9 w10 w11 w12 w13 w14 w15 w16 w17 w18 w19 w20 w21 w22 w23 w24 w25 w26 w27 w28 w29 w30 : Vec Ideal S1x128 .f32)
    (r : Fin 512) (f : Fin 128) (Y : ℕ → EReal) (W : Fin 31 → EReal) (hX : ∀ n : Fin 544, X (ix3 0 n f) = Y n.val)
    (h0 : w0 (ix2 0 f) = W 0) (h1 : w1 (ix2 0 f) = W 1) (h2 : w2 (ix2 0 f) = W 2) (h3 : w3 (ix2 0 f) = W 3) (h4 : w4 (ix2 0 f) = W 4) (h5 : w5 (ix2 0 f) = W 5) (h6 : w6 (ix2 0 f) = W 6) (h7 : w7 (ix2 0 f) = W 7) (h8 : w8 (ix2 0 f) = W 8) (h9 : w9 (ix2 0 f) = W 9) (h10 : w10 (ix2 0 f) = W 10) (h11 : w11 (ix2 0 f) = W 11) (h12 : w12 (ix2 0 f) = W 12) (h13 : w13 (ix2 0 f) = W 13) (h14 : w14 (ix2 0 f) = W 14) (h15 : w15 (ix2 0 f) = W 15) (h16 : w16 (ix2 0 f) = W 16) (h17 : w17 (ix2 0 f) = W 17) (h18 : w18 (ix2 0 f) = W 18) (h19 : w19 (ix2 0 f) = W 19) (h20 : w20 (ix2 0 f) = W 20) (h21 : w21 (ix2 0 f) = W 21) (h22 : w22 (ix2 0 f) = W 22) (h23 : w23 (ix2 0 f) = W 23) (h24 : w24 (ix2 0 f) = W 24) (h25 : w25 (ix2 0 f) = W 25) (h26 : w26 (ix2 0 f) = W 26) (h27 : w27 (ix2 0 f) = W 27) (h28 : w28 (ix2 0 f) = W 28) (h29 : w29 (ix2 0 f) = W 29) (h30 : w30 (ix2 0 f) = W 30) :
    k0_pay89 (F := Ideal)
      (k0_pay85 (k0_pay71 X)
        (k0_pay81 (k0_pay71 X)
          (k0_pay77 (k0_pay71 X) (k0_pay73 X w6 w14 w22 w30 w7 w15) (k0_pay74 X) (k0_pay75 w23) w0 w8 w16 w24 w1 w9 w17)
          (k0_pay78 (k0_pay71 X)) (k0_pay79 w25) w2 w10 w18 w26 w3 w11 w19)
        (k0_pay82 (k0_pay71 X)) (k0_pay83 w27) w4 w12 w20 w28 w5 w13 w21)
      (k0_pay86 (k0_pay71 X)) (k0_pay87 w29) (ix2 r f) = taps fun i => Y (r.val + i.val + 2) * W i := by
  refine Eq.trans ?_ (taps_shifted _)
  pointwise [k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, hX, h0, h1, h2, h3, h4, h5, h6, h7, h8, h9, h10, h11, h12, h13, h14, h15, h16, h17, h18, h19, h20, h21, h22, h23, h24, h25, h26, h27, h28, h29, h30]
  repeat' first | exact congrArg₂ (· * ·) (congrArg Y (by omega)) rfl | refine congrArg₂ (· + ·) ?_ ?_

theorem strip5_row (X : Vec Ideal S1x544x128 .f32) (w0 w1 w2 w3 w4 w5 w6 w7 w8 w9 w10 w11 w12 w13 w14 w15 w16 w17 w18 w19 w20 w21 w22 w23 w24 w25 w26 w27 w28 w29 w30 : Vec Ideal S1x128 .f32)
    (r : Fin 512) (f : Fin 128) (Y : ℕ → EReal) (W : Fin 31 → EReal) (hX : ∀ n : Fin 544, X (ix3 0 n f) = Y n.val)
    (h0 : w0 (ix2 0 f) = W 0) (h1 : w1 (ix2 0 f) = W 1) (h2 : w2 (ix2 0 f) = W 2) (h3 : w3 (ix2 0 f) = W 3) (h4 : w4 (ix2 0 f) = W 4) (h5 : w5 (ix2 0 f) = W 5) (h6 : w6 (ix2 0 f) = W 6) (h7 : w7 (ix2 0 f) = W 7) (h8 : w8 (ix2 0 f) = W 8) (h9 : w9 (ix2 0 f) = W 9) (h10 : w10 (ix2 0 f) = W 10) (h11 : w11 (ix2 0 f) = W 11) (h12 : w12 (ix2 0 f) = W 12) (h13 : w13 (ix2 0 f) = W 13) (h14 : w14 (ix2 0 f) = W 14) (h15 : w15 (ix2 0 f) = W 15) (h16 : w16 (ix2 0 f) = W 16) (h17 : w17 (ix2 0 f) = W 17) (h18 : w18 (ix2 0 f) = W 18) (h19 : w19 (ix2 0 f) = W 19) (h20 : w20 (ix2 0 f) = W 20) (h21 : w21 (ix2 0 f) = W 21) (h22 : w22 (ix2 0 f) = W 22) (h23 : w23 (ix2 0 f) = W 23) (h24 : w24 (ix2 0 f) = W 24) (h25 : w25 (ix2 0 f) = W 25) (h26 : w26 (ix2 0 f) = W 26) (h27 : w27 (ix2 0 f) = W 27) (h28 : w28 (ix2 0 f) = W 28) (h29 : w29 (ix2 0 f) = W 29) (h30 : w30 (ix2 0 f) = W 30) :
    k0_pay105 (F := Ideal) (k0_pay101 (k0_pay91 X))
      (k0_pay102 (k0_pay91 X) (k0_pay98 (k0_pay91 X))
        (k0_pay99 (k0_pay91 X) (k0_pay95 (k0_pay91 X))
          (k0_pay96 (k0_pay91 X) (k0_pay92 X w6 w14 w22 w30) (k0_pay93 X) (k0_pay94 X) w7 w15 w23 w0 w8 w16 w24 w1)
          (k0_pay97 (k0_pay91 X)) w9 w17 w25 w2 w10 w18 w26 w3)
        (k0_pay100 (k0_pay91 X)) w11 w19 w27 w4 w12 w20 w28 w5)
      (k0_pay103 (k0_pay91 X)) w13 w21 w29 (ix2 r f) = taps fun i => Y (r.val + i.val + 2) * W i := by
  refine Eq.trans ?_ (taps_shifted _)
  pointwise [k0_pay91, k0_pay92, k0_pay93, k0_pay94, k0_pay95, k0_pay96, k0_pay97, k0_pay98, k0_pay99, k0_pay100, k0_pay101, k0_pay102, k0_pay103, k0_pay104, k0_pay105, hX, h0, h1, h2, h3, h4, h5, h6, h7, h8, h9, h10, h11, h12, h13, h14, h15, h16, h17, h18, h19, h20, h21, h22, h23, h24, h25, h26, h27, h28, h29, h30]
  repeat' first | exact congrArg₂ (· * ·) (congrArg Y (by omega)) rfl | refine congrArg₂ (· + ·) ?_ ?_

theorem strip6_row (X : Vec Ideal S1x544x128 .f32) (w0 w1 w2 w3 w4 w5 w6 w7 w8 w9 w10 w11 w12 w13 w14 w15 w16 w17 w18 w19 w20 w21 w22 w23 w24 w25 w26 w27 w28 w29 w30 : Vec Ideal S1x128 .f32)
    (r : Fin 512) (f : Fin 128) (Y : ℕ → EReal) (W : Fin 31 → EReal) (hX : ∀ n : Fin 544, X (ix3 0 n f) = Y n.val)
    (h0 : w0 (ix2 0 f) = W 0) (h1 : w1 (ix2 0 f) = W 1) (h2 : w2 (ix2 0 f) = W 2) (h3 : w3 (ix2 0 f) = W 3) (h4 : w4 (ix2 0 f) = W 4) (h5 : w5 (ix2 0 f) = W 5) (h6 : w6 (ix2 0 f) = W 6) (h7 : w7 (ix2 0 f) = W 7) (h8 : w8 (ix2 0 f) = W 8) (h9 : w9 (ix2 0 f) = W 9) (h10 : w10 (ix2 0 f) = W 10) (h11 : w11 (ix2 0 f) = W 11) (h12 : w12 (ix2 0 f) = W 12) (h13 : w13 (ix2 0 f) = W 13) (h14 : w14 (ix2 0 f) = W 14) (h15 : w15 (ix2 0 f) = W 15) (h16 : w16 (ix2 0 f) = W 16) (h17 : w17 (ix2 0 f) = W 17) (h18 : w18 (ix2 0 f) = W 18) (h19 : w19 (ix2 0 f) = W 19) (h20 : w20 (ix2 0 f) = W 20) (h21 : w21 (ix2 0 f) = W 21) (h22 : w22 (ix2 0 f) = W 22) (h23 : w23 (ix2 0 f) = W 23) (h24 : w24 (ix2 0 f) = W 24) (h25 : w25 (ix2 0 f) = W 25) (h26 : w26 (ix2 0 f) = W 26) (h27 : w27 (ix2 0 f) = W 27) (h28 : w28 (ix2 0 f) = W 28) (h29 : w29 (ix2 0 f) = W 29) (h30 : w30 (ix2 0 f) = W 30) :
    k0_pay120 (F := Ideal) (k0_pay107 X)
      (k0_pay117 (k0_pay107 X)
        (k0_pay114 (k0_pay107 X)
          (k0_pay111 (k0_pay107 X) (k0_pay108 X w6 w14) (k0_pay109 X) w22 w30 w7 w15 w23 w0 w8 w16)
          (k0_pay112 (k0_pay107 X)) w24 w1 w9 w17 w25 w2 w10 w18)
        (k0_pay115 (k0_pay107 X)) w26 w3 w11 w19 w27 w4 w12 w20)
      (k0_pay118 (k0_pay107 X)) w28 w5 w13 w21 w29 (ix2 r f) = taps fun i => Y (r.val + i.val + 2) * W i := by
  refine Eq.trans ?_ (taps_shifted _)
  pointwise [k0_pay107, k0_pay108, k0_pay109, k0_pay110, k0_pay111, k0_pay112, k0_pay113, k0_pay114, k0_pay115, k0_pay116, k0_pay117, k0_pay118, k0_pay119, k0_pay120, hX, h0, h1, h2, h3, h4, h5, h6, h7, h8, h9, h10, h11, h12, h13, h14, h15, h16, h17, h18, h19, h20, h21, h22, h23, h24, h25, h26, h27, h28, h29, h30]
  repeat' first | exact congrArg₂ (· * ·) (congrArg Y (by omega)) rfl | refine congrArg₂ (· + ·) ?_ ?_

theorem strip7_row (X : Vec Ideal S1x544x128 .f32) (w0 w1 w2 w3 w4 w5 w6 w7 w8 w9 w10 w11 w12 w13 w14 w15 w16 w17 w18 w19 w20 w21 w22 w23 w24 w25 w26 w27 w28 w29 w30 : Vec Ideal S1x128 .f32)
    (r : Fin 512) (f : Fin 128) (Y : ℕ → EReal) (W : Fin 31 → EReal) (hX : ∀ n : Fin 544, X (ix3 0 n f) = Y n.val)
    (h0 : w0 (ix2 0 f) = W 0) (h1 : w1 (ix2 0 f) = W 1) (h2 : w2 (ix2 0 f) = W 2) (h3 : w3 (ix2 0 f) = W 3) (h4 : w4 (ix2 0 f) = W 4) (h5 : w5 (ix2 0 f) = W 5) (h6 : w6 (ix2 0 f) = W 6) (h7 : w7 (ix2 0 f) = W 7) (h8 : w8 (ix2 0 f) = W 8) (h9 : w9 (ix2 0 f) = W 9) (h10 : w10 (ix2 0 f) = W 10) (h11 : w11 (ix2 0 f) = W 11) (h12 : w12 (ix2 0 f) = W 12) (h13 : w13 (ix2 0 f) = W 13) (h14 : w14 (ix2 0 f) = W 14) (h15 : w15 (ix2 0 f) = W 15) (h16 : w16 (ix2 0 f) = W 16) (h17 : w17 (ix2 0 f) = W 17) (h18 : w18 (ix2 0 f) = W 18) (h19 : w19 (ix2 0 f) = W 19) (h20 : w20 (ix2 0 f) = W 20) (h21 : w21 (ix2 0 f) = W 21) (h22 : w22 (ix2 0 f) = W 22) (h23 : w23 (ix2 0 f) = W 23) (h24 : w24 (ix2 0 f) = W 24) (h25 : w25 (ix2 0 f) = W 25) (h26 : w26 (ix2 0 f) = W 26) (h27 : w27 (ix2 0 f) = W 27) (h28 : w28 (ix2 0 f) = W 28) (h29 : w29 (ix2 0 f) = W 29) (h30 : w30 (ix2 0 f) = W 30) :
    k0_pay133 (F := Ideal) (k0_pay122 X) (k0_pay129 (k0_pay122 X))
      (k0_pay130 (k0_pay122 X) (k0_pay126 (k0_pay122 X))
        (k0_pay127 (k0_pay122 X) (k0_pay123 (k0_pay122 X)) (k0_pay124 (k0_pay122 X) w6 w14 w22 w30 w7 w15 w23 w0)
          (k0_pay125 (k0_pay122 X)) w8 w16 w24 w1 w9 w17 w25 w2)
        (k0_pay128 (k0_pay122 X)) w10 w18 w26 w3 w11 w19 w27 w4)
      (k0_pay131 (k0_pay122 X)) w12 w20 w28 w5 w13 w21 w29 (ix2 r f) = taps fun i => Y (r.val + i.val + 2) * W i := by
  refine Eq.trans ?_ (taps_shifted _)
  pointwise [k0_pay122, k0_pay123, k0_pay124, k0_pay125, k0_pay126, k0_pay127, k0_pay128, k0_pay129, k0_pay130, k0_pay131, k0_pay132, k0_pay133, k0_pay134, k0_pay135, hX, h0, h1, h2, h3, h4, h5, h6, h7, h8, h9, h10, h11, h12, h13, h14, h15, h16, h17, h18, h19, h20, h21, h22, h23, h24, h25, h26, h27, h28, h29, h30]
  repeat' first | exact congrArg₂ (· * ·) (congrArg Y (by omega)) rfl | refine congrArg₂ (· + ·) ?_ ?_

end Cert.ConvIdeal.Value

end
-- ==== Proof.ConvPay.lean ====
/- The values the convolution and MLP kernel stores, a row at a time: its arithmetic between loads and stores. -/
module

public import proofs.«01_k».proof.Proof.ConvRows
public import proofs.«01_k».proof.Proof.Gen.ConvIdeal.Skeleton
public import Idealize.ShloMosaic.Lib.Pointwise

@[expose] public section

set_option maxRecDepth 16384

noncomputable section

namespace Cert.ConvIdeal.Value

open Cert.ConvIdeal Cert.ConvIdeal.Gen Idealize.ShloMosaic Cert.Rows

theorem pay5_row (x : Vec Ideal S1x512x1024 .f32) (a : Vec Ideal S512x1024 .bf16) (w : Vec Ideal S1024x1024 .bf16) (r : Fin 512) (j : Fin 1024) :
    k0_pay5 (F := Ideal) x a w (ix2 r j) = pw (fun k => x (ix3 0 r k)) (fun k => a (ix2 r k)) (fun k l => w (ix2 k l)) j := by
  pointwise [k0_pay5, pw]

theorem pay6_row (x : Vec Ideal S1x512x1024 .f32) (a : Vec Ideal S512x1024 .bf16) (w : Vec Ideal S1024x1024 .bf16) (g : Vec Ideal S1x1024 .f32)
    (r : Fin 512) (j : Fin 1024) :
    k0_pay6 (F := Ideal) x a w g (ix2 r j)
      = rms (pw (fun k => x (ix3 0 r k)) (fun k => a (ix2 r k)) (fun k l => w (ix2 k l))) (fun k => g (ix2 0 k)) j := by
  pointwise [k0_pay6, pay5_row, rms]

/-- The bias, the layer norm and the swish of the convolved rows. -/
theorem pay137_row (v : Vec Ideal S512x1024 .f32) (d g b : Vec Ideal S1x1024 .f32) (r : Fin 512) (j : Fin 1024) :
    k0_pay137 (F := Ideal) v d g b (ix2 r j)
      = lnorm (fun k => v (ix2 r k) + d (ix2 0 k)) (fun k => g (ix2 0 k)) (fun k => b (ix2 0 k)) j := by
  pointwise [k0_pay137, lnorm, centred]

theorem pay2_row (v : Vec Ideal S512x1024 .f32) (d g b : Vec Ideal S1x1024 .f32) (r : Fin 512) (j : Fin 1024) :
    k0_pay2 (F := Ideal) (k0_pay137 v d g b) (k0_pay138 v d g b) (ix2 r j)
      = swish (fun k => v (ix2 r k) + d (ix2 0 k)) (fun k => g (ix2 0 k)) (fun k => b (ix2 0 k)) j := by
  pointwise [k0_pay2, k0_pay1, k0_pay138, pay137_row, swish, logi, zero_sub]

/-! The four column blocks of the hidden layer. Each takes the first 128 columns of its rows through a choice that falls
    to the rows themselves, because its condition is false. -/

theorem pay23_row (h : FVec Ideal S512x1024 .bf16) (a : FVec Ideal S512x128 .f32) (b : FVec Ideal S544x128 .f32) (c : FVec Ideal S512x128 .f32) (w0 w1 w2 w3 : Vec Ideal S1x128 .f32) (w : Vec Ideal S1024x1024 .bf16) (r : Fin 512) (j : Fin 1024) :
    k0_pay23 (F := Ideal) h 0#1 a b c w0 w1 w2 w3 w (ix2 r j)
      = max (∑ k, h (ix2 r k) * w (ix2 k j)) 0 * max (∑ k, h (ix2 r k) * w (ix2 k j)) 0 := by
  rw [Fin.sum_univ_two_halves 128 896 rfl fun k : Fin 1024 => h (ix2 r k) * w (ix2 k j)]
  pointwise [k0_pay23]

theorem pay38_row (h : FVec Ideal S512x1024 .bf16) (b d : FVec Ideal S544x128 .f32) (a : FVec Ideal S512x128 .f32) (c : FVec Ideal S512x128 .f32) (w0 w1 w2 w3 w4 w5 w6 : Vec Ideal S1x128 .f32) (w : Vec Ideal S1024x1024 .bf16) (r : Fin 512) (j : Fin 1024) :
    k0_pay38 (F := Ideal) (k0_pay36 h 0#1 b d a c w0 w1 w2 w3 w4 w5 w6) (k0_pay37 h) w (ix2 r j)
      = max (∑ k, h (ix2 r k) * w (ix2 k j)) 0 * max (∑ k, h (ix2 r k) * w (ix2 k j)) 0 := by
  rw [Fin.sum_univ_two_halves 128 896 rfl fun k : Fin 1024 => h (ix2 r k) * w (ix2 k j)]
  pointwise [k0_pay38, k0_pay36, k0_pay37]

theorem pay54_row (h : FVec Ideal S512x1024 .bf16) (b : FVec Ideal S544x128 .f32) (a : FVec Ideal S512x128 .f32) (c : FVec Ideal S512x128 .f32) (w0 w1 : Vec Ideal S1x128 .f32) (w : Vec Ideal S1024x1024 .bf16) (r : Fin 512) (j : Fin 1024) :
    k0_pay54 (F := Ideal) h 0#1 b a c w0 w1 w (ix2 r j)
      = max (∑ k, h (ix2 r k) * w (ix2 k j)) 0 * max (∑ k, h (ix2 r k) * w (ix2 k j)) 0 := by
  rw [Fin.sum_univ_two_halves 128 896 rfl fun k : Fin 1024 => h (ix2 r k) * w (ix2 k j)]
  pointwise [k0_pay54]

theorem pay70_row (h : FVec Ideal S512x1024 .bf16) (b : FVec Ideal S544x128 .f32) (a : FVec Ideal S512x128 .f32) (c : FVec Ideal S512x128 .f32) (w0 w1 w2 w3 w4 : Vec Ideal S1x128 .f32) (w : Vec Ideal S1024x1024 .bf16) (r : Fin 512) (j : Fin 1024) :
    k0_pay70 (F := Ideal) (k0_pay69 h 0#1 b a c w0 w1 w2 w3 w4 w) (ix2 r j)
      = max (∑ k, h (ix2 r k) * w (ix2 k j)) 0 * max (∑ k, h (ix2 r k) * w (ix2 k j)) 0 := by
  rw [Fin.sum_univ_two_halves 128 896 rfl fun k : Fin 1024 => h (ix2 r k) * w (ix2 k j)]
  pointwise [k0_pay70, k0_pay69]

/-! The four column blocks through the down projection, added one after the other; likewise. -/

theorem pay90_row (y : FVec Ideal S512x1024 .f32) (h : Vec Ideal S512x1024 .bf16) (a b c : FVec Ideal S512x128 .f32) (w : Vec Ideal S1024x1024 .bf16) (r : Fin 512) (j : Fin 1024) :
    k0_pay90 (F := Ideal) y 0#1 h a b c w (ix2 r j) = y (ix2 r j) + ∑ k, h (ix2 r k) * w (ix2 k j) := by
  rw [Fin.sum_univ_two_halves 128 896 rfl fun k : Fin 1024 => h (ix2 r k) * w (ix2 k j)]
  pointwise [k0_pay90]

theorem pay106_row (y : FVec Ideal S512x1024 .f32) (h : Vec Ideal S512x1024 .bf16) (b : FVec Ideal S544x128 .f32) (a : FVec Ideal S512x128 .f32) (c : FVec Ideal S512x128 .f32) (w0 w1 w2 : Vec Ideal S1x128 .f32) (w : Vec Ideal S1024x1024 .bf16) (r : Fin 512) (j : Fin 1024) :
    k0_pay106 (F := Ideal) 0#1 y h b a c w0 w1 w2 w (ix2 r j) = y (ix2 r j) + ∑ k, h (ix2 r k) * w (ix2 k j) := by
  rw [Fin.sum_univ_two_halves 128 896 rfl fun k : Fin 1024 => h (ix2 r k) * w (ix2 k j)]
  pointwise [k0_pay106]

theorem pay121_row (y : FVec Ideal S512x1024 .f32) (h : Vec Ideal S512x1024 .bf16) (b : FVec Ideal S544x128 .f32) (a : FVec Ideal S512x128 .f32) (c : FVec Ideal S512x128 .f32) (w0 w1 w2 w3 w4 : Vec Ideal S1x128 .f32) (w : Vec Ideal S1024x1024 .bf16) (r : Fin 512) (j : Fin 1024) :
    k0_pay121 (F := Ideal) 0#1 y h b a c w0 w1 w2 w3 w4 w (ix2 r j) = y (ix2 r j) + ∑ k, h (ix2 r k) * w (ix2 k j) := by
  rw [Fin.sum_univ_two_halves 128 896 rfl fun k : Fin 1024 => h (ix2 r k) * w (ix2 k j)]
  pointwise [k0_pay121]

theorem pay136_row (y : FVec Ideal S512x1024 .f32) (h : Vec Ideal S512x1024 .bf16) (b d : FVec Ideal S544x128 .f32) (a : FVec Ideal S512x128 .f32) (c : FVec Ideal S512x128 .f32) (w0 w1 w2 w3 w4 w5 w6 : Vec Ideal S1x128 .f32) (w : Vec Ideal S1024x1024 .bf16) (r : Fin 512) (j : Fin 1024) :
    k0_pay136 (F := Ideal) y (k0_pay134 0#1 h b d a c w0 w1 w2 w3 w4 w5 w6) (k0_pay135 h) w (ix2 r j) = y (ix2 r j) + ∑ k, h (ix2 r k) * w (ix2 k j) := by
  rw [Fin.sum_univ_two_halves 128 896 rfl fun k : Fin 1024 => h (ix2 r k) * w (ix2 k j)]
  pointwise [k0_pay136, k0_pay135, k0_pay134]

theorem pay3_row (y a b : FVec Ideal S512x1024 .f32) (r : Fin 512) (j : Fin 1024) :
    k0_pay3 (F := Ideal) 0#1 y a b (ix3 0 r j) = y (ix2 r j) := by
  pointwise [k0_pay3]

theorem pay8_row (g : Vec Ideal S1x512x1024 .f32) (r : Fin 512) (j : Fin 1024) :
    k0_pay8 (F := Ideal) g (ix3 0 r j) = g (ix3 0 r j) := by
  pointwise [k0_pay8]

theorem pay7_row (w : BitVec 32) (q p : Vec Ideal S1x32x1024 .f32) (r : Fin 32) (j : Fin 1024) :
    k0_pay7 (F := Ideal) w q p (ix3 0 r j) = if Scalar.cmpi .eq w 0#32 = 1#1 then q (ix3 0 r j) else p (ix3 0 r j) := by
  pointwise [k0_pay7, Scalar.select]
  exact apply_ite (fun z : Vec Ideal S1x32x1024 .f32 => z (ix3 0 r j)) _ q p

end Cert.ConvIdeal.Value

end
-- ==== Proof.ConvXp.lean ====
module

public import proofs.«01_k».proof.Proof.ConvPay
public import proofs.«01_k».proof.Proof.Gen.ConvIdeal.Value
public import Idealize.ShloMosaic.Lib.Pointwise
public import Idealize.ShloMosaic.Lib.Pipeline.ValueKit

@[expose] public section

set_option maxRecDepth 16384

noncomputable section

namespace Cert.ConvIdeal.Value

open Cert.ConvIdeal Cert.ConvIdeal.Gen Idealize.ShloMosaic Idealize.ShloMosaic.TcCoe Idealize.SL.Sem Cert.Rows
open Idealize.ShloMosaic.Pipeline (Dat)

/-- A row of the buffer of the 32 rows before a tile and the tile's own. -/
def xpb (A : Vec Ideal S1x512x1024 .f32) (B : Vec Ideal S1x32x1024 .f32) (n : ℕ) (k : Fin 1024) : EReal :=
  if h : n < 32 then B (ix3 0 ⟨n, h⟩ k) else if h' : n - 32 < 512 then A (ix3 0 ⟨n - 32, h'⟩ k) else 0

theorem xp_read (A : Vec Ideal S1x512x1024 .f32) (B : Vec Ideal S1x32x1024 .f32) (o : ℕ)
    (ho : ∀ a, (![0, 0, o] : Fin 3 → Nat) a + S1x544x128.size a ≤ S1x544x1024.size a) (n : Fin 544) (f : Fin 128) (hf : o + f.val < 1024) :
    (View.whole cc0_scratch0).readCov (Val := Elt Ideal)
      [⟨Rect.unit ![0, 32, 0] ![1, 512, 1024] inb_S1x544x1024_S1x512x1024_0_32_0, A⟩,
       ⟨Rect.unit ![0, 0, 0] ![1, 32, 1024] inb_S1x544x1024_S1x32x1024_0_0_0, B⟩]
      (Rect.unit (s := S1x544x1024) ![0, 0, o] ![1, 544, 128] ho).toLoadRect (ix3 0 n f) = xpb A B n.val ⟨o + f.val, hf⟩ := by
  rw [View.readCov_eq_canon']; dsimp only
  have e0 : (((Rect.unit (s := S1x544x1024) ![0, 0, o] ![1, 544, 128] ho).idx (ix3 0 n f) 0 : Fin _) : ℕ) = 0 := rfl
  have e1 : (((Rect.unit (s := S1x544x1024) ![0, 0, o] ![1, 544, 128] ho).idx (ix3 0 n f) 1 : Fin _) : ℕ) = n.val := by
    show 0 + 1 * n.val = n.val; omega
  have e2 : (((Rect.unit (s := S1x544x1024) ![0, 0, o] ![1, 544, 128] ho).idx (ix3 0 n f) 2 : Fin _) : ℕ) = o + f.val := by
    show o + 1 * f.val = o + f.val; omega
  have hcover : ∃ p ∈ ([⟨Rect.unit ![0, 32, 0] ![1, 512, 1024] inb_S1x544x1024_S1x512x1024_0_32_0, A⟩,
       ⟨Rect.unit ![0, 0, 0] ![1, 32, 1024] inb_S1x544x1024_S1x32x1024_0_0_0, B⟩] : List ((r : Rect S1x544x1024) × Vec Ideal r.shape .f32)),
      (Rect.unit (s := S1x544x1024) ![0, 0, o] ![1, 544, 128] ho).idx (ix3 0 n f) ∈ p.fst.set := by
    by_cases hn : n.val < 32
    · have hm : (Rect.unit (s := S1x544x1024) ![0, 0, o] ![1, 544, 128] ho).idx (ix3 0 n f) ∈ (Rect.unit (s := S1x544x1024) ![0, 0, 0] ![1, 32, 1024] inb_S1x544x1024_S1x32x1024_0_0_0).set := by
        refine Rect.mem_set_unit.2 (Fin.forall_fin_succ.2 ⟨?_, Fin.forall_fin_two.2 ⟨?_, ?_⟩⟩)
        · rw [e0]; exact ⟨Nat.le_refl 0, Nat.zero_lt_one⟩
        · rw [show Fin.succ (0 : Fin 2) = (1 : Fin 3) from rfl, e1]
          exact ⟨Nat.zero_le _, by show _ < 0 + 32; omega⟩
        · rw [show Fin.succ (1 : Fin 2) = (2 : Fin 3) from rfl, e2]
          exact ⟨Nat.zero_le _, by show _ < 0 + 1024; omega⟩
      exact ⟨_, List.mem_cons_of_mem _ (List.mem_cons_self ..), hm⟩
    · have hm : (Rect.unit (s := S1x544x1024) ![0, 0, o] ![1, 544, 128] ho).idx (ix3 0 n f) ∈ (Rect.unit (s := S1x544x1024) ![0, 32, 0] ![1, 512, 1024] inb_S1x544x1024_S1x512x1024_0_32_0).set := by
        refine Rect.mem_set_unit.2 (Fin.forall_fin_succ.2 ⟨?_, Fin.forall_fin_two.2 ⟨?_, ?_⟩⟩)
        · rw [e0]; exact ⟨Nat.le_refl 0, Nat.zero_lt_one⟩
        · rw [show Fin.succ (0 : Fin 2) = (1 : Fin 3) from rfl, e1]
          exact ⟨by show 32 ≤ _; omega, by show _ < 32 + 512; have := n.isLt; omega⟩
        · rw [show Fin.succ (1 : Fin 2) = (2 : Fin 3) from rfl, e2]
          exact ⟨Nat.zero_le _, by show _ < 0 + 1024; omega⟩
      exact ⟨_, List.mem_cons_self .., hm⟩
  canon_tiles x h using hcover
  · idx_vars x
    rw [e1] at h1; rw [e2] at h2
    have hb : n.val - 32 < 512 := by omega
    rw [xpb, dif_neg (by omega), dif_pos hb]
    exact congrArg A (congr (congr (congrArg ix3 (Subsingleton.elim x0 0)) (Fin.ext (by show x1.val = n.val - 32; omega))) (Fin.ext (by show x2.val = o + f.val; omega)))
  · idx_vars x
    rw [e1] at h1; rw [e2] at h2
    rw [xpb, dif_pos (show n.val < 32 by omega)]
    exact congrArg B (congr (congr (congrArg ix3 (Subsingleton.elim x0 0)) (Fin.ext (by show x1.val = n.val; omega))) (Fin.ext (by show x2.val = o + f.val; omega)))

end Cert.ConvIdeal.Value
end
-- ==== Proof.ConvAct.lean ====
/- The convolution and the second MLP at a grid point: the activated tile it leaves and the output tile it writes. -/
module

public import proofs.«01_k».proof.Proof.ConvStrip
public import proofs.«01_k».proof.Proof.ConvXp
public import proofs.«01_k».proof.Proof.Gen.ConvIdeal.Value
public import Idealize.ShloMosaic.Lib.Pointwise
public import Idealize.ShloMosaic.Lib.Pipeline.ValueKit

@[expose] public section

set_option maxRecDepth 16384

noncomputable section

namespace Cert.ConvIdeal.Value

open Cert.ConvIdeal Cert.ConvIdeal.Gen Idealize.ShloMosaic Idealize.ShloMosaic.TcCoe Idealize.SL.Sem Cert.Rows
open Idealize.ShloMosaic.Pipeline (Dat)

variable (m : (ℓ : Loc nD τ sig) → Buf (Elt Ideal) ℓ)

/-- A grid coordinate below zero, never the case. -/
theorem never : ∀ t : Fin cfg0.N, Scalar.cmpi CmpIPredicate.slt (BitVec.ofNat 32 (grid0.coords t 0).val) 0#32 = 0#1 :=
  (by decide +kernel : ∀ t : Fin grid0.N, _)

/-- The place of the tile in its sequence, as the body computes it. -/
def word (t : Fin cfg0.N) : BitVec 32 :=
  have w := Scalar.remsi (Scalar.minsi (BitVec.ofNat 32 (grid0.coords t 0).val) 63#32) 32#32
  Scalar.select (Scalar.andi (Scalar.xori (Scalar.cmpi .slt w 0#32) 0#1) (Scalar.cmpi .ne w 0#32)) (Scalar.addi w 32#32) w

/-- The convolved tile: each row the sum of 31 taps of the rows before it and its own. -/
def conv (c : Dev nD) (t : Fin cfg0.N) (r : Fin 512) (k : Fin 1024) : EReal :=
  taps fun i => xpb (k0_pay8 (iblk m c 1 t)) (k0_pay7 (word t) (iblk m c 3 t) (iblk m c 2 t)) (r.val + i.val + 2) k
    * iblk m c 4 t (ix2 i k)

set_option maxHeartbeats 4000000 in
theorem act_rowA (c : Dev nD) (t : Fin cfg0.N) (h0 : t.val % 65 = 0) (r : Fin 512) (j : Fin 1024) :
    (outsAt0 m c t.val t.isLt).2 (ix2 r j)
      = swish (fun k => conv m c t r k + iblk m c 5 t (ix2 0 k))
          (fun k => iblk m c 6 t (ix2 0 k)) (fun k => iblk m c 7 t (ix2 0 k)) j := by
  rw [outsAt0_A m c t h0]
  frame_out
  generalize hH : View.readCov (Val := Elt Ideal) (View.whole cc0_scratch1) _ _ = H
  rw [pay2_row]
  have hh : ∀ (r : Fin 512) (k : Fin 1024), H (ix2 r k) = conv m c t r k := by
    intro r k
    rw [← hH]
    clear hH H h0
    rw [View.readCov_eq_canon']; dsimp only
    unfold conv
    canon_tiles x h
    all_goals
      idx_vars x
      pointwise at h0 h1
    · have hb : 896 + x1.val < 1024 := by clear h1; omega
      rw [show r = x0 from Fin.ext h0, show k = ⟨896 + x1.val, hb⟩ from Fin.ext (by omega)]
      clear h0 h1
      refine strip7_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨896 + x1.val, hb⟩)
        (fun i => iblk m c 4 t (ix2 i ⟨896 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 768 + x1.val < 1024 := by clear h1; omega
      rw [show r = x0 from Fin.ext h0, show k = ⟨768 + x1.val, hb⟩ from Fin.ext (by omega)]
      clear h0 h1
      refine strip6_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨768 + x1.val, hb⟩)
        (fun i => iblk m c 4 t (ix2 i ⟨768 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 640 + x1.val < 1024 := by clear h1; omega
      rw [show r = x0 from Fin.ext h0, show k = ⟨640 + x1.val, hb⟩ from Fin.ext (by omega)]
      clear h0 h1
      refine strip5_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨640 + x1.val, hb⟩)
        (fun i => iblk m c 4 t (ix2 i ⟨640 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 512 + x1.val < 1024 := by clear h1; omega
      rw [show r = x0 from Fin.ext h0, show k = ⟨512 + x1.val, hb⟩ from Fin.ext (by omega)]
      clear h0 h1
      refine strip4_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨512 + x1.val, hb⟩)
        (fun i => iblk m c 4 t (ix2 i ⟨512 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 384 + x1.val < 1024 := by clear h1; omega
      rw [show r = x0 from Fin.ext h0, show k = ⟨384 + x1.val, hb⟩ from Fin.ext (by omega)]
      clear h0 h1
      refine strip3_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨384 + x1.val, hb⟩)
        (fun i => iblk m c 4 t (ix2 i ⟨384 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 256 + x1.val < 1024 := by clear h1; omega
      rw [show r = x0 from Fin.ext h0, show k = ⟨256 + x1.val, hb⟩ from Fin.ext (by omega)]
      clear h0 h1
      refine strip2_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨256 + x1.val, hb⟩)
        (fun i => iblk m c 4 t (ix2 i ⟨256 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 128 + x1.val < 1024 := by clear h1; omega
      rw [show r = x0 from Fin.ext h0, show k = ⟨128 + x1.val, hb⟩ from Fin.ext (by omega)]
      clear h0 h1
      refine strip1_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨128 + x1.val, hb⟩)
        (fun i => iblk m c 4 t (ix2 i ⟨128 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : x1.val < 1024 := by clear h1; omega
      rw [show r = x0 from Fin.ext h0, show k = ⟨x1.val, hb⟩ from Fin.ext (by omega)]
      clear h0 h1
      refine strip0_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨x1.val, hb⟩)
        (fun i => iblk m c 4 t (ix2 i ⟨x1.val, hb⟩)) (fun n => (xp_read _ _ 0 _ n x1 (by omega)).trans (by pointwise; rfl))
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
  simp only [hh]

set_option maxHeartbeats 4000000 in
theorem act_rowB (c : Dev nD) (t : Fin cfg0.N) (h0 : ¬ t.val % 65 = 0) (r : Fin 512) (j : Fin 1024) :
    (outsAt0 m c t.val t.isLt).2 (ix2 r j)
      = swish (fun k => conv m c t r k + iblk m c 5 t (ix2 0 k))
          (fun k => iblk m c 6 t (ix2 0 k)) (fun k => iblk m c 7 t (ix2 0 k)) j := by
  rw [outsAt0_B m c t h0]
  frame_out
  generalize hH : View.readCov (Val := Elt Ideal) (View.whole cc0_scratch1) _ _ = H
  rw [pay2_row]
  have hh : ∀ (r : Fin 512) (k : Fin 1024), H (ix2 r k) = conv m c t r k := by
    intro r k
    rw [← hH]
    clear hH H h0
    rw [View.readCov_eq_canon']; dsimp only
    unfold conv
    canon_tiles x h
    all_goals
      idx_vars x
      pointwise at h0 h1
    · have hb : 896 + x1.val < 1024 := by clear h1; omega
      rw [show r = x0 from Fin.ext h0, show k = ⟨896 + x1.val, hb⟩ from Fin.ext (by omega)]
      clear h0 h1
      refine strip7_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨896 + x1.val, hb⟩)
        (fun i => iblk m c 4 t (ix2 i ⟨896 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 768 + x1.val < 1024 := by clear h1; omega
      rw [show r = x0 from Fin.ext h0, show k = ⟨768 + x1.val, hb⟩ from Fin.ext (by omega)]
      clear h0 h1
      refine strip6_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨768 + x1.val, hb⟩)
        (fun i => iblk m c 4 t (ix2 i ⟨768 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 640 + x1.val < 1024 := by clear h1; omega
      rw [show r = x0 from Fin.ext h0, show k = ⟨640 + x1.val, hb⟩ from Fin.ext (by omega)]
      clear h0 h1
      refine strip5_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨640 + x1.val, hb⟩)
        (fun i => iblk m c 4 t (ix2 i ⟨640 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 512 + x1.val < 1024 := by clear h1; omega
      rw [show r = x0 from Fin.ext h0, show k = ⟨512 + x1.val, hb⟩ from Fin.ext (by omega)]
      clear h0 h1
      refine strip4_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨512 + x1.val, hb⟩)
        (fun i => iblk m c 4 t (ix2 i ⟨512 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 384 + x1.val < 1024 := by clear h1; omega
      rw [show r = x0 from Fin.ext h0, show k = ⟨384 + x1.val, hb⟩ from Fin.ext (by omega)]
      clear h0 h1
      refine strip3_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨384 + x1.val, hb⟩)
        (fun i => iblk m c 4 t (ix2 i ⟨384 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 256 + x1.val < 1024 := by clear h1; omega
      rw [show r = x0 from Fin.ext h0, show k = ⟨256 + x1.val, hb⟩ from Fin.ext (by omega)]
      clear h0 h1
      refine strip2_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨256 + x1.val, hb⟩)
        (fun i => iblk m c 4 t (ix2 i ⟨256 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : 128 + x1.val < 1024 := by clear h1; omega
      rw [show r = x0 from Fin.ext h0, show k = ⟨128 + x1.val, hb⟩ from Fin.ext (by omega)]
      clear h0 h1
      refine strip1_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨128 + x1.val, hb⟩)
        (fun i => iblk m c 4 t (ix2 i ⟨128 + x1.val, hb⟩)) (fun n => xp_read _ _ _ _ n x1 hb)
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
    · have hb : x1.val < 1024 := by clear h1; omega
      rw [show r = x0 from Fin.ext h0, show k = ⟨x1.val, hb⟩ from Fin.ext (by omega)]
      clear h0 h1
      refine strip0_row _ _ _ _ _ _ _ _ _ _ _ _ _ _ _ _ _ _ _ _ _ _ _ _ _ _ _ _ _ _ _ _ x0 x1 (fun n => xpb (k0_pay8 (iblk m c 1 t)) (k0_pay7 (word t) (iblk m c 3 t) (iblk m c 2 t)) n ⟨x1.val, hb⟩)
        (fun i => iblk m c 4 t (ix2 i ⟨x1.val, hb⟩)) (fun n => (xp_read _ _ 0 _ n x1 (by omega)).trans (by pointwise; rfl))
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;> pointwise
  simp only [hh]

end Cert.ConvIdeal.Value

end
-- ==== Proof.ConvOut.lean ====
/- The output tile of the convolution and the second MLP at a grid point. -/
module

public import proofs.«01_k».proof.Proof.ConvAct
public import proofs.«01_k».proof.Proof.Gen.ConvIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ConvIdeal.Value

open Cert.ConvIdeal Cert.ConvIdeal.Gen Idealize.ShloMosaic Idealize.ShloMosaic.TcCoe Idealize.SL.Sem Cert.Rows
open Idealize.ShloMosaic.Pipeline (Dat)

variable (m : (ℓ : Loc nD τ sig) → Buf (Elt Ideal) ℓ)

/-! Each of the four column blocks of the hidden layer, read back as it was written. -/

theorem hid_read3 (P0 P1 P2 P3 : Vec Ideal S512x1024 .bf16) :
    (View.whole cc0_scratch3).readCov (Val := Elt Ideal) [⟨Rect.unit ![0, 3072] ![512, 1024] inb_S512x4096_S512x1024_0_3072, P3⟩, ⟨Rect.unit ![0, 2048] ![512, 1024] inb_S512x4096_S512x1024_0_2048, P2⟩, ⟨Rect.unit ![0, 1024] ![512, 1024] inb_S512x4096_S512x1024_0_1024, P1⟩, ⟨Rect.unit ![0, 0] ![512, 1024] inb_S512x4096_S512x1024_0_0, P0⟩]
      (Rect.unit (s := S512x4096) ![0, 3072] ![512, 1024] inb_S512x4096_S512x1024_0_3072).toLoadRect = P3 := by
  rw [View.readCov_cons_toLoadRect]

theorem hid_read2 (P0 P1 P2 P3 : Vec Ideal S512x1024 .bf16) :
    (View.whole cc0_scratch3).readCov (Val := Elt Ideal) [⟨Rect.unit ![0, 3072] ![512, 1024] inb_S512x4096_S512x1024_0_3072, P3⟩, ⟨Rect.unit ![0, 2048] ![512, 1024] inb_S512x4096_S512x1024_0_2048, P2⟩, ⟨Rect.unit ![0, 1024] ![512, 1024] inb_S512x4096_S512x1024_0_1024, P1⟩, ⟨Rect.unit ![0, 0] ![512, 1024] inb_S512x4096_S512x1024_0_0, P0⟩]
      (Rect.unit (s := S512x4096) ![0, 2048] ![512, 1024] inb_S512x4096_S512x1024_0_2048).toLoadRect = P2 := by
  rw [View.readCov_skip _ _ _ _ _ (by decide), View.readCov_cons_toLoadRect]

theorem hid_read1 (P0 P1 P2 P3 : Vec Ideal S512x1024 .bf16) :
    (View.whole cc0_scratch3).readCov (Val := Elt Ideal) [⟨Rect.unit ![0, 3072] ![512, 1024] inb_S512x4096_S512x1024_0_3072, P3⟩, ⟨Rect.unit ![0, 2048] ![512, 1024] inb_S512x4096_S512x1024_0_2048, P2⟩, ⟨Rect.unit ![0, 1024] ![512, 1024] inb_S512x4096_S512x1024_0_1024, P1⟩, ⟨Rect.unit ![0, 0] ![512, 1024] inb_S512x4096_S512x1024_0_0, P0⟩]
      (Rect.unit (s := S512x4096) ![0, 1024] ![512, 1024] inb_S512x4096_S512x1024_0_1024).toLoadRect = P1 := by
  rw [View.readCov_skip _ _ _ _ _ (by decide), View.readCov_skip _ _ _ _ _ (by decide), View.readCov_cons_toLoadRect]

theorem hid_read0 (P0 P1 P2 P3 : Vec Ideal S512x1024 .bf16) :
    (View.whole cc0_scratch3).readCov (Val := Elt Ideal) [⟨Rect.unit ![0, 3072] ![512, 1024] inb_S512x4096_S512x1024_0_3072, P3⟩, ⟨Rect.unit ![0, 2048] ![512, 1024] inb_S512x4096_S512x1024_0_2048, P2⟩, ⟨Rect.unit ![0, 1024] ![512, 1024] inb_S512x4096_S512x1024_0_1024, P1⟩, ⟨Rect.unit ![0, 0] ![512, 1024] inb_S512x4096_S512x1024_0_0, P0⟩]
      (Rect.unit (s := S512x4096) ![0, 0] ![512, 1024] inb_S512x4096_S512x1024_0_0).toLoadRect = P0 := by
  rw [View.readCov_skip _ _ _ _ _ (by decide), View.readCov_skip _ _ _ _ _ (by decide), View.readCov_skip _ _ _ _ _ (by decide), View.readCov_cons_toLoadRect]

set_option maxHeartbeats 4000000 in
theorem out_rowB (c : Dev nD) (t : Fin cfg0.N) (h0 : ¬ t.val % 65 = 0) (ht : t.val - 1 < cfg0.N) (r : Fin 512) (j : Fin 1024) :
    (outsAt0 m c t.val t.isLt).1 (ix3 0 r j)
      = mlp (pw (fun k => iblk m c 0 t (ix3 0 r k)) (fun k => (outsAt0 m c (t.val - 1) ht).2 (ix2 r k)) (fun k l => iblk m c 8 t (ix2 k l)))
          (fun k => iblk m c 9 t (ix2 0 k)) (fun k l => iblk m c 10 t (ix2 k l)) (fun k l => iblk m c 11 t (ix2 k l)) j := by
  rw [outsAt0_B m c t h0]
  frame_out
  rw [never t, pay3_row, pay136_row, pay121_row, pay106_row, pay90_row, pay5_row, hid_read0, hid_read1, hid_read2, hid_read3]
  generalize hA : View.read (Elt Ideal) (View.whole cc0_scratch2) _ = A
  have hA' : A = (outsAt0 m c (t.val - 1) ht).2 := hA.symm.trans (read_unread_whole _ _ _)
  simp only [pay70_row, pay54_row, pay38_row, pay23_row, pay6_row]
  rw [← hA']
  clear hA hA'
  generalize pw _ _ _ = v
  unfold mlp
  rw [Fin.sum_univ_two_halves 3072 1024 rfl, Fin.sum_univ_two_halves 2048 1024 rfl, Fin.sum_univ_two_halves 1024 1024 rfl]
  simp only [← add_assoc]
  pointwise [hid]

end Cert.ConvIdeal.Value

end
-- ==== Proof.ConvRefRows.lean ====
/- The reference of the Conformer convolution module and the second MLP, a token's row at a time. -/
module

public import proofs.«01_k».proof.Proof.ConvRows
public import proofs.«01_k».proof.Proof.Gen.ConvRefIdeal.Read
public import Idealize.ShloMosaic.Lib.Pointwise

@[expose] public section

set_option maxRecDepth 16384

noncomputable section

namespace Cert.ConvRefIdeal.Read

open Cert.ConvRefIdeal Cert.ConvRefIdeal.Gen Idealize.ShloMosaic Cert.Rows

variable (x0 x1 : FVec Ideal S2x16384x1024 .f32) (x2 : FVec Ideal S31x1024 .f32) (x3 x4 x5 : FVec Ideal S1024 .f32)
  (x6 : FVec Ideal S1024x1024 .f32) (x7 : FVec Ideal S1024 .f32) (x8 : FVec Ideal S1024x4096 .f32) (x9 : FVec Ideal S4096x1024 .f32)

theorem v1_row (b : Fin 2) (n : Fin 16414) (j : Fin 1024) :
    val_main_v1 (F := Ideal) x1 (ix3 b n j) = padded (fun k => x1 (ix3 b k j)) n.val := by
  pointwise [val_main_v1, val_main_v0, val_main_cst, padded]
  split
  · rw [dif_neg (by omega)]
  · rw [dif_pos (by omega)]

theorem v217_row (b : Fin 2) (t : Fin 16384) (j : Fin 1024) :
    val_main_v217 (F := Ideal) x1 x2 (ix3 b t j) = dconv (fun k => x1 (ix3 b k j)) (fun k => x2 (ix2 k j)) t.val := by
  pointwise [val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, v1_row, dconv, taps]

theorem v220_row (b : Fin 2) (t : Fin 16384) (j : Fin 1024) :
    val_main_v220 (F := Ideal) x1 x2 x3 (ix3 b t j) = dconv (fun k => x1 (ix3 b k j)) (fun k => x2 (ix2 k j)) t.val + x3 (ix1 j) := by
  pointwise [val_main_v220, val_main_v219, val_main_v218, v217_row]

theorem v226_row (b : Fin 2) (t : Fin 16384) (j : Fin 1024) :
    val_main_v226 (F := Ideal) x1 x2 x3 (ix3 b t j)
      = centred (fun k => dconv (fun l => x1 (ix3 b l k)) (fun l => x2 (ix2 l k)) t.val + x3 (ix1 k)) j := by
  pointwise [val_main_v226, val_main_v225, val_main_v224, val_main_v223, val_main_v222, val_main_v221, val_main_cst_0, val_main_cst_1, v220_row, centred]

theorem v242_row (b : Fin 2) (t : Fin 16384) (j : Fin 1024) :
    val_main_v242 (F := Ideal) x1 x2 x3 x4 x5 (ix3 b t j)
      = lnorm (fun k => dconv (fun l => x1 (ix3 b l k)) (fun l => x2 (ix2 l k)) t.val + x3 (ix1 k)) (fun k => x4 (ix1 k)) (fun k => x5 (ix1 k)) j := by
  pointwise [val_main_v242, val_main_v241, val_main_v240, val_main_v239, val_main_v238, val_main_v237, val_main_v236, val_main_v235, val_main_v234, val_main_v233, val_main_v232, val_main_v231, val_main_v230, val_main_v229, val_main_v228, val_main_v227, val_main_cst_2, val_main_cst_3, val_main_cst_4, v226_row, lnorm]

theorem v243_row (b : Fin 2) (t : Fin 16384) (j : Fin 1024) :
    val_main_v243 (F := Ideal) x1 x2 x3 x4 x5 (ix3 b t j)
      = swish (fun k => dconv (fun l => x1 (ix3 b l k)) (fun l => x2 (ix2 l k)) t.val + x3 (ix1 k)) (fun k => x4 (ix1 k)) (fun k => x5 (ix1 k)) j := by
  pointwise [val_main_v243, val_main_call0_v5, val_main_call0_v4, val_main_call0_v3, val_main_call0_v2, val_main_call0_v1, val_main_call0_v0, val_main_call0_cst, val_main_call0_cst_0, v242_row, swish, logi]

theorem v245_row (b : Fin 2) (t : Fin 16384) (j : Fin 1024) :
    val_main_v245 (F := Ideal) x0 x1 x2 x3 x4 x5 x6 (ix3 b t j)
      = pw (fun k => x0 (ix3 b t k)) (swish (fun k => dconv (fun l => x1 (ix3 b l k)) (fun l => x2 (ix2 l k)) t.val + x3 (ix1 k)) (fun k => x4 (ix1 k)) (fun k => x5 (ix1 k)))
          (fun k l => x6 (ix2 k l)) j := by
  pointwise [val_main_v245, val_main_v244, v243_row, pw]

theorem v258_row (b : Fin 2) (t : Fin 16384) (j : Fin 1024) :
    val_main_v258 (F := Ideal) x0 x1 x2 x3 x4 x5 x6 x7 (ix3 b t j)
      = rms (fun k => val_main_v245 (F := Ideal) x0 x1 x2 x3 x4 x5 x6 (ix3 b t k)) (fun k => x7 (ix1 k)) j := by
  pointwise [val_main_v258, val_main_v257, val_main_v256, val_main_v255, val_main_v254, val_main_v253, val_main_v252, val_main_v251, val_main_v250, val_main_v249, val_main_v248, val_main_v247, val_main_v246, val_main_cst_5, val_main_cst_6, val_main_cst_7, rms]

theorem v261_row (b : Fin 2) (t : Fin 16384) (f : Fin 4096) :
    val_main_v261 (F := Ideal) x0 x1 x2 x3 x4 x5 x6 x7 x8 (ix3 b t f)
      = hid (fun k => val_main_v245 (F := Ideal) x0 x1 x2 x3 x4 x5 x6 (ix3 b t k)) (fun k => x7 (ix1 k)) (fun k l => x8 (ix2 k l)) f := by
  pointwise [val_main_v261, val_main_v260, val_main_v259, val_main_call1_v0, val_main_call1_cst, hid, v258_row]

/-- The result: a token's row through the convolution module, the pointwise projection and the MLP. -/
theorem v263_row (b : Fin 2) (t : Fin 16384) (j : Fin 1024) :
    val_main_v263 (F := Ideal) x0 x1 x2 x3 x4 x5 x6 x7 x8 x9 (ix3 b t j)
      = mlp (pw (fun k => x0 (ix3 b t k)) (swish (fun k => dconv (fun l => x1 (ix3 b l k)) (fun l => x2 (ix2 l k)) t.val + x3 (ix1 k)) (fun k => x4 (ix1 k)) (fun k => x5 (ix1 k)))
          (fun k l => x6 (ix2 k l))) (fun k => x7 (ix1 k)) (fun k l => x8 (ix2 k l)) (fun k l => x9 (ix2 k l)) j := by
  pointwise [val_main_v263, val_main_v262, mlp, v261_row, v245_row]

end Cert.ConvRefIdeal.Read

end
-- ==== Proof.ConvFinal.lean ====
/- The convolution module and the second MLP: the kernel's result array is the reference's. -/
module

public import proofs.«01_k».proof.Proof.ConvOut
public import proofs.«01_k».proof.Proof.ConvRefRows
public import proofs.«01_k».proof.Proof.Gen.ConvIdeal.Value
public import Idealize.ShloMosaic.Lib.Pointwise
public import Idealize.ShloMosaic.Lib.Pipeline.ValueKit

@[expose] public section

set_option maxRecDepth 16384

noncomputable section

namespace Cert.ConvIdeal.Value

open Cert.ConvIdeal Cert.ConvIdeal.Gen Idealize.ShloMosaic Idealize.ShloMosaic.TcCoe Idealize.SL.Sem Cert.Rows
open Idealize.ShloMosaic.Pipeline (Dat)

variable (m : (ℓ : Loc nD τ sig) → Buf (Elt Ideal) ℓ)

/-- The block each window takes at a grid point: the tile it convolves, and the tile before it that it projects. -/
theorem idx : ∀ t : Fin cfg0.N, win0_0.index t = ![(t.val - 1) / 32, (t.val - 1) % 32, 0] ∧ win0_1.index t = ![min t.val 63 / 32, min t.val 63 % 32, 0]
    ∧ win0_2.index t = ![min t.val 63 / 32, 16 * (min t.val 63 % 32) - 1, 0] ∧ win0_3.index t = ![min t.val 63 / 32, 0, 0]
    ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![(t.val - 1) / 32, (t.val - 1) % 32, 0] ∧ t.val < 65 :=
  (by decide +kernel : ∀ t : Fin grid0.N, _)

theorem pt_lt (t : Fin cfg0.N) : t.val < 65 := (idx t).2.2.2.2.2.2.2.2.2.2.2.2.2

/-- The body's test for the first tile of a sequence. -/
theorem first : ∀ t : Fin cfg0.N, (Scalar.cmpi .eq (word t) 0#32 = 1#1 ↔ min t.val 63 % 32 = 0) :=
  (by decide +kernel : ∀ t : Fin grid0.N, (Scalar.cmpi .eq (Scalar.select (Scalar.andi (Scalar.xori (Scalar.cmpi .slt (Scalar.remsi (Scalar.minsi (BitVec.ofNat 32 (grid0.coords t 0).val) 63#32) 32#32) 0#32) 0#1) (Scalar.cmpi .ne (Scalar.remsi (Scalar.minsi (BitVec.ofNat 32 (grid0.coords t 0).val) 63#32) 32#32) 0#32)) (Scalar.addi (Scalar.remsi (Scalar.minsi (BitVec.ofNat 32 (grid0.coords t 0).val) 63#32) 32#32) 32#32) (Scalar.remsi (Scalar.minsi (BitVec.ofNat 32 (grid0.coords t 0).val) 63#32) 32#32)) 0#32 = 1#1 ↔ min t.val 63 % 32 = 0))

/-! Each input block, read at an index. -/

theorem blk0 (c : Dev nD) (t : Fin cfg0.N) (r : Fin 512) (k : Fin 1024) : iblk m c 0 t (ix3 0 r k)
    = m ((c : Thread nD τ).loc main_arg0) (ix3 ⟨(t.val - 1) / 32, by have := pt_lt t; omega⟩ ⟨(t.val - 1) % 32 * 512 + r.val, by omega⟩ k) := by
  blk_point [iblk, idx t]

theorem blk1 (c : Dev nD) (t : Fin cfg0.N) (r : Fin 512) (k : Fin 1024) : iblk m c 1 t (ix3 0 r k)
    = m ((c : Thread nD τ).loc main_arg1) (ix3 ⟨min t.val 63 / 32, by omega⟩ ⟨min t.val 63 % 32 * 512 + r.val, by omega⟩ k) := by
  blk_point [iblk, idx t]

theorem blk2 (c : Dev nD) (t : Fin cfg0.N) (r : Fin 32) (k : Fin 1024) : iblk m c 2 t (ix3 0 r k)
    = m ((c : Thread nD τ).loc main_arg1) (ix3 ⟨min t.val 63 / 32, by omega⟩ ⟨(16 * (min t.val 63 % 32) - 1) * 32 + r.val, by omega⟩ k) := by
  blk_point [iblk, idx t]

theorem blk3 (c : Dev nD) (t : Fin cfg0.N) (r : Fin 32) (k : Fin 1024) : iblk m c 3 t (ix3 0 r k) = (0 : EReal) := by
  blk_simp [iblk, idx t]
  entry_read
  pointwise
  split <;> rfl

theorem blk4 (c : Dev nD) (t : Fin cfg0.N) (k : Fin 31) (l : Fin 1024) : iblk m c 4 t (ix2 k l)
    = m ((c : Thread nD τ).loc main_arg2) (ix2 k l) := by
  blk_point [iblk, idx t]

theorem blk8 (c : Dev nD) (t : Fin cfg0.N) (k : Fin 1024) (l : Fin 1024) : iblk m c 8 t (ix2 k l)
    = m ((c : Thread nD τ).loc main_arg6) (ix2 k l) := by
  blk_point [iblk, idx t]

theorem blk10 (c : Dev nD) (t : Fin cfg0.N) (k : Fin 1024) (l : Fin 4096) : iblk m c 10 t (ix2 k l)
    = m ((c : Thread nD τ).loc main_arg8) (ix2 k l) := by
  blk_point [iblk, idx t]

theorem blk11 (c : Dev nD) (t : Fin cfg0.N) (k : Fin 4096) (l : Fin 1024) : iblk m c 11 t (ix2 k l)
    = m ((c : Thread nD τ).loc main_arg9) (ix2 k l) := by
  blk_point [iblk, idx t]

theorem blk5 (c : Dev nD) (t : Fin cfg0.N) (k : Fin 1024) : iblk m c 5 t (ix2 0 k)
    = m ((c : Thread nD τ).loc main_arg3) (ix1 k) := by
  blk_point [iblk, idx t]

theorem blk6 (c : Dev nD) (t : Fin cfg0.N) (k : Fin 1024) : iblk m c 6 t (ix2 0 k)
    = m ((c : Thread nD τ).loc main_arg4) (ix1 k) := by
  blk_point [iblk, idx t]

theorem blk7 (c : Dev nD) (t : Fin cfg0.N) (k : Fin 1024) : iblk m c 7 t (ix2 0 k)
    = m ((c : Thread nD τ).loc main_arg5) (ix1 k) := by
  blk_point [iblk, idx t]

theorem blk9 (c : Dev nD) (t : Fin cfg0.N) (k : Fin 1024) : iblk m c 9 t (ix2 0 k)
    = m ((c : Thread nD τ).loc main_arg7) (ix1 k) := by
  blk_point [iblk, idx t]

/-- The convolved tile is the causal convolution of the whole columns, at the tile's rows. -/
theorem conv_eq (c : Dev nD) (t : Fin cfg0.N) (r : Fin 512) (k : Fin 1024) :
    conv m c t r k = dconv (fun l => m ((c : Thread nD τ).loc main_arg1) (ix3 ⟨min t.val 63 / 32, by omega⟩ l k))
      (fun l => m ((c : Thread nD τ).loc main_arg2) (ix2 l k)) (min t.val 63 % 32 * 512 + r.val) := by
  unfold conv dconv
  refine congrArg taps (funext fun i => congrArg₂ (· * ·) ?_ (blk4 m c t i k))
  have hi := i.isLt
  have hr := r.isLt
  unfold xpb padded
  split
  · rename_i hn
    rw [pay7_row]
    by_cases hf : min t.val 63 % 32 = 0
    · rw [if_pos ((first t).2 hf), blk3, dif_neg (by omega)]
    · rw [if_neg fun e => hf ((first t).1 e), blk2, dif_pos (by omega)]
      exact congrArg _ (congr (congr (congrArg ix3 rfl) (Fin.ext (by dsimp only; omega))) rfl)
  · rename_i hn
    rw [dif_pos (by omega), pay8_row, blk1, dif_pos (by omega)]
    exact congrArg _ (congr (congr (congrArg ix3 rfl) (Fin.ext (by dsimp only; omega))) rfl)

/-- The activated tile a grid point leaves. -/
theorem act_row (c : Dev nD) (t : Fin cfg0.N) (r : Fin 512) (j : Fin 1024) :
    (outsAt0 m c t.val t.isLt).2 (ix2 r j)
      = swish (fun k => dconv (fun l => m ((c : Thread nD τ).loc main_arg1) (ix3 ⟨min t.val 63 / 32, by omega⟩ l k))
            (fun l => m ((c : Thread nD τ).loc main_arg2) (ix2 l k)) (min t.val 63 % 32 * 512 + r.val) + m ((c : Thread nD τ).loc main_arg3) (ix1 k))
          (fun k => m ((c : Thread nD τ).loc main_arg4) (ix1 k)) (fun k => m ((c : Thread nD τ).loc main_arg5) (ix1 k)) j := by
  by_cases h0 : t.val % 65 = 0
  · rw [act_rowA m c t h0]
    simp only [conv_eq m c t, blk5 m c t, blk6 m c t, blk7 m c t]
  · rw [act_rowB m c t h0]
    simp only [conv_eq m c t, blk5 m c t, blk6 m c t, blk7 m c t]

/-- The reference's result, of the kernel's arguments. -/
def ref12 (c : Dev nD) : FVec Ideal S2x16384x1024 .f32 :=
  Cert.ConvRefIdeal.Read.val_main_v263 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem out_ref (c : Dev nD) (t : Fin cfg0.N) (h0 : ¬ t.val % 65 = 0) (r : Fin 512) (j : Fin 1024) :
    (outsAt0 m c t.val t.isLt).1 (ix3 0 r j)
      = ref12 m c (ix3 ⟨(t.val - 1) / 32, by have := pt_lt t; omega⟩ ⟨(t.val - 1) % 32 * 512 + r.val, by omega⟩ j) := by
  have hN := pt_lt t
  have ht : t.val - 1 < cfg0.N := Nat.lt_of_le_of_lt (Nat.sub_le _ _) t.isLt
  have hm : min (t.val - 1) 63 = t.val - 1 := by omega
  rw [out_rowB m c t h0 ht]
  unfold ref12
  rw [Cert.ConvRefIdeal.Read.v263_row]
  have ha : ∀ k, (outsAt0 m c (t.val - 1) ht).2 (ix2 r k) = _ := fun k => act_row m c ⟨t.val - 1, ht⟩ r k
  simp only [hm] at ha
  simp only [ha, blk0 m c t, blk8 m c t, blk9 m c t, blk10 m c t, blk11 m c t]

/-- Every grid point that writes its output tile out is one after the first. -/
theorem flushes : ∀ t : Fin cfg0.N, (win0 12).flush t = true → ¬ t.val % 65 = 0 :=
  (by decide +kernel : ∀ t : Fin grid0.N, (win0 12).flush t = true → ¬ t.val % 65 = 0)

theorem final12 (c : Dev nD) : (dats m 0 c).arrAt 12 cfg0.N = ref12 m c := by
  refine (dats m 0 c).arrAt_eq_of_covers 12 _ (by decide +kernel) fun t ht y => ?_
  blk_simp
  rw [after0_12]
  idx_vars y
  rw [Subsingleton.elim y0 0]
  refine (out_ref m c t (flushes t ht) y1 y2).trans ?_
  blk_ext [idx t]

end Cert.ConvIdeal.Value

end
-- ==== Proof.ConvClaim.lean ====
/- The convolution module and the second MLP: the claims about the call and about its reference. -/
module

public import proofs.«01_k».proof.Defs
public import proofs.«01_k».proof.Proof.ConvFinal
public import proofs.«01_k».proof.Proof.Gen.Conv.Frame
public import proofs.«01_k».proof.Proof.Gen.ConvRefIdeal.Run
public import Idealize.ShloMosaic.Lib.Quiescent

@[expose] public section

set_option maxRecDepth 16384

noncomputable section

open Idealize.ShloMosaic Idealize.ShloMosaic.TcCoe Idealize.SL.Sem

namespace Cert.Proof.ConvClaim

theorem frame_p : Cert.quiescent_Conv := fun m ρ _ => Cert.Conv.Gen.frame m ρ

theorem frame_i : Cert.quiescent_ConvIdeal := fun m ρ _ => Cert.ConvIdeal.Gen.frame m ρ

theorem frame_r : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The call's result array is the reference's, whatever the arguments. -/
theorem algebraic : Cert.algebraic_ConvIdeal_ConvRefIdeal := by
  intro m ρ m' ρ' _ hag
  refine ⟨fun c => Cert.ConvIdeal.Value.ref12 m c,
    (θ_run Cert.ConvIdeal.defs _ _).mono (fun r h c => ⟨(h c).1.trans (Cert.ConvIdeal.Value.final12 m c),
      (h c).2⟩) (Cert.ConvIdeal.Value.run_blocks (F := Ideal) m ρ),
    (θ_run Cert.ConvRefIdeal.defs _ _).mono (fun r h c => ⟨(h c).1.trans ?_, (h c).2⟩)
      (Cert.ConvRefIdeal.Value.run (F := Ideal) m' ρ')⟩
  obtain ⟨h0, h1, h2, h3, h4, h5, h6, h7, h8, h9⟩ := hag c
  rw [Cert.ConvRefIdeal.Read.val_main_v263_eq]
  simp only [h0, h1, h2, h3, h4, h5, h6, h7, h8, h9]
  rfl

end Cert.Proof.ConvClaim

end
-- ==== Proof.MixPay.lean ====
/- What one grid point of the output projection, MLP and gated linear unit stores, read row by row. -/
module

public import proofs.«01_k».proof.Proof.Gen.MixIdeal.Skeleton
public import proofs.«01_k».proof.Proof.Rows

@[expose] public section

set_option maxRecDepth 16384

noncomputable section

namespace Cert.MixIdeal.Value

open Cert.MixIdeal Cert.MixIdeal.Gen Idealize.ShloMosaic Cert.Rows

/-- The residual with the two mixers projected; the two halves of the projection are loaded one by one. -/
theorem pay2_row (x : Vec Ideal S512x1024 .f32) (oa ob : Vec Ideal S512x512 .f32) (wa wb : Vec Ideal S512x1024 .bf16)
    (wo : Fin 1024 → Fin 1024 → EReal) (ha : ∀ (k : Fin 512) (l : Fin 1024), wa (ix2 k l) = wo ⟨k.val, by omega⟩ l)
    (hb : ∀ (k : Fin 512) (l : Fin 1024), wb (ix2 k l) = wo ⟨512 + k.val, by omega⟩ l) (r : Fin 512) (j : Fin 1024) :
    k0_pay2 (F := Ideal) x oa wa ob wb (ix2 r j)
      = proj (fun k => x (ix2 r k)) (fun k => oa (ix2 r k)) (fun k => ob (ix2 r k)) wo j := by
  pointwise [k0_pay2, proj, ha, hb, add_assoc]

theorem pay3_row (x : Vec Ideal S512x1024 .f32) (oa ob : Vec Ideal S512x512 .f32) (wa wb : Vec Ideal S512x1024 .bf16)
    (g : Vec Ideal S1x1024 .f32) (r : Fin 512) (j : Fin 1024) :
    k0_pay3 (F := Ideal) x oa wa ob wb g (ix2 r j)
      = rms (fun k => k0_pay2 (F := Ideal) x oa wa ob wb (ix2 r k)) (fun k => g (ix2 0 k)) j := by
  pointwise [k0_pay3, rms]

/-- The four column blocks of the hidden layer. -/
theorem pay5_row (x : Vec Ideal S512x1024 .f32) (oa ob : Vec Ideal S512x512 .f32) (wa wb : Vec Ideal S512x1024 .bf16)
    (g : Vec Ideal S1x1024 .f32) (w : Vec Ideal S1024x1024 .bf16)  (r : Fin 512) (j : Fin 1024) :
    k0_pay5 (F := Ideal) (k0_pay4 (F := Ideal) x oa wa ob wb g w) (ix2 r j)
      = max (∑ k, k0_pay3 (F := Ideal) x oa wa ob wb g (ix2 r k) * w (ix2 k j)) 0
        * max (∑ k, k0_pay3 (F := Ideal) x oa wa ob wb g (ix2 r k) * w (ix2 k j)) 0 := by
  pointwise [k0_pay5, k0_pay4]

theorem pay6_row (h : FVec Ideal S512x1024 .bf16) (w : Vec Ideal S1024x1024 .bf16) (r : Fin 512) (j : Fin 1024) :
    k0_pay6 (F := Ideal) h w (ix2 r j)
      = max (∑ k, h (ix2 r k) * w (ix2 k j)) 0 * max (∑ k, h (ix2 r k) * w (ix2 k j)) 0 := by
  pointwise [k0_pay6]

theorem pay7_row (h : FVec Ideal S512x1024 .bf16) (w : Vec Ideal S1024x1024 .bf16) (r : Fin 512) (j : Fin 1024) :
    k0_pay7 (F := Ideal) h w (ix2 r j)
      = max (∑ k, h (ix2 r k) * w (ix2 k j)) 0 * max (∑ k, h (ix2 r k) * w (ix2 k j)) 0 := by
  pointwise [k0_pay7]

theorem pay8_row (h : FVec Ideal S512x1024 .bf16) (w : Vec Ideal S1024x1024 .bf16) (r : Fin 512) (j : Fin 1024) :
    k0_pay8 (F := Ideal) h w (ix2 r j)
      = max (∑ k, h (ix2 r k) * w (ix2 k j)) 0 * max (∑ k, h (ix2 r k) * w (ix2 k j)) 0 := by
  pointwise [k0_pay8]

theorem pay9_row (x : FVec Ideal S512x1024 .f32) (h : Vec Ideal S512x4096 .bf16) (w : Vec Ideal S4096x1024 .bf16)
    (r : Fin 512) (j : Fin 1024) :
    k0_pay9 (F := Ideal) x h w (ix2 r j) = x (ix2 r j) + ∑ f, h (ix2 r f) * w (ix2 f j) := by
  pointwise [k0_pay9]

theorem pay10_row (x : FVec Ideal S512x1024 .f32) (h : Vec Ideal S512x4096 .bf16) (w : Vec Ideal S4096x1024 .bf16)
    (g : Vec Ideal S1x1024 .f32) (r : Fin 512) (j : Fin 1024) :
    k0_pay10 (F := Ideal) x h w g (ix2 r j)
      = rms (fun k => k0_pay9 (F := Ideal) x h w (ix2 r k)) (fun k => g (ix2 0 k)) j := by
  pointwise [k0_pay10, rms]

/-- The four column strips of the gated linear unit. The third and the fourth take their rows through a choice that
    falls to the rows themselves, because its condition is false. -/
theorem pay11_row (x : FVec Ideal S512x1024 .f32) (h : Vec Ideal S512x4096 .bf16) (w : Vec Ideal S4096x1024 .bf16)
    (g : Vec Ideal S1x1024 .f32) (u v : Vec Ideal S1024x256 .bf16) (r : Fin 512) (j : Fin 256) :
    k0_pay11 (F := Ideal) x h w g u v (ix2 r j)
      = (∑ k, k0_pay10 (F := Ideal) x h w g (ix2 r k) * u (ix2 k j))
        * logi (∑ k, k0_pay10 (F := Ideal) x h w g (ix2 r k) * v (ix2 k j)) := by
  pointwise [k0_pay11, logi, zero_sub]

theorem pay12_row (n : FVec Ideal S512x1024 .bf16) (u v : Vec Ideal S1024x256 .bf16) (r : Fin 512) (j : Fin 256) :
    k0_pay12 (F := Ideal) n u v (ix2 r j)
      = (∑ k, n (ix2 r k) * u (ix2 k j)) * logi (∑ k, n (ix2 r k) * v (ix2 k j)) := by
  pointwise [k0_pay12, logi, zero_sub]

theorem pay13_row (n : FVec Ideal S512x1024 .bf16) (p : FVec Ideal S512x256 .f32) (u v : Vec Ideal S1024x256 .bf16) (r : Fin 512) (j : Fin 256) :
    k0_pay13 (F := Ideal) n 0#1 p u v (ix2 r j)
      = (∑ k, n (ix2 r k) * u (ix2 k j)) * logi (∑ k, n (ix2 r k) * v (ix2 k j)) := by
  rw [Fin.sum_univ_two_halves 256 768 rfl fun k : Fin 1024 => n (ix2 r k) * u (ix2 k j),
    Fin.sum_univ_two_halves 256 768 rfl fun k : Fin 1024 => n (ix2 r k) * v (ix2 k j)]
  pointwise [k0_pay13, logi, zero_sub]

theorem pay1_row (n : FVec Ideal S512x1024 .bf16) (p : FVec Ideal S512x256 .bf16) (u v : Vec Ideal S1024x256 .bf16) (r : Fin 512) (j : Fin 256) :
    k0_pay1 (F := Ideal) n 0#1 p u v (ix2 r j)
      = (∑ k, n (ix2 r k) * u (ix2 k j)) * logi (∑ k, n (ix2 r k) * v (ix2 k j)) := by
  rw [Fin.sum_univ_two_halves 256 768 rfl fun k : Fin 1024 => n (ix2 r k) * u (ix2 k j),
    Fin.sum_univ_two_halves 256 768 rfl fun k : Fin 1024 => n (ix2 r k) * v (ix2 k j)]
  pointwise [k0_pay1, logi, zero_sub]

end Cert.MixIdeal.Value

end
-- ==== Proof.MixBlock.lean ====
/- The output projection, MLP and gated linear unit: the two result arrays of the kernel, row by row. -/
module

public import proofs.«01_k».proof.Proof.Gen.MixIdeal.Value
public import proofs.«01_k».proof.Proof.MixPay
public import Idealize.ShloMosaic.Lib.Pipeline.ValueKit

@[expose] public section

set_option maxRecDepth 16384

noncomputable section

namespace Cert.MixIdeal.Value

open Cert.MixIdeal Cert.MixIdeal.Gen Idealize.ShloMosaic Idealize.ShloMosaic.TcCoe Idealize.SL.Sem Cert.Rows
open Idealize.ShloMosaic.Pipeline (Dat)

variable (m : (ℓ : Loc nD τ sig) → Buf (Elt Ideal) ℓ)

/-- The condition of the choices in the third and the fourth strip: a grid coordinate below zero, never the case. -/
theorem never : ∀ t : Fin cfg0.N, Scalar.cmpi CmpIPredicate.slt (BitVec.ofNat 32 (grid0.coords t 0).val) 0#32 = 0#1 :=
  (by decide +kernel : ∀ t : Fin grid0.N, _)

theorem out9_row (c : Dev nD) (t : Fin cfg0.N) (r : Fin 512) (j : Fin 1024) :
    (outsAt0 m c t).1 (ix2 r j)
      = mlp (proj (fun k => iblk m c 0 t (ix2 r k)) (fun k => iblk m c 1 t (ix2 r k)) (fun k => iblk m c 2 t (ix2 r k))
          (fun k l => iblk m c 3 t (ix2 k l)))
        (fun k => iblk m c 4 t (ix2 0 k)) (fun k l => iblk m c 5 t (ix2 k l)) (fun k l => iblk m c 6 t (ix2 k l)) j := by
  unfold outsAt0
  frame_out
  have hp : ∀ r : Fin 512, (fun k : Fin 1024 => k0_pay2 (F := Ideal) (iblk m c 0 t) (iblk m c 1 t)
        (View.ld (iblk m c 3 t) (Rect.unit ![0, 0] ![512, 1024] inb_S1024x1024_S512x1024_0_0)) (iblk m c 2 t)
        (View.ld (iblk m c 3 t) (Rect.unit ![512, 0] ![512, 1024] inb_S1024x1024_S512x1024_512_0)) (ix2 r k))
      = proj (fun k => iblk m c 0 t (ix2 r k)) (fun k => iblk m c 1 t (ix2 r k)) (fun k => iblk m c 2 t (ix2 r k))
          (fun k l => iblk m c 3 t (ix2 k l)) := by
    intro r; funext k
    exact pay2_row _ _ _ _ _ (fun k l => iblk m c 3 t (ix2 k l)) (by intro k l; pointwise) (by intro k l; pointwise) r k
  generalize hH : View.readCov (Val := Elt Ideal) (View.whole cc0_scratch0) _ _ = H
  have hh : ∀ (r : Fin 512) (f : Fin 4096), H (ix2 r f) = hid (proj (fun k => iblk m c 0 t (ix2 r k)) (fun k => iblk m c 1 t (ix2 r k)) (fun k => iblk m c 2 t (ix2 r k))
          (fun k l => iblk m c 3 t (ix2 k l)))
        (fun k => iblk m c 4 t (ix2 0 k)) (fun k l => iblk m c 5 t (ix2 k l)) f := by
    intro r f
    rw [← hH, ← hp r]
    clear hH hp H
    rw [View.readCov_eq_canon']; dsimp only
    canon_tiles x h
    all_goals
      idx_vars x
      pointwise at h0 h1
    · have hb : 3072 + x1.val < 4096 := by clear h1; omega
      rw [show r = x0 from Fin.ext h0, show f = ⟨3072 + x1.val, hb⟩ from Fin.ext (by omega), pay8_row]
      pointwise [pay3_row, hid]
      rfl
    · have hb : 2048 + x1.val < 4096 := by clear h1; omega
      rw [show r = x0 from Fin.ext h0, show f = ⟨2048 + x1.val, hb⟩ from Fin.ext (by omega), pay7_row]
      pointwise [pay3_row, hid]
      rfl
    · have hb : 1024 + x1.val < 4096 := by clear h1; omega
      rw [show r = x0 from Fin.ext h0, show f = ⟨1024 + x1.val, hb⟩ from Fin.ext (by omega), pay6_row]
      pointwise [pay3_row, hid]
      rfl
    · have hb : x1.val < 4096 := by clear h1; omega
      rw [show r = x0 from Fin.ext h0, show f = ⟨x1.val, hb⟩ from Fin.ext (by omega), pay5_row]
      pointwise [pay3_row, hid]
      rfl
  pointwise [pay9_row, mlp, hh]
  exact congrArg (· + _) (congrFun (hp r) j)

theorem out10_row (c : Dev nD) (t : Fin cfg0.N) (r : Fin 512) (j : Fin 1024) :
    (outsAt0 m c t).2 (ix2 r j)
      = glu (fun k => (outsAt0 m c t).1 (ix2 r k))
        (fun k => iblk m c 7 t (ix2 0 k)) (fun k l => iblk m c 8 t (ix2 k l)) j := by
  unfold outsAt0
  frame_out
  generalize View.readCov (Val := Elt Ideal) (View.whole cc0_scratch0) _ _ = H
  generalize k0_pay2 (F := Ideal) _ _ _ _ _ = X
  rw [never t]
  canon_tiles x h
  all_goals
    idx_vars x
    pointwise at h0 h1
  · have hb : 768 + x1.val < 1024 := by clear h1; omega
    rw [show r = x0 from Fin.ext h0, show j = ⟨768 + x1.val, hb⟩ from Fin.ext (by omega), pay1_row]
    pointwise [pay10_row, glu]
    try simp only [← Nat.add_assoc, Nat.reduceAdd]
  · have hb : 512 + x1.val < 1024 := by clear h1; omega
    rw [show r = x0 from Fin.ext h0, show j = ⟨512 + x1.val, hb⟩ from Fin.ext (by omega), pay13_row]
    pointwise [pay10_row, glu]
    try simp only [← Nat.add_assoc, Nat.reduceAdd]
  · have hb : 256 + x1.val < 1024 := by clear h1; omega
    rw [show r = x0 from Fin.ext h0, show j = ⟨256 + x1.val, hb⟩ from Fin.ext (by omega), pay12_row]
    pointwise [pay10_row, glu]
    try simp only [← Nat.add_assoc, Nat.reduceAdd]
  · have hb : x1.val < 1024 := by clear h1; omega
    rw [show r = x0 from Fin.ext h0, show j = ⟨x1.val, hb⟩ from Fin.ext (by omega), pay11_row]
    pointwise [pay10_row, glu]
    try simp only [← Nat.add_assoc, Nat.reduceAdd]

end Cert.MixIdeal.Value

end
-- ==== Proof.MixRefRows.lean ====
/- The reference of the output projection, MLP and gated linear unit, read row by row. -/
module

public import proofs.«01_k».proof.Proof.Gen.MixRefIdeal.Read
public import proofs.«01_k».proof.Proof.Rows

@[expose] public section

set_option maxRecDepth 16384

noncomputable section

namespace Cert.MixRefIdeal.Read

open Cert.MixRefIdeal Cert.MixRefIdeal.Gen Idealize.ShloMosaic Cert.Rows

variable (x0 : FVec Ideal S2x16384x1024 .f32) (x1 x2 : FVec Ideal S2x16384x512 .f32) (x3 : FVec Ideal S1024x1024 .f32)
  (x4 : FVec Ideal S1024 .f32) (x5 : FVec Ideal S1024x4096 .f32) (x6 : FVec Ideal S4096x1024 .f32)
  (x7 : FVec Ideal S1024 .f32) (x8 : FVec Ideal S1024x2048 .f32)

theorem v2_row (b : Fin 2) (t : Fin 16384) (j : Fin 1024) :
    val_main_v2 (F := Ideal) x0 x1 x2 x3 (ix3 b t j)
      = proj (fun k => x0 (ix3 b t k)) (fun k => x1 (ix3 b t k)) (fun k => x2 (ix3 b t k)) (fun k l => x3 (ix2 k l)) j := by
  pointwise [val_main_v2, val_main_v1, val_main_v0, Cert.MixRefIdeal.Value.fn_main_v0, proj]

theorem v15_row (b : Fin 2) (t : Fin 16384) (j : Fin 1024) :
    val_main_v15 (F := Ideal) x0 x1 x2 x3 x4 (ix3 b t j)
      = rms (fun k => val_main_v2 (F := Ideal) x0 x1 x2 x3 (ix3 b t k)) (fun k => x4 (ix1 k)) j := by
  pointwise [val_main_v15, val_main_v14, val_main_v13, val_main_v12, val_main_v11, val_main_v10, val_main_v9, val_main_v8, val_main_v7, val_main_v6, val_main_v5, val_main_v4, val_main_v3, val_main_cst, val_main_cst_0, val_main_cst_1, rms]

theorem v18_row (b : Fin 2) (t : Fin 16384) (f : Fin 4096) :
    val_main_v18 (F := Ideal) x0 x1 x2 x3 x4 x5 (ix3 b t f)
      = hid (fun k => val_main_v2 (F := Ideal) x0 x1 x2 x3 (ix3 b t k)) (fun k => x4 (ix1 k)) (fun k l => x5 (ix2 k l)) f := by
  pointwise [val_main_v18, val_main_v17, val_main_v16, val_main_call0_v0, val_main_call0_cst, hid, v15_row]

theorem v20_row (b : Fin 2) (t : Fin 16384) (j : Fin 1024) :
    val_main_v20 (F := Ideal) x0 x1 x2 x3 x4 x5 x6 (ix3 b t j)
      = mlp (fun k => val_main_v2 (F := Ideal) x0 x1 x2 x3 (ix3 b t k)) (fun k => x4 (ix1 k)) (fun k l => x5 (ix2 k l)) (fun k l => x6 (ix2 k l)) j := by
  pointwise [val_main_v20, val_main_v19, mlp, v18_row]

theorem v33_row (b : Fin 2) (t : Fin 16384) (j : Fin 1024) :
    val_main_v33 (F := Ideal) x0 x1 x2 x3 x4 x5 x6 x7 (ix3 b t j)
      = rms (fun k => val_main_v20 (F := Ideal) x0 x1 x2 x3 x4 x5 x6 (ix3 b t k)) (fun k => x7 (ix1 k)) j := by
  pointwise [val_main_v33, val_main_v32, val_main_v31, val_main_v30, val_main_v29, val_main_v28, val_main_v27, val_main_v26, val_main_v25, val_main_v24, val_main_v23, val_main_v22, val_main_v21, val_main_cst_2, val_main_cst_3, val_main_cst_4, rms]

theorem v43_row (b : Fin 2) (t : Fin 16384) (j : Fin 1024) :
    val_main_v43 (F := Ideal) x0 x1 x2 x3 x4 x5 x6 x7 x8 (ix3 b t j)
      = glu (fun k => val_main_v20 (F := Ideal) x0 x1 x2 x3 x4 x5 x6 (ix3 b t k)) (fun k => x7 (ix1 k)) (fun k l => x8 (ix2 k l)) j := by
  pointwise [val_main_v43, val_main_v42, val_main_v41, val_main_v40, val_main_v39, val_main_v38, val_main_v37, val_main_v36, val_main_v35, val_main_v34, val_main_cst_5, val_main_cst_6, glu, logi, v33_row]

/-- The first result: the residual stream after the MLP, a token's row at a time. -/
theorem v44_row (i : Fin 32768) (j : Fin 1024) :
    val_main_v44 (F := Ideal) x0 x1 x2 x3 x4 x5 x6 (ix2 i j)
      = mlp (proj (fun k => x0 (ix3 ⟨i.val / 16384, by omega⟩ ⟨i.val % 16384, by omega⟩ k)) (fun k => x1 (ix3 ⟨i.val / 16384, by omega⟩ ⟨i.val % 16384, by omega⟩ k))
          (fun k => x2 (ix3 ⟨i.val / 16384, by omega⟩ ⟨i.val % 16384, by omega⟩ k)) (fun k l => x3 (ix2 k l)))
        (fun k => x4 (ix1 k)) (fun k l => x5 (ix2 k l)) (fun k l => x6 (ix2 k l)) j := by
  pointwise [val_main_v44, v20_row, v2_row]

/-- The second result: the gated linear unit's row of the first result's row. -/
theorem v45_row (i : Fin 32768) (j : Fin 1024) :
    val_main_v45 (F := Ideal) x0 x1 x2 x3 x4 x5 x6 x7 x8 (ix2 i j)
      = glu (fun l => val_main_v44 (F := Ideal) x0 x1 x2 x3 x4 x5 x6 (ix2 i l)) (fun k => x7 (ix1 k)) (fun k l => x8 (ix2 k l)) j := by
  pointwise [val_main_v45, val_main_v44, v43_row]

end Cert.MixRefIdeal.Read

end
-- ==== Proof.MixFinal.lean ====
/- The output projection, MLP and gated linear unit: the kernel's two result arrays are the reference's. -/
module

public import proofs.«01_k».proof.Proof.MixBlock
public import proofs.«01_k».proof.Proof.MixRefRows

@[expose] public section

set_option maxRecDepth 16384

noncomputable section

namespace Cert.MixIdeal.Value

open Cert.MixIdeal Cert.MixIdeal.Gen Idealize.ShloMosaic Idealize.ShloMosaic.TcCoe Idealize.SL.Sem Cert.Rows
open Idealize.ShloMosaic.Pipeline (Dat)

variable (m : (ℓ : Loc nD τ sig) → Buf (Elt Ideal) ℓ)

/-- The block each window takes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0] ∧ t.val < 64 :=
  (by decide +kernel : ∀ t : Fin grid0.N, _)

theorem pt_lt (t : Fin cfg0.N) : t.val < 64 := (idx t).2.2.2.2.2.2.2.2.2.2.2

/-! Each input block, read at an index: the argument at the token or weight it is. -/

theorem blk0 (c : Dev nD) (t : Fin cfg0.N) (r : Fin 512) (k : Fin 1024) : iblk m c 0 t (ix2 r k)
    = m ((c : Thread nD τ).loc main_arg0) (ix3 ⟨(t.val * 512 + r.val) / 16384, by have := pt_lt t; omega⟩ ⟨(t.val * 512 + r.val) % 16384, by omega⟩ k) := by
  blk_point [iblk, idx t]

theorem blk1 (c : Dev nD) (t : Fin cfg0.N) (r : Fin 512) (k : Fin 512) : iblk m c 1 t (ix2 r k)
    = m ((c : Thread nD τ).loc main_arg1) (ix3 ⟨(t.val * 512 + r.val) / 16384, by have := pt_lt t; omega⟩ ⟨(t.val * 512 + r.val) % 16384, by omega⟩ k) := by
  blk_point [iblk, idx t]

theorem blk2 (c : Dev nD) (t : Fin cfg0.N) (r : Fin 512) (k : Fin 512) : iblk m c 2 t (ix2 r k)
    = m ((c : Thread nD τ).loc main_arg2) (ix3 ⟨(t.val * 512 + r.val) / 16384, by have := pt_lt t; omega⟩ ⟨(t.val * 512 + r.val) % 16384, by omega⟩ k) := by
  blk_point [iblk, idx t]

theorem blk3 (c : Dev nD) (t : Fin cfg0.N) (k : Fin 1024) (l : Fin 1024) : iblk m c 3 t (ix2 k l)
    = m ((c : Thread nD τ).loc main_arg3) (ix2 k l) := by
  blk_point [iblk, idx t]

theorem blk5 (c : Dev nD) (t : Fin cfg0.N) (k : Fin 1024) (l : Fin 4096) : iblk m c 5 t (ix2 k l)
    = m ((c : Thread nD τ).loc main_arg5) (ix2 k l) := by
  blk_point [iblk, idx t]

theorem blk6 (c : Dev nD) (t : Fin cfg0.N) (k : Fin 4096) (l : Fin 1024) : iblk m c 6 t (ix2 k l)
    = m ((c : Thread nD τ).loc main_arg6) (ix2 k l) := by
  blk_point [iblk, idx t]

theorem blk8 (c : Dev nD) (t : Fin cfg0.N) (k : Fin 1024) (l : Fin 2048) : iblk m c 8 t (ix2 k l)
    = m ((c : Thread nD τ).loc main_arg8) (ix2 k l) := by
  blk_point [iblk, idx t]

theorem blk4 (c : Dev nD) (t : Fin cfg0.N) (k : Fin 1024) : iblk m c 4 t (ix2 0 k)
    = m ((c : Thread nD τ).loc main_arg4) (ix1 k) := by
  blk_point [iblk, idx t]

theorem blk7 (c : Dev nD) (t : Fin cfg0.N) (k : Fin 1024) : iblk m c 7 t (ix2 0 k)
    = m ((c : Thread nD τ).loc main_arg7) (ix1 k) := by
  blk_point [iblk, idx t]

/-- The reference's two results, of the kernel's arguments. -/
def ref9 (c : Dev nD) : FVec Ideal S32768x1024 .f32 := Cert.MixRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

def ref10 (c : Dev nD) : FVec Ideal S32768x1024 .f32 := Cert.MixRefIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem out9_ref (c : Dev nD) (t : Fin cfg0.N) (r : Fin 512) (j : Fin 1024) :
    (outsAt0 m c t).1 (ix2 r j) = ref9 m c (ix2 ⟨t.val * 512 + r.val, by have := pt_lt t; omega⟩ j) := by
  rw [out9_row]
  unfold ref9
  rw [Cert.MixRefIdeal.Read.v44_row]
  simp only [blk0 m c t, blk1 m c t, blk2 m c t, blk3 m c t, blk4 m c t, blk5 m c t, blk6 m c t]

theorem out10_ref (c : Dev nD) (t : Fin cfg0.N) (r : Fin 512) (j : Fin 1024) :
    (outsAt0 m c t).2 (ix2 r j) = ref10 m c (ix2 ⟨t.val * 512 + r.val, by have := pt_lt t; omega⟩ j) := by
  rw [out10_row]
  unfold ref10
  rw [Cert.MixRefIdeal.Read.v45_row]
  simp only [blk7 m c t, blk8 m c t, out9_ref m c t, ref9]

theorem final9 (c : Dev nD) : (dats m 0 c).arrAt 9 cfg0.N = ref9 m c := by
  refine (dats m 0 c).arrAt_eq_of_covers 9 _ (by decide +kernel) fun t _ y => ?_
  blk_simp
  rw [after0_9]
  idx_vars y
  refine (out9_ref m c t y0 y1).trans ?_
  blk_ext [idx t]

theorem final10 (c : Dev nD) : (dats m 0 c).arrAt 10 cfg0.N = ref10 m c := by
  refine (dats m 0 c).arrAt_eq_of_covers 10 _ (by decide +kernel) fun t _ y => ?_
  blk_simp
  rw [after0_10]
  idx_vars y
  refine (out10_ref m c t y0 y1).trans ?_
  blk_ext [idx t]

end Cert.MixIdeal.Value

end
-- ==== Proof.MixClaim.lean ====
/- The output projection, the first MLP and the gated linear unit: the claims about the call and about its reference. -/
module

public import proofs.«01_k».proof.Defs
public import proofs.«01_k».proof.Proof.MixFinal
public import proofs.«01_k».proof.Proof.Gen.Mix.Frame
public import proofs.«01_k».proof.Proof.Gen.MixRefIdeal.Run
public import Idealize.ShloMosaic.Lib.Quiescent

@[expose] public section

set_option maxRecDepth 16384

noncomputable section

open Idealize.ShloMosaic Idealize.ShloMosaic.TcCoe Idealize.SL.Sem

namespace Cert.Proof.MixClaim

theorem frame_p : Cert.quiescent_Mix := fun m ρ _ => Cert.Mix.Gen.frame m ρ

theorem frame_i : Cert.quiescent_MixIdeal := fun m ρ _ => Cert.MixIdeal.Gen.frame m ρ

theorem frame_r : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The call's two result arrays are the reference's, whatever the arguments. -/
theorem algebraic : Cert.algebraic_MixIdeal_MixRefIdeal := by
  intro m ρ m' ρ' _ hag
  refine ⟨fun c => Cert.MixIdeal.Value.ref9 m c, fun c => Cert.MixIdeal.Value.ref10 m c,
    (θ_run Cert.MixIdeal.defs _ _).mono (fun r h c => ⟨(h c).1.trans (Cert.MixIdeal.Value.final9 m c),
      (h c).2.1.trans (Cert.MixIdeal.Value.final10 m c), (h c).2.2⟩) (Cert.MixIdeal.Value.run_blocks (F := Ideal) m ρ),
    (θ_run Cert.MixRefIdeal.defs _ _).mono (fun r h c => ⟨(h c).1.trans ?_, (h c).2.1.trans ?_, (h c).2.2⟩)
      (Cert.MixRefIdeal.Value.run (F := Ideal) m' ρ')⟩
  · obtain ⟨h0, h1, h2, h3, h4, h5, h6, h7, h8⟩ := hag c
    rw [Cert.MixRefIdeal.Read.val_main_v44_eq]
    simp only [h0, h1, h2, h3, h4, h5, h6]
    rfl
  · obtain ⟨h0, h1, h2, h3, h4, h5, h6, h7, h8⟩ := hag c
    rw [Cert.MixRefIdeal.Read.val_main_v45_eq]
    simp only [h0, h1, h2, h3, h4, h5, h6, h7, h8]
    rfl

end Cert.Proof.MixClaim

end
-- ==== Proof.FoxIdealBody.lean ====
module

public import proofs.«01_k».proof.Proof.Gen.FoxIdeal.Frame
public import proofs.«01_k».proof.Proof.Gen.FoxIdeal.Loops

/-! One trip of the attention's loop over pairs of key blocks, the loop by its trips, and the whole body,
    each run over arbitrary contents of the scratch buffers. Of the two buffers for the odd blocks' scores
    and their maxima nothing is remembered between trips: every trip writes them before it reads them. -/

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxIdeal.Gen

variable {F : FTy → Type} [FloatOps F]

local notation "𝕄" => MT nD τ sig Unit (Elt F) ℕ (UR sig nD τ) ℕ

variable (c : Dev nD) (i : grid0.Coords) (arg3 : Memref sig .tc .vmem S1x1x1x1024x256 .bf16) (harg3 : arg3.IsWhole) (arg4 : Memref sig .tc .vmem S1x1x16x1024x256 .bf16) (harg4 : arg4.IsWhole) (arg5 : Memref sig .tc .vmem S1x1x16x128x1024 .bf16) (harg5 : arg5.IsWhole) (arg6 : Memref sig .tc .vmem S1x1024x128 .f32) (harg6 : arg6.IsWhole) (arg7 : Memref sig .tc .vmem S4x1024x256 .f32) (harg7 : arg7.IsWhole) (arg8 : Memref sig .tc .vmem S4x1024x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x1x256 .f32) (harg12 : arg12.IsWhole) (arg13 : Memref sig .tc .vmem S4x128x256 .f32) (harg13 : arg13.IsWhole)

/-- A buffer of the core held whole at contents `f`. -/
abbrev at_ {s : Shape} {e : EltTy} (a : Memref sig .tc .vmem s e) (f : Buf (Elt F) (a.view.loc (c : Thread nD τ))) : sProp 𝕄 :=
  a.view.loc (c : Thread nD τ) ↦[a.view.set]{fullShare} f

set_option maxHeartbeats 8000000 in
/-- One trip: the pieces it stores into each scratch buffer, found by running it. -/
@[irreducible] def tripRun (arg2 : BitVec 32) (v13 : FVec F S1024x256 .bf16) (k : Fin (k0_t1_loop i).trips)
    (f3 : Buf (Elt F) (arg3.view.loc (c : Thread nD τ))) (f4 : Buf (Elt F) (arg4.view.loc (c : Thread nD τ))) (f5 : Buf (Elt F) (arg5.view.loc (c : Thread nD τ))) (f7 : Buf (Elt F) (arg7.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    Σ' (L7 : List (View.Piece (Elt F) S4x1024x256 .f32)), Σ' (L9 : List (View.Piece (Elt F) S4x1x256 .f32)), Σ' (L11 : List (View.Piece (Elt F) S4x1x256 .f32)), Σ' (L12 : List (View.Piece (Elt F) S4x1x256 .f32)), { L13 : List (View.Piece (Elt F) S4x128x256 .f32) //
      iprop(at_ c arg3 f3 ∗ at_ c arg4 f4 ∗ at_ c arg5 f5 ∗ (∃ f, at_ c arg8 f) ∗ (∃ f, at_ c arg10 f) ∗ at_ c arg7 f7 ∗ at_ c arg9 f9 ∗ at_ c arg11 f11 ∗ at_ c arg12 f12 ∗ at_ c arg13 f13)
        ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg2 v13 k ())
          (fun _ => iprop(at_ c arg3 f3 ∗ at_ c arg4 f4 ∗ at_ c arg5 f5 ∗ (∃ f, at_ c arg8 f) ∗ (∃ f, at_ c arg10 f) ∗ at_ c arg7 (arg7.view.writes (Elt F) f7 L7) ∗ at_ c arg9 (arg9.view.writes (Elt F) f9 L9) ∗ at_ c arg11 (arg11.view.writes (Elt F) f11 L11) ∗ at_ c arg12 (arg12.view.writes (Elt F) f12 L12) ∗ at_ c arg13 (arg13.view.writes (Elt F) f13 L13))) } := by
  refine ⟨?_, ?_, ?_, ?_, ?_, ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    iintro ⟨H3, H4, H5, ⟨%f8, H8⟩, ⟨%f10, H10⟩, H7, H9, H11, H12, H13⟩
    sl_exec
    sl_step
    isplitl [H3]; · iexact H3
    isplitl [H4]; · iexact H4
    isplitl [H5]; · iexact H5
    isplitl [H8]; · iexists _; iexact H8
    isplitl [H10]; · iexists _; iexact H10
    isplitl [H7]; · iexact H7
    isplitl [H9]; · iexact H9
    isplitl [H11]; · iexact H11
    isplitl [H12]; · iexact H12
    iexact H13

/-- What the scratch buffers hold that the trips carry: the even block's scores and their maxima, the running
    maximum, the running sum and the running weighted sum. -/
structure St where
  s7 : Buf (Elt F) (arg7.view.loc (c : Thread nD τ))
  s9 : Buf (Elt F) (arg9.view.loc (c : Thread nD τ))
  s11 : Buf (Elt F) (arg11.view.loc (c : Thread nD τ))
  s12 : Buf (Elt F) (arg12.view.loc (c : Thread nD τ))
  s13 : Buf (Elt F) (arg13.view.loc (c : Thread nD τ))

section Loop

variable (arg2 : BitVec 32) (v13 : FVec F S1024x256 .bf16) (f3 : Buf (Elt F) (arg3.view.loc (c : Thread nD τ))) (f4 : Buf (Elt F) (arg4.view.loc (c : Thread nD τ))) (f5 : Buf (Elt F) (arg5.view.loc (c : Thread nD τ)))

/-- The scratch buffers after one trip. -/
def tripSt (k : Fin (k0_t1_loop i).trips) (s : St (F := F) c arg7 arg9 arg11 arg12 arg13) : St (F := F) c arg7 arg9 arg11 arg12 arg13 :=
  let r := tripRun c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13
  ⟨arg7.view.writes (Elt F) s.s7 r.1, arg9.view.writes (Elt F) s.s9 r.2.1, arg11.view.writes (Elt F) s.s11 r.2.2.1, arg12.view.writes (Elt F) s.s12 r.2.2.2.1, arg13.view.writes (Elt F) s.s13 r.2.2.2.2.1⟩

/-- The scratch buffers before trip `k`, from what they hold at the loop's entry. -/
def stAt (s : St (F := F) c arg7 arg9 arg11 arg12 arg13) : ℕ → St (F := F) c arg7 arg9 arg11 arg12 arg13
  | 0 => s
  | k + 1 => if h : k < (k0_t1_loop i).trips then tripSt c i arg3 harg3 arg4 harg4 arg5 harg5 arg6 harg6 arg7 harg7 arg8 harg8 arg9 harg9 arg10 harg10 arg11 harg11 arg12 harg12 arg13 harg13 arg2 v13 f3 f4 f5 ⟨k, h⟩ (stAt s k) else stAt s k

set_option warn.classDefReducibility false in
/-- The loop over pairs of key blocks: before trip `k` the scratch buffers hold `stAt k`. -/
@[sl_loop] def loopPairs (f7 : Buf (Elt F) (arg7.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg2 v13 where
  inv k _ := iprop(at_ c arg3 f3 ∗ at_ c arg4 f4 ∗ at_ c arg5 f5 ∗ (∃ f, at_ c arg8 f) ∗ (∃ f, at_ c arg10 f) ∗ at_ c arg7 (Nat.rec (motive := fun _ => Buf (Elt F) (arg7.view.loc (c : Thread nD τ))) f7 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k).s7) k) ∗ at_ c arg9 (Nat.rec (motive := fun _ => Buf (Elt F) (arg9.view.loc (c : Thread nD τ))) f9 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k).s9) k) ∗ at_ c arg11 (Nat.rec (motive := fun _ => Buf (Elt F) (arg11.view.loc (c : Thread nD τ))) f11 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k).s11) k) ∗ at_ c arg12 (Nat.rec (motive := fun _ => Buf (Elt F) (arg12.view.loc (c : Thread nD τ))) f12 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k).s12) k) ∗ at_ c arg13 (Nat.rec (motive := fun _ => Buf (Elt F) (arg13.view.loc (c : Thread nD τ))) f13 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k).s13) k))
  step k _ := by
    have e : stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ (k.val + 1) = tripSt c i arg3 harg3 arg4 harg4 arg5 harg5 arg6 harg6 arg7 harg7 arg8 harg8 arg9 harg9 arg10 harg10 arg11 harg11 arg12 harg12 arg13 harg13 arg2 v13 f3 f4 f5 k (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val) := by
      rw [stAt, dif_pos k.isLt]
    rw [show (Nat.rec (motive := fun _ => Buf (Elt F) (arg7.view.loc (c : Thread nD τ))) f7 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s7) k.val) = (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s7 from by cases k.val <;> rfl]
    rw [show (Nat.rec (motive := fun _ => Buf (Elt F) (arg9.view.loc (c : Thread nD τ))) f9 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s9) k.val) = (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s9 from by cases k.val <;> rfl]
    rw [show (Nat.rec (motive := fun _ => Buf (Elt F) (arg11.view.loc (c : Thread nD τ))) f11 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s11) k.val) = (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s11 from by cases k.val <;> rfl]
    rw [show (Nat.rec (motive := fun _ => Buf (Elt F) (arg12.view.loc (c : Thread nD τ))) f12 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s12) k.val) = (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s12 from by cases k.val <;> rfl]
    rw [show (Nat.rec (motive := fun _ => Buf (Elt F) (arg13.view.loc (c : Thread nD τ))) f13 (fun _ _ => (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s13) k.val) = (stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val).s13 from by cases k.val <;> rfl]
    dsimp only
    rw [e]
    generalize stAt c i arg3 harg3 arg4 harg4 arg5 harg5 arg6 harg6 arg7 harg7 arg8 harg8 arg9 harg9 arg10 harg10 arg11 harg11 arg12 harg12 arg13 harg13 arg2 v13 f3 f4 f5 ⟨f7, f9, f11, f12, f13⟩ k.val = s
    unfold tripSt
    exact (tripRun c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13).2.2.2.2.2

set_option warn.classDefReducibility false in
/-- The loop's remainder has no trip. -/
@[sl_loop] def loopRest (v79 : BitVec 32) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg2 v13 v79 where
  inv k _ := iprop(at_ c arg3 f3 ∗ at_ c arg4 f4 ∗ at_ c arg5 f5 ∗ at_ c arg7 f7 ∗ at_ c arg8 f8 ∗ at_ c arg9 f9 ∗ at_ c arg10 f10 ∗ at_ c arg11 f11 ∗ at_ c arg12 f12 ∗ at_ c arg13 f13)
  step k _ := absurd k.isLt (Nat.not_lt.2 (Nat.le_trans (k0_t2_abs i).2.1 (Nat.zero_le _)))

end Loop

set_option maxHeartbeats 16000000 in
/-- The whole body at a query block of even number: the pieces it stores into the output, whatever the output's
    and the scratch buffers held. -/
def bodyRunEven (h1 : k0_cond1 i = 1#1) (h2 : ¬ k0_cond2 i = 1#1) (f3 : Buf (Elt F) (arg3.view.loc (c : Thread nD τ))) (f4 : Buf (Elt F) (arg4.view.loc (c : Thread nD τ))) (f5 : Buf (Elt F) (arg5.view.loc (c : Thread nD τ))) :
    { L6 : List (View.Piece (Elt F) S1x1024x128 .f32) // ∀ (K : PUnit → sProp 𝕄),
      iprop(at_ c arg3 f3 ∗ at_ c arg4 f4 ∗ at_ c arg5 f5 ∗ (∃ f, at_ c arg6 f) ∗ (∃ f, at_ c arg7 f) ∗ (∃ f, at_ c arg8 f) ∗ (∃ f, at_ c arg9 f) ∗ (∃ f, at_ c arg10 f) ∗ (∃ f, at_ c arg11 f) ∗ (∃ f, at_ c arg12 f) ∗ (∃ f, at_ c arg13 f)
          ∗ (iprop(at_ c arg3 f3 ∗ at_ c arg4 f4 ∗ at_ c arg5 f5 ∗ (∃ f, at_ c arg6 (arg6.view.writes (Elt F) f L6)) ∗ (∃ f, at_ c arg7 f) ∗ (∃ f, at_ c arg8 f) ∗ (∃ f, at_ c arg9 f) ∗ (∃ f, at_ c arg10 f) ∗ (∃ f, at_ c arg11 f) ∗ (∃ f, at_ c arg12 f) ∗ (∃ f, at_ c arg13 f)) -∗ K ⟨⟩))
        ⊢ wp frame (wpE (defs₀ (F := F)) Variants.none (c : Thread nD τ) none) Set.univ (cc0_fox (F := F) i arg3 harg3 arg4 harg4 arg5 harg5 arg6 harg6 arg7 harg7 arg8 harg8 arg9 harg9 arg10 harg10 arg11 harg11 arg12 harg12 arg13 harg13) K } := by
  refine ⟨?_, fun K => ?run⟩
  case run =>
    simp only [cc0_fox_eq_skeleton]; unfold cc0_fox_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    iintro ⟨H3, H4, H5, ⟨%f6, H6⟩, ⟨%f7, H7⟩, ⟨%f8, H8⟩, ⟨%f9, H9⟩, ⟨%f10, H10⟩, ⟨%f11, H11⟩, ⟨%f12, H12⟩, ⟨%f13, H13⟩, Hk⟩
    sl_exec
    sl_step
    iapply Hk
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

set_option maxHeartbeats 16000000 in
/-- The whole body at a query block of odd number: the pieces it stores into the output, whatever the output's
    and the scratch buffers held. -/
def bodyRunOdd (h1 : ¬ k0_cond1 i = 1#1) (h2 : k0_cond2 i = 1#1) (f3 : Buf (Elt F) (arg3.view.loc (c : Thread nD τ))) (f4 : Buf (Elt F) (arg4.view.loc (c : Thread nD τ))) (f5 : Buf (Elt F) (arg5.view.loc (c : Thread nD τ))) :
    { L6 : List (View.Piece (Elt F) S1x1024x128 .f32) // ∀ (K : PUnit → sProp 𝕄),
      iprop(at_ c arg3 f3 ∗ at_ c arg4 f4 ∗ at_ c arg5 f5 ∗ (∃ f, at_ c arg6 f) ∗ (∃ f, at_ c arg7 f) ∗ (∃ f, at_ c arg8 f) ∗ (∃ f, at_ c arg9 f) ∗ (∃ f, at_ c arg10 f) ∗ (∃ f, at_ c arg11 f) ∗ (∃ f, at_ c arg12 f) ∗ (∃ f, at_ c arg13 f)
          ∗ (iprop(at_ c arg3 f3 ∗ at_ c arg4 f4 ∗ at_ c arg5 f5 ∗ (∃ f, at_ c arg6 (arg6.view.writes (Elt F) f L6)) ∗ (∃ f, at_ c arg7 f) ∗ (∃ f, at_ c arg8 f) ∗ (∃ f, at_ c arg9 f) ∗ (∃ f, at_ c arg10 f) ∗ (∃ f, at_ c arg11 f) ∗ (∃ f, at_ c arg12 f) ∗ (∃ f, at_ c arg13 f)) -∗ K ⟨⟩))
        ⊢ wp frame (wpE (defs₀ (F := F)) Variants.none (c : Thread nD τ) none) Set.univ (cc0_fox (F := F) i arg3 harg3 arg4 harg4 arg5 harg5 arg6 harg6 arg7 harg7 arg8 harg8 arg9 harg9 arg10 harg10 arg11 harg11 arg12 harg12 arg13 harg13) K } := by
  refine ⟨?_, fun K => ?run⟩
  case run =>
    simp only [cc0_fox_eq_skeleton]; unfold cc0_fox_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    iintro ⟨H3, H4, H5, ⟨%f6, H6⟩, ⟨%f7, H7⟩, ⟨%f8, H8⟩, ⟨%f9, H9⟩, ⟨%f10, H10⟩, ⟨%f11, H11⟩, ⟨%f12, H12⟩, ⟨%f13, H13⟩, Hk⟩
    sl_exec
    sl_step
    iapply Hk
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.FoxIdeal.Body

end
-- ==== Proof.FoxMath.lean ====
module

public import Idealize.ShloMosaic.PureOps.Ideal
public import Mathlib.Data.EReal.Operations
public import Mathlib.Analysis.SpecialFunctions.Pow.Real

/-! The running softmax over extended reals: a row of scores read block by block, with a running maximum, a
    running sum and a running weighted sum, ends at the softmax of the whole row. -/

@[expose] public section

noncomputable section

namespace Cert.FoxMath

open Idealize.ShloMosaic

/-- The weight of score `s` against maximum `m`, to base two. -/
def w2 (s m : EReal) : EReal := Ideal.exp2 (s - m)

theorem w2_bot_left (m : EReal) : w2 ⊥ m = 0 := by
  unfold w2; rw [sub_eq_add_neg, EReal.bot_add]; rfl
theorem w2_top_right (s : EReal) : w2 s ⊤ = 0 := by
  unfold w2; rw [sub_eq_add_neg, EReal.neg_top, EReal.add_bot]; rfl
theorem w2_coe (s m : ℝ) : w2 (s : EReal) (m : EReal) = ((Real.rpow 2 (s - m) : ℝ) : EReal) := by
  unfold w2; rw [← EReal.coe_sub]; rfl

theorem w2_real {s m : EReal} (h : s ≤ m) : ∃ r : ℝ, 0 ≤ r ∧ w2 s m = (r : EReal) := by
  induction m with
  | bot => rw [le_bot_iff.1 h]; exact ⟨0, le_rfl, w2_bot_left _⟩
  | top => exact ⟨0, le_rfl, w2_top_right _⟩
  | coe m =>
    induction s with
    | bot => exact ⟨0, le_rfl, w2_bot_left _⟩
    | top => exact absurd h (by simp)
    | coe s => exact ⟨_, Real.rpow_nonneg (by norm_num) _, w2_coe s m⟩

/-- Rescaling a weight to a later maximum. -/
theorem w2_mul {s m m' : EReal} (h : s ≤ m) (h' : m ≤ m') : w2 s m * w2 m m' = w2 s m' := by
  induction m' with
  | bot => rw [le_bot_iff.1 h'] at h ⊢; rw [le_bot_iff.1 h]; simp [w2_bot_left]
  | top => simp [w2_top_right]
  | coe m' =>
    induction m with
    | bot => rw [le_bot_iff.1 h]; simp [w2_bot_left]
    | top => exact absurd h' (by simp)
    | coe m =>
      induction s with
      | bot => simp [w2_bot_left]
      | top => exact absurd h (by simp)
      | coe s =>
        rw [w2_coe, w2_coe, w2_coe, ← EReal.coe_mul]
        congr 1
        show (2:ℝ) ^ (s - m) * (2:ℝ) ^ (m - m') = (2:ℝ) ^ (s - m')
        rw [← Real.rpow_add (by norm_num)]; congr 1; ring

theorem sum_mul_real {ι : Type*} (K : Finset ι) (f : ι → EReal) {r : ℝ} (hr : 0 ≤ r) :
    (∑ u ∈ K, f u) * (r : EReal) = ∑ u ∈ K, f u * (r : EReal) := by
  classical
  induction K using Finset.induction_on with
  | empty => simp
  | insert a K ha ih =>
    rw [Finset.sum_insert ha, Finset.sum_insert ha, EReal.right_distrib_of_nonneg_of_ne_top (by exact_mod_cast hr) (EReal.coe_ne_top r), ih]

/-- The running maximum, sum and weighted sum over the first `n` keys of a row of scores. -/
def rm (S : ℕ → EReal) (n : ℕ) : EReal := (Finset.range n).sup S
def rl (S : ℕ → EReal) (n : ℕ) : EReal := ∑ u ∈ Finset.range n, w2 (S u) (rm S n)
def ra (S : ℕ → EReal) (v : ℕ → EReal) (n : ℕ) : EReal := ∑ u ∈ Finset.range n, v u * w2 (S u) (rm S n)

theorem rm_zero (S : ℕ → EReal) : rm S 0 = ⊥ := rfl
theorem rl_zero (S : ℕ → EReal) : rl S 0 = 0 := rfl
theorem ra_zero (S v : ℕ → EReal) : ra S v 0 = 0 := rfl

theorem rm_add (S : ℕ → EReal) (n b : ℕ) (s : Fin b → EReal) (hs : ∀ k, s k = S (n + k.val)) :
    max (rm S n) (Finset.univ.sup s) = rm S (n + b) := by
  apply le_antisymm
  · refine max_le (Finset.sup_mono (by intro x; simp; omega)) (Finset.sup_le fun k _ => ?_)
    rw [hs]; exact Finset.le_sup (f := S) (by simp)
  · refine Finset.sup_le fun u hu => ?_
    by_cases h : u < n
    · exact le_max_of_le_left (Finset.le_sup (f := S) (by simpa using h))
    · simp at hu
      refine le_max_of_le_right ?_
      have := Finset.le_sup (f := s) (Finset.mem_univ ⟨u - n, by omega⟩)
      rw [hs] at this
      simpa [Nat.add_sub_cancel' (Nat.le_of_not_lt h)] using this

theorem le_rm (S : ℕ → EReal) {n u : ℕ} (h : u < n) : S u ≤ rm S n := Finset.le_sup (f := S) (by simpa using h)
theorem rm_mono (S : ℕ → EReal) (n b : ℕ) : rm S n ≤ rm S (n + b) := Finset.sup_mono (by intro x; simp; omega)

theorem rl_add (S : ℕ → EReal) (n b : ℕ) (s : Fin b → EReal) (hs : ∀ k, s k = S (n + k.val)) :
    rl S n * w2 (rm S n) (rm S (n + b)) + ∑ k, w2 (s k) (rm S (n + b)) = rl S (n + b) := by
  obtain ⟨r, hr, e⟩ := w2_real (rm_mono S n b)
  unfold rl
  rw [e, sum_mul_real _ _ hr, ← e, Finset.sum_range_add, Finset.sum_range (n := b)]
  congr 1
  · exact Finset.sum_congr rfl fun u hu => w2_mul (le_rm S (by simpa using hu)) (rm_mono S n b)
  · exact Finset.sum_congr rfl fun k _ => by rw [hs]

theorem ra_add (S v : ℕ → EReal) (n b : ℕ) (s v' : Fin b → EReal) (hs : ∀ k, s k = S (n + k.val)) (hv : ∀ k, v' k = v (n + k.val)) :
    ra S v n * w2 (rm S n) (rm S (n + b)) + ∑ k, v' k * w2 (s k) (rm S (n + b)) = ra S v (n + b) := by
  obtain ⟨r, hr, e⟩ := w2_real (rm_mono S n b)
  unfold ra
  rw [e, sum_mul_real _ _ hr, ← e, Finset.sum_range_add, Finset.sum_range (n := b)]
  congr 1
  · exact Finset.sum_congr rfl fun u hu => by
      rw [mul_assoc, w2_mul (le_rm S (by simpa using hu)) (rm_mono S n b)]
  · exact Finset.sum_congr rfl fun k _ => by rw [hs, hv]

/-- Keys past `n` of score `⊥` change nothing. -/
theorem rm_ext (S : ℕ → EReal) (n b : ℕ) (h : ∀ u, n ≤ u → S u = ⊥) : rm S (n + b) = rm S n := by
  rw [← rm_add S n b _ fun _ => rfl]
  refine max_eq_left (Finset.sup_le fun k _ => ?_)
  rw [h _ (Nat.le_add_right _ _)]; exact bot_le

theorem rl_ext (S : ℕ → EReal) (n b : ℕ) (h : ∀ u, n ≤ u → S u = ⊥) : rl S (n + b) = rl S n := by
  unfold rl
  rw [rm_ext S n b h, Finset.sum_range_add]
  conv_rhs => rw [← add_zero (∑ u ∈ Finset.range n, _)]
  congr 1
  exact Finset.sum_eq_zero fun k _ => by rw [h _ (Nat.le_add_right _ _), w2_bot_left]

theorem ra_ext (S v : ℕ → EReal) (n b : ℕ) (h : ∀ u, n ≤ u → S u = ⊥) : ra S v (n + b) = ra S v n := by
  unfold ra
  rw [rm_ext S n b h, Finset.sum_range_add]
  conv_rhs => rw [← add_zero (∑ u ∈ Finset.range n, _)]
  congr 1
  exact Finset.sum_eq_zero fun k _ => by rw [h _ (Nat.le_add_right _ _), w2_bot_left, mul_zero]

/-! The same weights to base e. -/

/-- The weight of score `s` against maximum `m`. -/
def w1 (s m : EReal) : EReal := Ideal.exp (s - m)

theorem w1_bot_left (m : EReal) : w1 ⊥ m = 0 := by
  unfold w1; rw [sub_eq_add_neg, EReal.bot_add]; rfl
theorem w1_top_right (s : EReal) : w1 s ⊤ = 0 := by
  unfold w1; rw [sub_eq_add_neg, EReal.neg_top, EReal.add_bot]; rfl
theorem w1_coe (s m : ℝ) : w1 (s : EReal) (m : EReal) = ((Real.exp (s - m) : ℝ) : EReal) := by
  unfold w1; rw [← EReal.coe_sub]; rfl

/-- The factor between the two bases. -/
abbrev lg : ℝ := (Real.log 2)⁻¹

theorem log2_pos : 0 < Real.log 2 := Real.log_pos (by norm_num)
theorem lg_pos : 0 < lg := inv_pos.2 log2_pos

theorem lg_mul_bot : ((lg : ℝ) : EReal) * ⊥ = ⊥ := EReal.coe_mul_bot_of_pos lg_pos
theorem lg_mul_top : ((lg : ℝ) : EReal) * ⊤ = ⊤ := EReal.coe_mul_top_of_pos lg_pos

theorem w2_lg {s m : EReal} (h : s ≤ m) : w2 ((lg : ℝ) * s) ((lg : ℝ) * m) = w1 s m := by
  induction m with
  | bot => rw [le_bot_iff.1 h, lg_mul_bot, w1_bot_left, w2_bot_left]
  | top => rw [lg_mul_top, w1_top_right, w2_top_right]
  | coe m =>
    induction s with
    | bot => rw [lg_mul_bot, w1_bot_left, w2_bot_left]
    | top => exact absurd h (by simp)
    | coe s =>
      rw [← EReal.coe_mul, ← EReal.coe_mul, w2_coe, w1_coe]
      congr 1
      show (2:ℝ) ^ (lg * s - lg * m) = _
      rw [Real.rpow_def_of_pos (by norm_num)]
      congr 1
      have := log2_pos.ne'
      simp only [lg]; field_simp

theorem lg_mono {a b : EReal} (h : a ≤ b) : ((lg : ℝ) : EReal) * a ≤ (lg : ℝ) * b :=
  mul_le_mul_of_nonneg_left h (by exact_mod_cast lg_pos.le)

theorem lg_sup {ι : Type*} (K : Finset ι) (f : ι → EReal) :
    ((lg : ℝ) : EReal) * K.sup f = K.sup fun u => ((lg : ℝ) : EReal) * f u := by
  classical
  induction K using Finset.induction_on with
  | empty => simp [lg_mul_bot]
  | insert a K ha ih =>
    rw [Finset.sup_insert, Finset.sup_insert, ← ih]
    rcases le_total (f a) (K.sup f) with h | h
    · rw [sup_eq_right.2 h, sup_eq_right.2 (lg_mono h)]
    · rw [sup_eq_left.2 h, sup_eq_left.2 (lg_mono h)]

/-- Two rows of scores give the same weights: the one is the other times the factor, or the one is `⊥` throughout
    and the other has infinite entries only. -/
def SameRow {ι : Type*} (S s : ι → EReal) : Prop :=
  (∀ u, S u = (lg : ℝ) * s u) ∨ ((∀ u, S u = ⊥) ∧ ∀ u, s u = ⊤ ∨ s u = ⊥)

theorem SameRow.weight {ι : Type*} {S s : ι → EReal} (h : SameRow S s) (K : Finset ι) {u : ι} (hu : u ∈ K) :
    w2 (S u) (K.sup S) = w1 (s u) (K.sup s) := by
  rcases h with h | ⟨h, h'⟩
  · rw [show S = fun u => ((lg : ℝ) : EReal) * s u from funext h, ← lg_sup]
    exact w2_lg (Finset.le_sup hu)
  · rw [h, w2_bot_left]
    rcases h' u with e | e
    · have : K.sup s = ⊤ := top_le_iff.1 (e ▸ Finset.le_sup hu)
      rw [this, w1_top_right]
    · rw [e, w1_bot_left]

/-- The three parts the logarithm of the forget gate is split into. -/
def parts (x : EReal) : EReal := x + (x - x) + ((x - x) - (x - x))
def nparts (x : EReal) : EReal := -x + -(x - x) + -((x - x) - (x - x))

/-- One score: the products' sum with the split gates beside the plain one. -/
theorem score_eq (D cq ck : EReal) (hq : cq ≠ ⊤) :
    (lg : ℝ) * D + (parts (cq * (lg : ℝ)) + nparts (ck * (lg : ℝ))) = (lg : ℝ) * (D + cq - ck) := by
  have hb := lg_mul_bot; have ht := lg_mul_top
  induction cq with
  | top => exact absurd rfl hq
  | bot => simp [parts, hb, mul_comm _ ((lg : ℝ) : EReal), sub_eq_add_neg]
  | coe q =>
    have e : parts ((q : EReal) * (lg : ℝ)) = ((q * lg : ℝ) : EReal) := by
      rw [← EReal.coe_mul]; unfold parts; norm_cast; simp
    rw [e]
    induction ck with
    | top => simp [nparts, hb, ht, mul_comm _ ((lg : ℝ) : EReal), sub_eq_add_neg]
    | bot =>
      have : nparts ((⊥ : EReal) * (lg : ℝ)) = ⊤ := by
        rw [mul_comm, hb]; simp [nparts, sub_eq_add_neg]
      rw [this, EReal.coe_add_top, sub_eq_add_neg, EReal.neg_bot]
      induction D with
      | bot => simp [hb]
      | top => simp [ht]
      | coe D => rw [← EReal.coe_add, EReal.coe_add_top, ht, ← EReal.coe_mul, EReal.coe_add_top]
    | coe k =>
      have e' : nparts ((k : EReal) * (lg : ℝ)) = ((-(k * lg) : ℝ) : EReal) := by
        rw [← EReal.coe_mul]; unfold nparts; norm_cast; simp
      rw [e', ← EReal.coe_add]
      induction D with
      | bot => simp [hb, sub_eq_add_neg]
      | top => rw [ht, EReal.top_add_coe, EReal.top_add_coe, EReal.top_sub_coe, ht]
      | coe D => norm_cast; ring

theorem score_top (D ck x : EReal) : x + (parts ((⊤ : EReal) * (lg : ℝ)) + nparts ck) = ⊥ ∧ (D + ⊤ - ck = ⊤ ∨ D + ⊤ - ck = ⊥) := by
  refine ⟨?_, ?_⟩
  · have : parts ((⊤ : EReal) * (lg : ℝ)) = ⊥ := by rw [mul_comm, lg_mul_top]; simp [parts, sub_eq_add_neg]
    rw [this]; simp
  · induction D with
    | bot => right; simp [sub_eq_add_neg]
    | top => induction ck with
      | top => right; simp [sub_eq_add_neg]
      | bot => left; simp [sub_eq_add_neg]
      | coe k => left; simp
    | coe D => induction ck with
      | top => right; simp [sub_eq_add_neg]
      | bot => left; simp [sub_eq_add_neg]
      | coe k => left; simp

/-- A row of scores: what the split gates give against what the plain ones give. -/
theorem sameRow {ι : Type*} (D ck : ι → EReal) (cq : EReal) (P : ι → Prop) [DecidablePred P] :
    SameRow (fun u => if P u then (lg : ℝ) * D u + (parts (cq * (lg : ℝ)) + nparts (ck u * (lg : ℝ))) else ⊥)
      (fun u => if P u then D u + cq - ck u else ⊥) := by
  by_cases h : cq = ⊤
  · subst h; right
    exact ⟨fun u => by dsimp only; split_ifs; exacts [(score_top 0 _ _).1, rfl],
      fun u => by dsimp only; split_ifs; exacts [(score_top _ _ 0).2, Or.inr rfl]⟩
  · left; intro u; dsimp only; split_ifs
    · exact score_eq _ _ _ h
    · exact lg_mul_bot.symm

end Cert.FoxMath

end
-- ==== Proof.FoxPoint.lean ====
module

public import proofs.«01_k».proof.Proof.Gen.FoxIdeal.Skeleton
public import proofs.«01_k».proof.Proof.FoxMath
public import Idealize.ShloMosaic.Lib.Pointwise

/-! The attention's vector arithmetic, entry by entry, over extended reals. -/

@[expose] public section

set_option maxRecDepth 16384

noncomputable section

namespace Cert.FoxIdeal.Body

open Cert.FoxIdeal Cert.FoxIdeal.Gen Idealize.ShloMosaic Idealize.ShloMosaic.TcCoe Cert.FoxMath

/-- The row and column numbers of the block's last group, and its offset. -/
def row3 : IVec S1024x256 32 := iota .tc S1024x256 32 [0] iota_S1024x256_d0_w32
def col3 : IVec S1024x256 32 := iota .tc S1024x256 32 [1] iota_S1024x256_d1_w32
def off3 : IVec S1024x256 32 := k0_pay214

/-- A choice by the mask. -/
theorem pick {a b : ℕ} {c : BitVec 32} (ha : a < 1024) (hb : b < 256) (hc : c.toNat ≤ 1024) (x y : EReal) :
    Scalar.select (IntOp.cmpi CmpIPredicate.sle (BitVec.ofNat 32 a) (IntOp.addi (BitVec.ofNat 32 b) c)) x y
      = if a ≤ b + c.toNat then x else y := by
  have e : IntOp.cmpi CmpIPredicate.sle (BitVec.ofNat 32 a) (IntOp.addi (BitVec.ofNat 32 b) c) = if a ≤ b + c.toNat then 1#1 else 0#1 := by
    have h : (BitVec.ofNat 32 a).sle (BitVec.ofNat 32 b + c) = decide (a ≤ b + c.toNat) := by
      have h1 : (BitVec.ofNat 32 a).toNat = a := by simp; omega
      have h2 : (BitVec.ofNat 32 b + c).toNat = b + c.toNat := by simp; omega
      rw [BitVec.sle_eq_decide, BitVec.toInt_eq_toNat_of_lt (by omega), BitVec.toInt_eq_toNat_of_lt (by omega), h1, h2]
      simp; omega
    show BitVec.ofBool ((BitVec.ofNat 32 a).sle (BitVec.ofNat 32 b + c)) = _
    rw [h]; split_ifs with q <;> simp [q]
  rw [e]; split_ifs <;> rfl

theorem ninf : (Ideal.ofBits FTy.f32 4286578688#32 : EReal) = ⊥ := by
  exact rfl

theorem fold_bot {R : ℕ} (f : Fin R → EReal) : Finset.fold max (Ideal.ofBits FTy.f32 4286578688#32) f Finset.univ = Finset.univ.sup f := by
  rw [ninf]; rfl

/-- The scores of a block of keys against a group of queries, and their maxima. -/
def sc (K : Vec Ideal S1x1x1x1024x256 .bf16) (Q : Vec Ideal S1x1x1x256x256 .bf16) : Vec Ideal S1x1024x256 .f32 := k0_pay61 (k0_pay1 K) Q
def smx (K : Vec Ideal S1x1x1x1024x256 .bf16) (Q : Vec Ideal S1x1x1x256x256 .bf16) : Vec Ideal S1x1x256 .f32 := k0_pay62 (k0_pay1 K) Q
/-- The running maximum, sum and weighted sum after a block. -/
def nM (m x : Vec Ideal S1x1x256 .f32) : Vec Ideal S1x1x256 .f32 := k0_pay319 (k0_pay88 m x)
def nL (s : Vec Ideal S1x1024x256 .f32) (m x l : Vec Ideal S1x1x256 .f32) : Vec Ideal S1x1x256 .f32 := k0_pay91 s m x l
def nA (s : Vec Ideal S1x1024x256 .f32) (m x : Vec Ideal S1x1x256 .f32) (a : Vec Ideal S1x128x256 .f32) (v : Vec Ideal S1x1x1x128x1024 .bf16) : Vec Ideal S1x128x256 .f32 :=
  k0_pay318 (k0_pay92 s m x a v)

theorem pay60_at (K : Vec Ideal S1x1x1x1024x256 .bf16) (Q : Vec Ideal S1x1x1x256x256 .bf16) (κ : Fin 1024) (q : Fin 256) :
    k0_pay60 (k0_pay1 K) Q (ix2 κ q) = ∑ d : Fin 256, K (ix5 0 0 0 κ d) * Q (ix5 0 0 0 q d) := by
  pointwise [k0_pay60, k0_pay1]

theorem sc_at (K : Vec Ideal S1x1x1x1024x256 .bf16) (Q : Vec Ideal S1x1x1x256x256 .bf16) (κ : Fin 1024) (q : Fin 256) :
    sc K Q (ix3 0 κ q) = ∑ d : Fin 256, K (ix5 0 0 0 κ d) * Q (ix5 0 0 0 q d) := by
  pointwise [sc, k0_pay61, pay60_at]

theorem smx_at (K : Vec Ideal S1x1x1x1024x256 .bf16) (Q : Vec Ideal S1x1x1x256x256 .bf16) (q : Fin 256) :
    smx K Q (ix3 0 0 q) = Finset.univ.sup fun κ : Fin 1024 => sc K Q (ix3 0 κ q) := by
  simp only [sc_at]
  pointwise [smx, k0_pay62, pay60_at]
  rw [fold_bot]

theorem nM_at (m x : Vec Ideal S1x1x256 .f32) (q : Fin 256) : nM m x (ix3 0 0 q) = max (m (ix3 0 0 q)) (x (ix3 0 0 q)) := by
  pointwise [nM, k0_pay319, k0_pay88, k0_pay87]

theorem pay88_at (m x : Vec Ideal S1x1x256 .f32) (q : Fin 256) : k0_pay88 m x (ix2 0 q) = max (m (ix3 0 0 q)) (x (ix3 0 0 q)) := by
  pointwise [k0_pay88, k0_pay87]

theorem pay89_at (s : Vec Ideal S1x1024x256 .f32) (m x : Vec Ideal S1x1x256 .f32) (κ : Fin 1024) (q : Fin 256) :
    k0_pay89 s m x (ix2 κ q) = w2 (s (ix3 0 κ q)) (nM m x (ix3 0 0 q)) := by
  rw [nM_at]
  pointwise [k0_pay89, pay88_at, w2]
  rfl

theorem pay90_at (m x : Vec Ideal S1x1x256 .f32) (q : Fin 256) :
    k0_pay90 m x (ix2 0 q) = w2 (m (ix3 0 0 q)) (nM m x (ix3 0 0 q)) := by
  rw [nM_at]
  pointwise [k0_pay90, k0_pay87, pay88_at, w2]
  rfl

theorem nL_at (s : Vec Ideal S1x1024x256 .f32) (m x l : Vec Ideal S1x1x256 .f32) (q : Fin 256) :
    nL s m x l (ix3 0 0 q) = l (ix3 0 0 q) * w2 (m (ix3 0 0 q)) (nM m x (ix3 0 0 q))
      + ∑ κ : Fin 1024, w2 (s (ix3 0 κ q)) (nM m x (ix3 0 0 q)) := by
  pointwise [nL, k0_pay91, pay89_at, pay90_at]

theorem nA_at (s : Vec Ideal S1x1024x256 .f32) (m x : Vec Ideal S1x1x256 .f32) (a : Vec Ideal S1x128x256 .f32) (v : Vec Ideal S1x1x1x128x1024 .bf16)
    (d : Fin 128) (q : Fin 256) :
    nA s m x a v (ix3 0 d q) = a (ix3 0 d q) * w2 (m (ix3 0 0 q)) (nM m x (ix3 0 0 q))
      + ∑ κ : Fin 1024, v (ix5 0 0 0 d κ) * w2 (s (ix3 0 κ q)) (nM m x (ix3 0 0 q)) := by
  pointwise [nA, k0_pay318, k0_pay92, pay89_at, pay90_at]

/-! The block of the diagonal: key `κ` of the block counts for query `q` of group `g` when `κ ≤ 256 g + q`. -/

/-- A masked column of scores, and the running maximum after it. -/
def mk {R : ℕ} (g : ℕ) (s : Fin R → EReal) (q : Fin 256) (κ : Fin R) : EReal := if κ.val ≤ q.val + 256 * g then s κ else ⊥
def dM {R : ℕ} (g : ℕ) (s : Fin R → EReal) (m : EReal) (q : Fin 256) : EReal := max m (Finset.univ.sup (mk g s q))

def dL0 (s : Vec Ideal S1x256x256 .f32) (m l : Vec Ideal S1x1x256 .f32) : Vec Ideal S1x1x256 .f32 := k0_pay190 s m l
def dA0 (s : Vec Ideal S1x256x256 .f32) (m : Vec Ideal S1x1x256 .f32) (a : Vec Ideal S1x128x256 .f32) (v : Vec Ideal S1x1x1x128x256 .bf16) : Vec Ideal S1x128x256 .f32 := k0_pay194 (k0_pay191 s m a) (k0_pay192 v) (k0_pay193 s m)

theorem mask0_at (s : Vec Ideal S1x256x256 .f32) (κ : Fin 256) (q : Fin 256) : k0_pay185 s (ix2 κ q) = mk 0 (fun κ => s (ix3 0 κ q)) q κ := by
  pointwise [k0_pay185, mk]
  rw [pick (lt_of_lt_of_le κ.2 (by decide)) q.2 (by decide)]; rfl

theorem dM0_at (s : Vec Ideal S1x256x256 .f32) (m : Vec Ideal S1x1x256 .f32) (q : Fin 256) : k0_pay187 s m (ix2 0 q) = (dM 0 (fun κ : Fin 256 => s (ix3 0 κ q)) (m (ix3 0 0 q)) q) := by
  pointwise [k0_pay187, k0_pay186, mask0_at, dM]
  rw [fold_bot]

theorem dP0_at (s : Vec Ideal S1x256x256 .f32) (m : Vec Ideal S1x1x256 .f32) (κ : Fin 256) (q : Fin 256) :
    k0_pay188 s m (ix2 κ q) = w2 (mk 0 (fun κ => s (ix3 0 κ q)) q κ) (dM 0 (fun κ : Fin 256 => s (ix3 0 κ q)) (m (ix3 0 0 q)) q) := by
  pointwise [k0_pay188, mask0_at, dM0_at, w2]
  rfl

theorem dC0_at (s : Vec Ideal S1x256x256 .f32) (m : Vec Ideal S1x1x256 .f32) (q : Fin 256) :
    k0_pay189 s m (ix2 0 q) = w2 (m (ix3 0 0 q)) (dM 0 (fun κ : Fin 256 => s (ix3 0 κ q)) (m (ix3 0 0 q)) q) := by
  pointwise [k0_pay189, k0_pay186, dM0_at, w2]
  rfl

theorem dL0_at (s : Vec Ideal S1x256x256 .f32) (m l : Vec Ideal S1x1x256 .f32) (q : Fin 256) :
    dL0 s m l (ix3 0 0 q) = l (ix3 0 0 q) * w2 (m (ix3 0 0 q)) (dM 0 (fun κ : Fin 256 => s (ix3 0 κ q)) (m (ix3 0 0 q)) q)
      + ∑ κ : Fin 256, w2 (mk 0 (fun κ => s (ix3 0 κ q)) q κ) (dM 0 (fun κ : Fin 256 => s (ix3 0 κ q)) (m (ix3 0 0 q)) q) := by
  pointwise [dL0, k0_pay190, dP0_at, dC0_at]

theorem dA0_at (s : Vec Ideal S1x256x256 .f32) (m : Vec Ideal S1x1x256 .f32) (a : Vec Ideal S1x128x256 .f32) (v : Vec Ideal S1x1x1x128x256 .bf16) (d : Fin 128) (q : Fin 256) :
    dA0 s m a v (ix3 0 d q) = a (ix3 0 d q) * w2 (m (ix3 0 0 q)) (dM 0 (fun κ : Fin 256 => s (ix3 0 κ q)) (m (ix3 0 0 q)) q)
      + ∑ κ : Fin 256, v (ix5 0 0 0 d κ) * w2 (mk 0 (fun κ => s (ix3 0 κ q)) q κ) (dM 0 (fun κ : Fin 256 => s (ix3 0 κ q)) (m (ix3 0 0 q)) q) := by
  pointwise [dA0, k0_pay194, k0_pay191, k0_pay192, k0_pay193, dP0_at, dC0_at]

def dL1 (s : Vec Ideal S1x512x256 .f32) (m l : Vec Ideal S1x1x256 .f32) : Vec Ideal S1x1x256 .f32 := k0_pay202 (k0_pay201 s m l)
def dA1 (s : Vec Ideal S1x512x256 .f32) (m : Vec Ideal S1x1x256 .f32) (a : Vec Ideal S1x128x256 .f32) (v : Vec Ideal S1x1x1x128x512 .bf16) : Vec Ideal S1x128x256 .f32 := k0_pay203 (k0_pay199 s m) (k0_pay200 s m) a v

theorem mask1_at (s : Vec Ideal S1x512x256 .f32) (κ : Fin 512) (q : Fin 256) : k0_pay196 s (ix2 κ q) = mk 1 (fun κ => s (ix3 0 κ q)) q κ := by
  pointwise [k0_pay196, mk]
  rw [pick (lt_of_lt_of_le κ.2 (by decide)) q.2 (by decide)]; rfl

theorem dM1_at (s : Vec Ideal S1x512x256 .f32) (m : Vec Ideal S1x1x256 .f32) (q : Fin 256) : k0_pay198 s m (ix2 0 q) = (dM 1 (fun κ : Fin 512 => s (ix3 0 κ q)) (m (ix3 0 0 q)) q) := by
  pointwise [k0_pay198, k0_pay197, mask1_at, dM]
  rw [fold_bot]

theorem dP1_at (s : Vec Ideal S1x512x256 .f32) (m : Vec Ideal S1x1x256 .f32) (κ : Fin 512) (q : Fin 256) :
    k0_pay199 s m (ix2 κ q) = w2 (mk 1 (fun κ => s (ix3 0 κ q)) q κ) (dM 1 (fun κ : Fin 512 => s (ix3 0 κ q)) (m (ix3 0 0 q)) q) := by
  pointwise [k0_pay199, mask1_at, dM1_at, w2]
  rfl

theorem dC1_at (s : Vec Ideal S1x512x256 .f32) (m : Vec Ideal S1x1x256 .f32) (q : Fin 256) :
    k0_pay200 s m (ix2 0 q) = w2 (m (ix3 0 0 q)) (dM 1 (fun κ : Fin 512 => s (ix3 0 κ q)) (m (ix3 0 0 q)) q) := by
  pointwise [k0_pay200, k0_pay197, dM1_at, w2]
  rfl

theorem dL1_at (s : Vec Ideal S1x512x256 .f32) (m l : Vec Ideal S1x1x256 .f32) (q : Fin 256) :
    dL1 s m l (ix3 0 0 q) = l (ix3 0 0 q) * w2 (m (ix3 0 0 q)) (dM 1 (fun κ : Fin 512 => s (ix3 0 κ q)) (m (ix3 0 0 q)) q)
      + ∑ κ : Fin 512, w2 (mk 1 (fun κ => s (ix3 0 κ q)) q κ) (dM 1 (fun κ : Fin 512 => s (ix3 0 κ q)) (m (ix3 0 0 q)) q) := by
  pointwise [dL1, k0_pay202, k0_pay201, dP1_at, dC1_at]

theorem dA1_at (s : Vec Ideal S1x512x256 .f32) (m : Vec Ideal S1x1x256 .f32) (a : Vec Ideal S1x128x256 .f32) (v : Vec Ideal S1x1x1x128x512 .bf16) (d : Fin 128) (q : Fin 256) :
    dA1 s m a v (ix3 0 d q) = a (ix3 0 d q) * w2 (m (ix3 0 0 q)) (dM 1 (fun κ : Fin 512 => s (ix3 0 κ q)) (m (ix3 0 0 q)) q)
      + ∑ κ : Fin 512, v (ix5 0 0 0 d κ) * w2 (mk 1 (fun κ => s (ix3 0 κ q)) q κ) (dM 1 (fun κ : Fin 512 => s (ix3 0 κ q)) (m (ix3 0 0 q)) q) := by
  pointwise [dA1, k0_pay203, dP1_at, dC1_at]

def dL2 (s : Vec Ideal S1x768x256 .f32) (m l : Vec Ideal S1x1x256 .f32) : Vec Ideal S1x1x256 .f32 := k0_pay210 (k0_pay206 m) (k0_pay207 s m) (k0_pay208 s m) l
def dA2 (s : Vec Ideal S1x768x256 .f32) (m : Vec Ideal S1x1x256 .f32) (a : Vec Ideal S1x128x256 .f32) (v : Vec Ideal S1x1x1x128x768 .bf16) : Vec Ideal S1x128x256 .f32 := k0_pay211 (k0_pay206 m) (k0_pay207 s m) (k0_pay208 s m) a v

theorem mask2_at (s : Vec Ideal S1x768x256 .f32) (κ : Fin 768) (q : Fin 256) : k0_pay205 s (ix2 κ q) = mk 2 (fun κ => s (ix3 0 κ q)) q κ := by
  pointwise [k0_pay205, mk]
  rw [pick (lt_of_lt_of_le κ.2 (by decide)) q.2 (by decide)]; rfl

theorem dM2_at (s : Vec Ideal S1x768x256 .f32) (m : Vec Ideal S1x1x256 .f32) (q : Fin 256) : k0_pay207 s m (ix2 0 q) = (dM 2 (fun κ : Fin 768 => s (ix3 0 κ q)) (m (ix3 0 0 q)) q) := by
  pointwise [k0_pay207, k0_pay206, mask2_at, dM]
  rw [fold_bot]

theorem dP2_at (s : Vec Ideal S1x768x256 .f32) (m : Vec Ideal S1x1x256 .f32) (κ : Fin 768) (q : Fin 256) :
    k0_pay208 s m (ix2 κ q) = w2 (mk 2 (fun κ => s (ix3 0 κ q)) q κ) (dM 2 (fun κ : Fin 768 => s (ix3 0 κ q)) (m (ix3 0 0 q)) q) := by
  pointwise [k0_pay208, mask2_at, dM2_at, w2]
  rfl

theorem dC2_at (s : Vec Ideal S1x768x256 .f32) (m : Vec Ideal S1x1x256 .f32) (q : Fin 256) :
    k0_pay209 (k0_pay206 m) (k0_pay207 s m) (ix2 0 q) = w2 (m (ix3 0 0 q)) (dM 2 (fun κ : Fin 768 => s (ix3 0 κ q)) (m (ix3 0 0 q)) q) := by
  pointwise [k0_pay209, k0_pay206, dM2_at, w2]
  rfl

theorem dL2_at (s : Vec Ideal S1x768x256 .f32) (m l : Vec Ideal S1x1x256 .f32) (q : Fin 256) :
    dL2 s m l (ix3 0 0 q) = l (ix3 0 0 q) * w2 (m (ix3 0 0 q)) (dM 2 (fun κ : Fin 768 => s (ix3 0 κ q)) (m (ix3 0 0 q)) q)
      + ∑ κ : Fin 768, w2 (mk 2 (fun κ => s (ix3 0 κ q)) q κ) (dM 2 (fun κ : Fin 768 => s (ix3 0 κ q)) (m (ix3 0 0 q)) q) := by
  pointwise [dL2, k0_pay210, dP2_at, dC2_at]

theorem dA2_at (s : Vec Ideal S1x768x256 .f32) (m : Vec Ideal S1x1x256 .f32) (a : Vec Ideal S1x128x256 .f32) (v : Vec Ideal S1x1x1x128x768 .bf16) (d : Fin 128) (q : Fin 256) :
    dA2 s m a v (ix3 0 d q) = a (ix3 0 d q) * w2 (m (ix3 0 0 q)) (dM 2 (fun κ : Fin 768 => s (ix3 0 κ q)) (m (ix3 0 0 q)) q)
      + ∑ κ : Fin 768, v (ix5 0 0 0 d κ) * w2 (mk 2 (fun κ => s (ix3 0 κ q)) q κ) (dM 2 (fun κ : Fin 768 => s (ix3 0 κ q)) (m (ix3 0 0 q)) q) := by
  pointwise [dA2, k0_pay211, dP2_at, dC2_at]

def dL3 (s : Vec Ideal S1x1024x256 .f32) (m l : Vec Ideal S1x1x256 .f32) : Vec Ideal S1x1x256 .f32 := k0_pay220 (k0_pay213 s) row3 col3 off3 m l
def dA3 (s : Vec Ideal S1x1024x256 .f32) (m : Vec Ideal S1x1x256 .f32) (a : Vec Ideal S1x128x256 .f32) (v : Vec Ideal S1x1x1x128x1024 .bf16) : Vec Ideal S1x128x256 .f32 := k0_pay221 (k0_pay213 s) row3 col3 off3 m a v

theorem mask3_at (s : Vec Ideal S1x1024x256 .f32) (κ : Fin 1024) (q : Fin 256) : k0_pay215 (k0_pay213 s) row3 col3 off3 (ix2 κ q) = mk 3 (fun κ => s (ix3 0 κ q)) q κ := by
  pointwise [k0_pay215, k0_pay213, row3, col3, off3, k0_pay214, mk]
  rw [pick (lt_of_lt_of_le κ.2 (by decide)) q.2 (by decide)]; rfl

theorem dM3_at (s : Vec Ideal S1x1024x256 .f32) (m : Vec Ideal S1x1x256 .f32) (q : Fin 256) : k0_pay217 (k0_pay213 s) row3 col3 off3 m (ix2 0 q) = (dM 3 (fun κ : Fin 1024 => s (ix3 0 κ q)) (m (ix3 0 0 q)) q) := by
  pointwise [k0_pay217, k0_pay216, mask3_at, dM]
  rw [fold_bot]

theorem dP3_at (s : Vec Ideal S1x1024x256 .f32) (m : Vec Ideal S1x1x256 .f32) (κ : Fin 1024) (q : Fin 256) :
    k0_pay218 (k0_pay213 s) row3 col3 off3 m (ix2 κ q) = w2 (mk 3 (fun κ => s (ix3 0 κ q)) q κ) (dM 3 (fun κ : Fin 1024 => s (ix3 0 κ q)) (m (ix3 0 0 q)) q) := by
  pointwise [k0_pay218, mask3_at, dM3_at, w2]
  rfl

theorem dC3_at (s : Vec Ideal S1x1024x256 .f32) (m : Vec Ideal S1x1x256 .f32) (q : Fin 256) :
    k0_pay219 (k0_pay213 s) row3 col3 off3 m (ix2 0 q) = w2 (m (ix3 0 0 q)) (dM 3 (fun κ : Fin 1024 => s (ix3 0 κ q)) (m (ix3 0 0 q)) q) := by
  pointwise [k0_pay219, k0_pay216, dM3_at, w2]
  rfl

theorem dL3_at (s : Vec Ideal S1x1024x256 .f32) (m l : Vec Ideal S1x1x256 .f32) (q : Fin 256) :
    dL3 s m l (ix3 0 0 q) = l (ix3 0 0 q) * w2 (m (ix3 0 0 q)) (dM 3 (fun κ : Fin 1024 => s (ix3 0 κ q)) (m (ix3 0 0 q)) q)
      + ∑ κ : Fin 1024, w2 (mk 3 (fun κ => s (ix3 0 κ q)) q κ) (dM 3 (fun κ : Fin 1024 => s (ix3 0 κ q)) (m (ix3 0 0 q)) q) := by
  pointwise [dL3, k0_pay220, dP3_at, dC3_at]

theorem dA3_at (s : Vec Ideal S1x1024x256 .f32) (m : Vec Ideal S1x1x256 .f32) (a : Vec Ideal S1x128x256 .f32) (v : Vec Ideal S1x1x1x128x1024 .bf16) (d : Fin 128) (q : Fin 256) :
    dA3 s m a v (ix3 0 d q) = a (ix3 0 d q) * w2 (m (ix3 0 0 q)) (dM 3 (fun κ : Fin 1024 => s (ix3 0 κ q)) (m (ix3 0 0 q)) q)
      + ∑ κ : Fin 1024, v (ix5 0 0 0 d κ) * w2 (mk 3 (fun κ => s (ix3 0 κ q)) q κ) (dM 3 (fun κ : Fin 1024 => s (ix3 0 κ q)) (m (ix3 0 0 q)) q) := by
  pointwise [dA3, k0_pay221, dP3_at, dC3_at]

/-- A group's rows of the output block. -/
def outg (a : Vec Ideal S1x128x256 .f32) (l : Vec Ideal S1x1x256 .f32) : Vec Ideal S1x256x128 .f32 := k0_pay329 a l

theorem outg_at (a : Vec Ideal S1x128x256 .f32) (l : Vec Ideal S1x1x256 .f32) (q : Fin 256) (d : Fin 128) :
    outg a l (ix3 0 q d) = Ideal.div (a (ix3 0 d q)) (l (ix3 0 0 q)) := by
  pointwise [outg, k0_pay329]

end Cert.FoxIdeal.Body

end
-- ==== Proof.FoxTrip.lean ====
module

public import proofs.«01_k».proof.Proof.FoxIdealBody
public import proofs.«01_k».proof.Proof.FoxPoint
public import Idealize.ShloMosaic.Lib.Pipeline.ReadBack
public import Idealize.ShloMosaic.Lib.Tactic.RunNames

/-! What one trip leaves in each scratch buffer, group by group: the scores of the next even block, their maxima,
    and the running maximum, sum and weighted sum after the even block carried in and the odd block of the trip. -/

@[expose] public section

set_option maxRecDepth 16384

noncomputable section

namespace Cert.FoxIdeal.Body

open Idealize.ShloMosaic Idealize.ShloMosaic.TcCoe Idealize.ShloMosaic.Tactic
open Cert.FoxIdeal.Gen

variable (c : Dev nD) (i : grid0.Coords) (arg3 : Memref sig .tc .vmem S1x1x1x1024x256 .bf16) (harg3 : arg3.IsWhole) (arg4 : Memref sig .tc .vmem S1x1x16x1024x256 .bf16) (harg4 : arg4.IsWhole) (arg5 : Memref sig .tc .vmem S1x1x16x128x1024 .bf16) (harg5 : arg5.IsWhole) (arg6 : Memref sig .tc .vmem S1x1024x128 .f32) (harg6 : arg6.IsWhole) (arg7 : Memref sig .tc .vmem S4x1024x256 .f32) (harg7 : arg7.IsWhole) (arg8 : Memref sig .tc .vmem S4x1024x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x1x256 .f32) (harg12 : arg12.IsWhole) (arg13 : Memref sig .tc .vmem S4x128x256 .f32) (harg13 : arg13.IsWhole)

section Reads

variable {sig' : RefSig} {κ : Kind} {sp : Space} {s : Shape} {e : EltTy} {Val : EltTy → Type}

/-- A load of the rectangle stored last reads what was stored. -/
theorem readAt_head [∀ e, Nonempty (Val e)] (v : View sig κ sp s e) (f : v.ty.Contents Val) (r : Rect s) (w : r.shape.Idx → Val e) (L : List (View.Piece Val s e)) :
    v.readAt Val r.toLoadRect (v.writes Val f (⟨r, w⟩ :: L)) = w := by
  funext j
  exact View.read_writes_cons_emb v f r w L j

/-- A load apart from the rectangle stored last reads what was there before. -/
theorem readAt_skip (v : View sig κ sp s e) (f : v.ty.Contents Val) (r : Rect s) (w : r.shape.Idx → Val e) (L : List (View.Piece Val s e)) (B : LoadRect s)
    (h : LoadRect.disj r B = true) :
    v.readAt Val B (v.writes Val f (⟨r, w⟩ :: L)) = v.readAt Val B (v.writes Val f L) := by
  funext j
  have hy : B.idx j ∉ Finset.univ.map r.emb := by rw [Rect.map_emb_univ]; exact LoadRect.idx_not_mem_of_disj h j
  show v.read Val (v.writes Val f (⟨r, w⟩ :: L)) (B.idx j) = v.read Val (v.writes Val f L) (B.idx j)
  rw [View.writes_cons, View.read_slice_write_of_not_mem r _ _ _ hy]

end Reads

variable (arg2 : BitVec 32) (v13 : FVec Ideal S1024x256 .bf16) (k : Fin (k0_t1_loop i).trips)
  (f3 : Buf (Elt Ideal) (arg3.view.loc (c : Thread nD τ))) (f4 : Buf (Elt Ideal) (arg4.view.loc (c : Thread nD τ))) (f5 : Buf (Elt Ideal) (arg5.view.loc (c : Thread nD τ))) (f7 : Buf (Elt Ideal) (arg7.view.loc (c : Thread nD τ))) (f9 : Buf (Elt Ideal) (arg9.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ)))

/-- The keys' even and odd block of trip `k`, and the values of the two blocks it adds in. -/
abbrev KE := arg4.view.readAt (Elt Ideal) (Rect.unit (s := S1x1x16x1024x256) (k0_off1 i k 2#32) S1x1x1x1024x256.size (k0_off1_inb i k 1)).toLoadRect f4
abbrev KO := arg4.view.readAt (Elt Ideal) (Rect.unit (s := S1x1x16x1024x256) (k0_off1 i k 1#32) S1x1x1x1024x256.size (k0_off1_inb i k 0)).toLoadRect f4
abbrev VE := arg5.view.readAt (Elt Ideal) (Rect.unit (s := S1x1x16x128x1024) (k0_off2 i k) S1x1x1x128x1024.size (k0_off2_inb i k)).toLoadRect f5
abbrev VO' := arg5.view.readAt (Elt Ideal) (Rect.unit (s := S1x1x16x128x1024) (k0_off3 i k) S1x1x1x128x1024.size (k0_off3_inb i k)).toLoadRect f5

abbrev qg0 := arg3.view.readAt (Elt Ideal) (Rect.unit (s := S1x1x1x1024x256) ![0, 0, 0, 0, 0] S1x1x1x256x256.size (inb_S1x1x1x1024x256_S1x1x1x256x256_0_0_0_0_0)).toLoadRect f3
abbrev g7_0 := arg7.view.readAt (Elt Ideal) (Rect.unit (s := S4x1024x256) ![0, 0, 0] S1x1024x256.size inb_S4x1024x256_S1x1024x256_0_0_0).toLoadRect f7
abbrev g8_0 (f8 : Buf (Elt Ideal) (arg8.view.loc (c : Thread nD τ))) := arg8.view.readAt (Elt Ideal) (Rect.unit (s := S4x1024x256) ![0, 0, 0] S1x1024x256.size inb_S4x1024x256_S1x1024x256_0_0_0).toLoadRect f8
abbrev g9_0 := arg9.view.readAt (Elt Ideal) (Rect.unit (s := S4x1x256) ![0, 0, 0] S1x1x256.size inb_S4x1x256_S1x1x256_0_0_0).toLoadRect f9
abbrev g11_0 := arg11.view.readAt (Elt Ideal) (Rect.unit (s := S4x1x256) ![0, 0, 0] S1x1x256.size inb_S4x1x256_S1x1x256_0_0_0).toLoadRect f11
abbrev g12_0 := arg12.view.readAt (Elt Ideal) (Rect.unit (s := S4x1x256) ![0, 0, 0] S1x1x256.size inb_S4x1x256_S1x1x256_0_0_0).toLoadRect f12
abbrev g13_0 := arg13.view.readAt (Elt Ideal) (Rect.unit (s := S4x128x256) ![0, 0, 0] S1x128x256.size inb_S4x128x256_S1x128x256_0_0_0).toLoadRect f13

abbrev qg1 := arg3.view.readAt (Elt Ideal) (Rect.unit (s := S1x1x1x1024x256) ![0, 0, 0, 256, 0] S1x1x1x256x256.size (inb_S1x1x1x1024x256_S1x1x1x256x256_0_0_0_256_0)).toLoadRect f3
abbrev g7_1 := arg7.view.readAt (Elt Ideal) (Rect.unit (s := S4x1024x256) ![1, 0, 0] S1x1024x256.size inb_S4x1024x256_S1x1024x256_1_0_0).toLoadRect f7
abbrev g8_1 (f8 : Buf (Elt Ideal) (arg8.view.loc (c : Thread nD τ))) := arg8.view.readAt (Elt Ideal) (Rect.unit (s := S4x1024x256) ![1, 0, 0] S1x1024x256.size inb_S4x1024x256_S1x1024x256_1_0_0).toLoadRect f8
abbrev g9_1 := arg9.view.readAt (Elt Ideal) (Rect.unit (s := S4x1x256) ![1, 0, 0] S1x1x256.size inb_S4x1x256_S1x1x256_1_0_0).toLoadRect f9
abbrev g11_1 := arg11.view.readAt (Elt Ideal) (Rect.unit (s := S4x1x256) ![1, 0, 0] S1x1x256.size inb_S4x1x256_S1x1x256_1_0_0).toLoadRect f11
abbrev g12_1 := arg12.view.readAt (Elt Ideal) (Rect.unit (s := S4x1x256) ![1, 0, 0] S1x1x256.size inb_S4x1x256_S1x1x256_1_0_0).toLoadRect f12
abbrev g13_1 := arg13.view.readAt (Elt Ideal) (Rect.unit (s := S4x128x256) ![1, 0, 0] S1x128x256.size inb_S4x128x256_S1x128x256_1_0_0).toLoadRect f13

abbrev qg2 := arg3.view.readAt (Elt Ideal) (Rect.unit (s := S1x1x1x1024x256) ![0, 0, 0, 512, 0] S1x1x1x256x256.size (inb_S1x1x1x1024x256_S1x1x1x256x256_0_0_0_512_0)).toLoadRect f3
abbrev g7_2 := arg7.view.readAt (Elt Ideal) (Rect.unit (s := S4x1024x256) ![2, 0, 0] S1x1024x256.size inb_S4x1024x256_S1x1024x256_2_0_0).toLoadRect f7
abbrev g8_2 (f8 : Buf (Elt Ideal) (arg8.view.loc (c : Thread nD τ))) := arg8.view.readAt (Elt Ideal) (Rect.unit (s := S4x1024x256) ![2, 0, 0] S1x1024x256.size inb_S4x1024x256_S1x1024x256_2_0_0).toLoadRect f8
abbrev g9_2 := arg9.view.readAt (Elt Ideal) (Rect.unit (s := S4x1x256) ![2, 0, 0] S1x1x256.size inb_S4x1x256_S1x1x256_2_0_0).toLoadRect f9
abbrev g11_2 := arg11.view.readAt (Elt Ideal) (Rect.unit (s := S4x1x256) ![2, 0, 0] S1x1x256.size inb_S4x1x256_S1x1x256_2_0_0).toLoadRect f11
abbrev g12_2 := arg12.view.readAt (Elt Ideal) (Rect.unit (s := S4x1x256) ![2, 0, 0] S1x1x256.size inb_S4x1x256_S1x1x256_2_0_0).toLoadRect f12
abbrev g13_2 := arg13.view.readAt (Elt Ideal) (Rect.unit (s := S4x128x256) ![2, 0, 0] S1x128x256.size inb_S4x128x256_S1x128x256_2_0_0).toLoadRect f13

abbrev qg3 := arg3.view.readAt (Elt Ideal) (Rect.unit (s := S1x1x1x1024x256) ![0, 0, 0, 768, 0] S1x1x1x256x256.size (inb_S1x1x1x1024x256_S1x1x1x256x256_0_0_0_768_0)).toLoadRect f3
abbrev g7_3 := arg7.view.readAt (Elt Ideal) (Rect.unit (s := S4x1024x256) ![3, 0, 0] S1x1024x256.size inb_S4x1024x256_S1x1024x256_3_0_0).toLoadRect f7
abbrev g8_3 (f8 : Buf (Elt Ideal) (arg8.view.loc (c : Thread nD τ))) := arg8.view.readAt (Elt Ideal) (Rect.unit (s := S4x1024x256) ![3, 0, 0] S1x1024x256.size inb_S4x1024x256_S1x1024x256_3_0_0).toLoadRect f8
abbrev g9_3 := arg9.view.readAt (Elt Ideal) (Rect.unit (s := S4x1x256) ![3, 0, 0] S1x1x256.size inb_S4x1x256_S1x1x256_3_0_0).toLoadRect f9
abbrev g11_3 := arg11.view.readAt (Elt Ideal) (Rect.unit (s := S4x1x256) ![3, 0, 0] S1x1x256.size inb_S4x1x256_S1x1x256_3_0_0).toLoadRect f11
abbrev g12_3 := arg12.view.readAt (Elt Ideal) (Rect.unit (s := S4x1x256) ![3, 0, 0] S1x1x256.size inb_S4x1x256_S1x1x256_3_0_0).toLoadRect f12
abbrev g13_3 := arg13.view.readAt (Elt Ideal) (Rect.unit (s := S4x128x256) ![3, 0, 0] S1x128x256.size inb_S4x128x256_S1x128x256_3_0_0).toLoadRect f13

set_option maxHeartbeats 2000000 in
theorem trip7_0 : g7_0 c arg7 (arg7.view.writes (Elt Ideal) f7 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).1)
    = sc (KE c i arg4 k f4) (qg0 c arg3 f3) := by
  unfold tripRun
  dsimp only [g7_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip7_1 : g7_1 c arg7 (arg7.view.writes (Elt Ideal) f7 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).1)
    = sc (KE c i arg4 k f4) (qg1 c arg3 f3) := by
  unfold tripRun
  dsimp only [g7_1]
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip7_2 : g7_2 c arg7 (arg7.view.writes (Elt Ideal) f7 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).1)
    = sc (KE c i arg4 k f4) (qg2 c arg3 f3) := by
  unfold tripRun
  dsimp only [g7_2]
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip7_3 : g7_3 c arg7 (arg7.view.writes (Elt Ideal) f7 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).1)
    = sc (KE c i arg4 k f4) (qg3 c arg3 f3) := by
  unfold tripRun
  dsimp only [g7_3]
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip9_0 : g9_0 c arg9 (arg9.view.writes (Elt Ideal) f9 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.1)
    = smx (KE c i arg4 k f4) (qg0 c arg3 f3) := by
  unfold tripRun
  dsimp only [g9_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip9_1 : g9_1 c arg9 (arg9.view.writes (Elt Ideal) f9 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.1)
    = smx (KE c i arg4 k f4) (qg1 c arg3 f3) := by
  unfold tripRun
  dsimp only [g9_1]
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip9_2 : g9_2 c arg9 (arg9.view.writes (Elt Ideal) f9 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.1)
    = smx (KE c i arg4 k f4) (qg2 c arg3 f3) := by
  unfold tripRun
  dsimp only [g9_2]
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip9_3 : g9_3 c arg9 (arg9.view.writes (Elt Ideal) f9 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.1)
    = smx (KE c i arg4 k f4) (qg3 c arg3 f3) := by
  unfold tripRun
  dsimp only [g9_3]
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip11_0 : g11_0 c arg11 (arg11.view.writes (Elt Ideal) f11 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.1)
    = nM (nM (g11_0 c arg11 f11) (g9_0 c arg9 f9)) (smx (KO c i arg4 k f4) (qg0 c arg3 f3)) := by
  unfold tripRun
  dsimp only [g11_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip11_1 : g11_1 c arg11 (arg11.view.writes (Elt Ideal) f11 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.1)
    = nM (nM (g11_1 c arg11 f11) (g9_1 c arg9 f9)) (smx (KO c i arg4 k f4) (qg1 c arg3 f3)) := by
  unfold tripRun
  dsimp only [g11_1]
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip11_2 : g11_2 c arg11 (arg11.view.writes (Elt Ideal) f11 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.1)
    = nM (nM (g11_2 c arg11 f11) (g9_2 c arg9 f9)) (smx (KO c i arg4 k f4) (qg2 c arg3 f3)) := by
  unfold tripRun
  dsimp only [g11_2]
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip11_3 : g11_3 c arg11 (arg11.view.writes (Elt Ideal) f11 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.1)
    = nM (nM (g11_3 c arg11 f11) (g9_3 c arg9 f9)) (smx (KO c i arg4 k f4) (qg3 c arg3 f3)) := by
  unfold tripRun
  dsimp only [g11_3]
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip12_0 : g12_0 c arg12 (arg12.view.writes (Elt Ideal) f12 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.2.1)
    = nL (sc (KO c i arg4 k f4) (qg0 c arg3 f3)) (nM (g11_0 c arg11 f11) (g9_0 c arg9 f9)) (smx (KO c i arg4 k f4) (qg0 c arg3 f3)) (nL (g7_0 c arg7 f7) (g11_0 c arg11 f11) (g9_0 c arg9 f9) (g12_0 c arg12 f12)) := by
  unfold tripRun
  dsimp only [g12_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip12_1 : g12_1 c arg12 (arg12.view.writes (Elt Ideal) f12 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.2.1)
    = nL (sc (KO c i arg4 k f4) (qg1 c arg3 f3)) (nM (g11_1 c arg11 f11) (g9_1 c arg9 f9)) (smx (KO c i arg4 k f4) (qg1 c arg3 f3)) (nL (g7_1 c arg7 f7) (g11_1 c arg11 f11) (g9_1 c arg9 f9) (g12_1 c arg12 f12)) := by
  unfold tripRun
  dsimp only [g12_1]
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip12_2 : g12_2 c arg12 (arg12.view.writes (Elt Ideal) f12 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.2.1)
    = nL (sc (KO c i arg4 k f4) (qg2 c arg3 f3)) (nM (g11_2 c arg11 f11) (g9_2 c arg9 f9)) (smx (KO c i arg4 k f4) (qg2 c arg3 f3)) (nL (g7_2 c arg7 f7) (g11_2 c arg11 f11) (g9_2 c arg9 f9) (g12_2 c arg12 f12)) := by
  unfold tripRun
  dsimp only [g12_2]
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip12_3 : g12_3 c arg12 (arg12.view.writes (Elt Ideal) f12 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.2.1)
    = nL (sc (KO c i arg4 k f4) (qg3 c arg3 f3)) (nM (g11_3 c arg11 f11) (g9_3 c arg9 f9)) (smx (KO c i arg4 k f4) (qg3 c arg3 f3)) (nL (g7_3 c arg7 f7) (g11_3 c arg11 f11) (g9_3 c arg9 f9) (g12_3 c arg12 f12)) := by
  unfold tripRun
  dsimp only [g12_3]
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip13_0 : g13_0 c arg13 (arg13.view.writes (Elt Ideal) f13 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.2.2.1)
    = nA (sc (KO c i arg4 k f4) (qg0 c arg3 f3)) (nM (g11_0 c arg11 f11) (g9_0 c arg9 f9)) (smx (KO c i arg4 k f4) (qg0 c arg3 f3)) (nA (g7_0 c arg7 f7) (g11_0 c arg11 f11) (g9_0 c arg9 f9) (g13_0 c arg13 f13) (VE c i arg5 k f5)) (VO' c i arg5 k f5) := by
  unfold tripRun
  dsimp only [g13_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip13_1 : g13_1 c arg13 (arg13.view.writes (Elt Ideal) f13 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.2.2.1)
    = nA (sc (KO c i arg4 k f4) (qg1 c arg3 f3)) (nM (g11_1 c arg11 f11) (g9_1 c arg9 f9)) (smx (KO c i arg4 k f4) (qg1 c arg3 f3)) (nA (g7_1 c arg7 f7) (g11_1 c arg11 f11) (g9_1 c arg9 f9) (g13_1 c arg13 f13) (VE c i arg5 k f5)) (VO' c i arg5 k f5) := by
  unfold tripRun
  dsimp only [g13_1]
  refine (readAt_skip _ _ _ _ _ _ ?_).trans ?_; · decide
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip13_2 : g13_2 c arg13 (arg13.view.writes (Elt Ideal) f13 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.2.2.1)
    = nA (sc (KO c i arg4 k f4) (qg2 c arg3 f3)) (nM (g11_2 c arg11 f11) (g9_2 c arg9 f9)) (smx (KO c i arg4 k f4) (qg2 c arg3 f3)) (nA (g7_2 c arg7 f7) (g11_2 c arg11 f11) (g9_2 c arg9 f9) (g13_2 c arg13 f13) (VE c i arg5 k f5)) (VO' c i arg5 k f5) := by
  unfold tripRun
  dsimp only [g13_2]
  refine (readAt_skip _ _ _ _ _ _ ?_).trans ?_; · decide
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

set_option maxHeartbeats 2000000 in
theorem trip13_3 : g13_3 c arg13 (arg13.view.writes (Elt Ideal) f13 (tripRun (F := Ideal) c i arg3 harg3 arg4 harg4 arg5 harg5 arg6 harg6 arg7 harg7 arg8 harg8 arg9 harg9 arg10 harg10 arg11 harg11 arg12 harg12 arg13 harg13 arg2 v13 k f3 f4 f5 f7 f9 f11 f12 f13).2.2.2.2.1)
    = nA (sc (KO c i arg4 k f4) (qg3 c arg3 f3)) (nM (g11_3 c arg11 f11) (g9_3 c arg9 f9)) (smx (KO c i arg4 k f4) (qg3 c arg3 f3)) (nA (g7_3 c arg7 f7) (g11_3 c arg11 f11) (g9_3 c arg9 f9) (g13_3 c arg13 f13) (VE c i arg5 k f5)) (VO' c i arg5 k f5) := by
  unfold tripRun
  dsimp only [g13_3]
  refine (readAt_head _ _ _ _ _).trans ?_
  simp (disch := decide) only [tripRun.sl.r_13, tripRun.sl.H11_6, tripRun.sl.v515, tripRun.sl.v505, tripRun.sl.H8_4, tripRun.sl.v281, tripRun.sl.v377, tripRun.sl.r_5, tripRun.sl.H10_4, tripRun.sl.r_10, tripRun.sl.r_4, tripRun.sl.v391, tripRun.sl.r_24, tripRun.sl.v524, tripRun.sl.r_22, tripRun.sl.v271, tripRun.sl.v290, tripRun.sl.v308, tripRun.sl.v503, tripRun.sl.v470, tripRun.sl.r_3, tripRun.sl.r_23, tripRun.sl.v478, tripRun.sl.r_29, tripRun.sl.v253, tripRun.sl.v429, tripRun.sl.r_14, tripRun.sl.v327, tripRun.sl.cst_233, tripRun.sl.v466, tripRun.sl.v431, tripRun.sl.r_9, tripRun.sl.r_20, tripRun.sl.v394, tripRun.sl.H13_5, tripRun.sl.r_30, tripRun.sl.H12_6, tripRun.sl.r_2, tripRun.sl.r_19, tripRun.sl.r_1, tripRun.sl.v396, tripRun.sl.r_27, tripRun.sl.v487, tripRun.sl.r_28, tripRun.sl.H12_5, tripRun.sl.r_18, tripRun.sl.v507, tripRun.sl.v404, tripRun.sl.v433, tripRun.sl.arg14, tripRun.sl.H12_4, tripRun.sl.r_12, tripRun.sl.r_11, tripRun.sl.v392, tripRun.sl.v318, tripRun.sl.v468, tripRun.sl.H11_5, tripRun.sl.v413, tripRun.sl.r_15, tripRun.sl.H11_7, tripRun.sl.H13_7, tripRun.sl.r_21, tripRun.sl.v234, tripRun.sl.r_17, tripRun.sl.r_26, tripRun.sl.H11_4, tripRun.sl.H12_7, tripRun.sl.v441, tripRun.sl.v450, tripRun.sl.r_6, tripRun.sl.r_7, tripRun.sl.r, tripRun.sl.v146, tripRun.sl.r_16, tripRun.sl.H13_4, tripRun.sl.r_25, tripRun.sl.r_8, tripRun.sl.H13_6, tripRun.sl.r_31, tripRun.sl.v244, View.readCov_cons_toLoadRect, View.readCov_skip]
  rfl

end Cert.FoxIdeal.Body

end
-- ==== Proof.FoxFin.lean ====
module

public import proofs.«01_k».proof.Proof.FoxIdealBody
public import proofs.«01_k».proof.Proof.FoxTrip
public import Idealize.ShloMosaic.Lib.Pipeline.ReadBack
public import Idealize.ShloMosaic.Lib.Tactic.RunNames

/-! What the body leaves in each group of rows of the output block, over the scratch contents after the loop. -/

@[expose] public section

set_option maxRecDepth 16384

noncomputable section

namespace Cert.FoxIdeal.Body

open Idealize.ShloMosaic Idealize.ShloMosaic.TcCoe Idealize.ShloMosaic.Tactic
open Cert.FoxIdeal.Gen

variable (c : Dev nD) (i : grid0.Coords) (arg3 : Memref sig .tc .vmem S1x1x1x1024x256 .bf16) (harg3 : arg3.IsWhole) (arg4 : Memref sig .tc .vmem S1x1x16x1024x256 .bf16) (harg4 : arg4.IsWhole) (arg5 : Memref sig .tc .vmem S1x1x16x128x1024 .bf16) (harg5 : arg5.IsWhole) (arg6 : Memref sig .tc .vmem S1x1024x128 .f32) (harg6 : arg6.IsWhole) (arg7 : Memref sig .tc .vmem S4x1024x256 .f32) (harg7 : arg7.IsWhole) (arg8 : Memref sig .tc .vmem S4x1024x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x1x256 .f32) (harg12 : arg12.IsWhole) (arg13 : Memref sig .tc .vmem S4x128x256 .f32) (harg13 : arg13.IsWhole)

variable (f3 : Buf (Elt Ideal) (arg3.view.loc (c : Thread nD τ))) (f4 : Buf (Elt Ideal) (arg4.view.loc (c : Thread nD τ))) (f5 : Buf (Elt Ideal) (arg5.view.loc (c : Thread nD τ)))

theorem pieces_congr {r0 r1 r2 r3 : Rect S1x1024x128} {w0 w0' : r0.shape.Idx → EReal} {w1 w1' : r1.shape.Idx → EReal}
    {w2 w2' : r2.shape.Idx → EReal} {w3 w3' : r3.shape.Idx → EReal} (h3 : w3 = w3') (h2 : w2 = w2') (h1 : w1 = w1') (h0 : w0 = w0') :
    ([⟨r3, w3⟩, ⟨r2, w2⟩, ⟨r1, w1⟩, ⟨r0, w0⟩] : List (View.Piece (Elt Ideal) S1x1024x128 .f32)) = [⟨r3, w3'⟩, ⟨r2, w2'⟩, ⟨r1, w1'⟩, ⟨r0, w0'⟩] := by
  subst h3; subst h2; subst h1; subst h0; rfl

theorem last_of_rec {α : Type} (a : α) (f : ℕ → α) (h : f 0 = a) (n : ℕ) : (Nat.rec (motive := fun _ => α) a (fun _ _ => f n) n : α) = f n := by
  cases n with
  | zero => exact h.symm
  | succ n => rfl

/-- The scratch buffers before the loop, and after it. -/
def ev0 : St (F := Ideal) c arg7 arg9 arg11 arg12 arg13 :=
  ⟨arg7.view.writes (Elt Ideal) arg7.view.junk (bodyRunEven.sl.H7_4 c arg3 arg4 f3 f4), arg9.view.writes (Elt Ideal) arg9.view.junk (bodyRunEven.sl.H9_4 c arg3 arg4 f3 f4),
    arg11.view.writes (Elt Ideal) arg11.view.junk bodyRunEven.sl.H11_1, arg12.view.writes (Elt Ideal) arg12.view.junk bodyRunEven.sl.H12_1, arg13.view.writes (Elt Ideal) arg13.view.junk bodyRunEven.sl.H13_1⟩
abbrev ev1 : St (F := Ideal) c arg7 arg9 arg11 arg12 arg13 :=
  stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) (k0_t1_loop i).trips

@[irreducible] def evR7 : Buf (Elt Ideal) (arg7.view.loc (c : Thread nD τ)) :=
  Nat.rec (motive := fun _ => Buf (Elt Ideal) (arg7.view.loc (c : Thread nD τ))) (ev0 c arg3 arg4 arg7 arg9 arg11 arg12 arg13 f3 f4).s7
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) (Scf.trips (k0_t1_loop i).lb (k0_t1_loop i).ub (k0_t1_loop i).st)).s7) (Scf.trips (k0_t1_loop i).lb (k0_t1_loop i).ub (k0_t1_loop i).st)
theorem evR7_eq : evR7 c i arg3 harg3 arg4 harg4 arg5 harg5 arg6 harg6 arg7 harg7 arg8 harg8 arg9 harg9 arg10 harg10 arg11 harg11 arg12 harg12 arg13 harg13 f3 f4 f5 = (ev1 c i arg3 harg3 arg4 harg4 arg5 harg5 arg6 harg6 arg7 harg7 arg8 harg8 arg9 harg9 arg10 harg10 arg11 harg11 arg12 harg12 arg13 harg13 f3 f4 f5).s7 := by
  unfold evR7
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) n).s7) rfl _

@[irreducible] def evR9 : Buf (Elt Ideal) (arg9.view.loc (c : Thread nD τ)) :=
  Nat.rec (motive := fun _ => Buf (Elt Ideal) (arg9.view.loc (c : Thread nD τ))) (ev0 c arg3 arg4 arg7 arg9 arg11 arg12 arg13 f3 f4).s9
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) (Scf.trips (k0_t1_loop i).lb (k0_t1_loop i).ub (k0_t1_loop i).st)).s9) (Scf.trips (k0_t1_loop i).lb (k0_t1_loop i).ub (k0_t1_loop i).st)
theorem evR9_eq : evR9 c i arg3 harg3 arg4 harg4 arg5 harg5 arg6 harg6 arg7 harg7 arg8 harg8 arg9 harg9 arg10 harg10 arg11 harg11 arg12 harg12 arg13 harg13 f3 f4 f5 = (ev1 c i arg3 harg3 arg4 harg4 arg5 harg5 arg6 harg6 arg7 harg7 arg8 harg8 arg9 harg9 arg10 harg10 arg11 harg11 arg12 harg12 arg13 harg13 f3 f4 f5).s9 := by
  unfold evR9
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) n).s9) rfl _

@[irreducible] def evR11 : Buf (Elt Ideal) (arg11.view.loc (c : Thread nD τ)) :=
  Nat.rec (motive := fun _ => Buf (Elt Ideal) (arg11.view.loc (c : Thread nD τ))) (ev0 c arg3 arg4 arg7 arg9 arg11 arg12 arg13 f3 f4).s11
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) (Scf.trips (k0_t1_loop i).lb (k0_t1_loop i).ub (k0_t1_loop i).st)).s11) (Scf.trips (k0_t1_loop i).lb (k0_t1_loop i).ub (k0_t1_loop i).st)
theorem evR11_eq : evR11 c i arg3 harg3 arg4 harg4 arg5 harg5 arg6 harg6 arg7 harg7 arg8 harg8 arg9 harg9 arg10 harg10 arg11 harg11 arg12 harg12 arg13 harg13 f3 f4 f5 = (ev1 c i arg3 harg3 arg4 harg4 arg5 harg5 arg6 harg6 arg7 harg7 arg8 harg8 arg9 harg9 arg10 harg10 arg11 harg11 arg12 harg12 arg13 harg13 f3 f4 f5).s11 := by
  unfold evR11
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) n).s11) rfl _

@[irreducible] def evR12 : Buf (Elt Ideal) (arg12.view.loc (c : Thread nD τ)) :=
  Nat.rec (motive := fun _ => Buf (Elt Ideal) (arg12.view.loc (c : Thread nD τ))) (ev0 c arg3 arg4 arg7 arg9 arg11 arg12 arg13 f3 f4).s12
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) (Scf.trips (k0_t1_loop i).lb (k0_t1_loop i).ub (k0_t1_loop i).st)).s12) (Scf.trips (k0_t1_loop i).lb (k0_t1_loop i).ub (k0_t1_loop i).st)
theorem evR12_eq : evR12 c i arg3 harg3 arg4 harg4 arg5 harg5 arg6 harg6 arg7 harg7 arg8 harg8 arg9 harg9 arg10 harg10 arg11 harg11 arg12 harg12 arg13 harg13 f3 f4 f5 = (ev1 c i arg3 harg3 arg4 harg4 arg5 harg5 arg6 harg6 arg7 harg7 arg8 harg8 arg9 harg9 arg10 harg10 arg11 harg11 arg12 harg12 arg13 harg13 f3 f4 f5).s12 := by
  unfold evR12
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) n).s12) rfl _

@[irreducible] def evR13 : Buf (Elt Ideal) (arg13.view.loc (c : Thread nD τ)) :=
  Nat.rec (motive := fun _ => Buf (Elt Ideal) (arg13.view.loc (c : Thread nD τ))) (ev0 c arg3 arg4 arg7 arg9 arg11 arg12 arg13 f3 f4).s13
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) (Scf.trips (k0_t1_loop i).lb (k0_t1_loop i).ub (k0_t1_loop i).st)).s13) (Scf.trips (k0_t1_loop i).lb (k0_t1_loop i).ub (k0_t1_loop i).st)
theorem evR13_eq : evR13 c i arg3 harg3 arg4 harg4 arg5 harg5 arg6 harg6 arg7 harg7 arg8 harg8 arg9 harg9 arg10 harg10 arg11 harg11 arg12 harg12 arg13 harg13 f3 f4 f5 = (ev1 c i arg3 harg3 arg4 harg4 arg5 harg5 arg6 harg6 arg7 harg7 arg8 harg8 arg9 harg9 arg10 harg10 arg11 harg11 arg12 harg12 arg13 harg13 f3 f4 f5).s13 := by
  unfold evR13
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunEven.sl.r c arg4 f4) f3 f4 f5 (ev0 c arg3 arg4 arg7 arg9 arg11 arg12 arg13 f3 f4) n).s13) rfl _

/-- The scratch buffers before the loop, and after it. -/
def od0 : St (F := Ideal) c arg7 arg9 arg11 arg12 arg13 :=
  ⟨arg7.view.writes (Elt Ideal) arg7.view.junk (bodyRunOdd.sl.H7_4 c arg3 arg4 f3 f4), arg9.view.writes (Elt Ideal) arg9.view.junk (bodyRunOdd.sl.H9_4 c arg3 arg4 f3 f4),
    arg11.view.writes (Elt Ideal) arg11.view.junk bodyRunOdd.sl.H11_1, arg12.view.writes (Elt Ideal) arg12.view.junk bodyRunOdd.sl.H12_1, arg13.view.writes (Elt Ideal) arg13.view.junk bodyRunOdd.sl.H13_1⟩
abbrev od1 : St (F := Ideal) c arg7 arg9 arg11 arg12 arg13 :=
  stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) (k0_t1_loop i).trips

@[irreducible] def odR7 : Buf (Elt Ideal) (arg7.view.loc (c : Thread nD τ)) :=
  Nat.rec (motive := fun _ => Buf (Elt Ideal) (arg7.view.loc (c : Thread nD τ))) (od0 c arg3 arg4 arg7 arg9 arg11 arg12 arg13 f3 f4).s7
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) (Scf.trips (k0_t1_loop i).lb (k0_t1_loop i).ub (k0_t1_loop i).st)).s7) (Scf.trips (k0_t1_loop i).lb (k0_t1_loop i).ub (k0_t1_loop i).st)
theorem odR7_eq : odR7 c i arg3 harg3 arg4 harg4 arg5 harg5 arg6 harg6 arg7 harg7 arg8 harg8 arg9 harg9 arg10 harg10 arg11 harg11 arg12 harg12 arg13 harg13 f3 f4 f5 = (od1 c i arg3 harg3 arg4 harg4 arg5 harg5 arg6 harg6 arg7 harg7 arg8 harg8 arg9 harg9 arg10 harg10 arg11 harg11 arg12 harg12 arg13 harg13 f3 f4 f5).s7 := by
  unfold odR7
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) n).s7) rfl _

@[irreducible] def odR9 : Buf (Elt Ideal) (arg9.view.loc (c : Thread nD τ)) :=
  Nat.rec (motive := fun _ => Buf (Elt Ideal) (arg9.view.loc (c : Thread nD τ))) (od0 c arg3 arg4 arg7 arg9 arg11 arg12 arg13 f3 f4).s9
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) (Scf.trips (k0_t1_loop i).lb (k0_t1_loop i).ub (k0_t1_loop i).st)).s9) (Scf.trips (k0_t1_loop i).lb (k0_t1_loop i).ub (k0_t1_loop i).st)
theorem odR9_eq : odR9 c i arg3 harg3 arg4 harg4 arg5 harg5 arg6 harg6 arg7 harg7 arg8 harg8 arg9 harg9 arg10 harg10 arg11 harg11 arg12 harg12 arg13 harg13 f3 f4 f5 = (od1 c i arg3 harg3 arg4 harg4 arg5 harg5 arg6 harg6 arg7 harg7 arg8 harg8 arg9 harg9 arg10 harg10 arg11 harg11 arg12 harg12 arg13 harg13 f3 f4 f5).s9 := by
  unfold odR9
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) n).s9) rfl _

@[irreducible] def odR11 : Buf (Elt Ideal) (arg11.view.loc (c : Thread nD τ)) :=
  Nat.rec (motive := fun _ => Buf (Elt Ideal) (arg11.view.loc (c : Thread nD τ))) (od0 c arg3 arg4 arg7 arg9 arg11 arg12 arg13 f3 f4).s11
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) (Scf.trips (k0_t1_loop i).lb (k0_t1_loop i).ub (k0_t1_loop i).st)).s11) (Scf.trips (k0_t1_loop i).lb (k0_t1_loop i).ub (k0_t1_loop i).st)
theorem odR11_eq : odR11 c i arg3 harg3 arg4 harg4 arg5 harg5 arg6 harg6 arg7 harg7 arg8 harg8 arg9 harg9 arg10 harg10 arg11 harg11 arg12 harg12 arg13 harg13 f3 f4 f5 = (od1 c i arg3 harg3 arg4 harg4 arg5 harg5 arg6 harg6 arg7 harg7 arg8 harg8 arg9 harg9 arg10 harg10 arg11 harg11 arg12 harg12 arg13 harg13 f3 f4 f5).s11 := by
  unfold odR11
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) n).s11) rfl _

@[irreducible] def odR12 : Buf (Elt Ideal) (arg12.view.loc (c : Thread nD τ)) :=
  Nat.rec (motive := fun _ => Buf (Elt Ideal) (arg12.view.loc (c : Thread nD τ))) (od0 c arg3 arg4 arg7 arg9 arg11 arg12 arg13 f3 f4).s12
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) (Scf.trips (k0_t1_loop i).lb (k0_t1_loop i).ub (k0_t1_loop i).st)).s12) (Scf.trips (k0_t1_loop i).lb (k0_t1_loop i).ub (k0_t1_loop i).st)
theorem odR12_eq : odR12 c i arg3 harg3 arg4 harg4 arg5 harg5 arg6 harg6 arg7 harg7 arg8 harg8 arg9 harg9 arg10 harg10 arg11 harg11 arg12 harg12 arg13 harg13 f3 f4 f5 = (od1 c i arg3 harg3 arg4 harg4 arg5 harg5 arg6 harg6 arg7 harg7 arg8 harg8 arg9 harg9 arg10 harg10 arg11 harg11 arg12 harg12 arg13 harg13 f3 f4 f5).s12 := by
  unfold odR12
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) n).s12) rfl _

@[irreducible] def odR13 : Buf (Elt Ideal) (arg13.view.loc (c : Thread nD τ)) :=
  Nat.rec (motive := fun _ => Buf (Elt Ideal) (arg13.view.loc (c : Thread nD τ))) (od0 c arg3 arg4 arg7 arg9 arg11 arg12 arg13 f3 f4).s13
    (fun _ _ => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) (Scf.trips (k0_t1_loop i).lb (k0_t1_loop i).ub (k0_t1_loop i).st)).s13) (Scf.trips (k0_t1_loop i).lb (k0_t1_loop i).ub (k0_t1_loop i).st)
theorem odR13_eq : odR13 c i arg3 harg3 arg4 harg4 arg5 harg5 arg6 harg6 arg7 harg7 arg8 harg8 arg9 harg9 arg10 harg10 arg11 harg11 arg12 harg12 arg13 harg13 f3 f4 f5 = (od1 c i arg3 harg3 arg4 harg4 arg5 harg5 arg6 harg6 arg7 harg7 arg8 harg8 arg9 harg9 arg10 harg10 arg11 harg11 arg12 harg12 arg13 harg13 f3 f4 f5).s13 := by
  unfold odR13
  exact last_of_rec _ (fun n => (stAt (F := Ideal) c i arg3 harg3 arg4 harg4 arg5 harg5 arg6 harg6 arg7 harg7 arg8 harg8 arg9 harg9 arg10 harg10 arg11 harg11 arg12 harg12 arg13 harg13 (BitVec.ofNat 32 (i 2).val) (bodyRunOdd.sl.r c arg4 f4) f3 f4 f5 (od0 c arg3 arg4 arg7 arg9 arg11 arg12 arg13 f3 f4) n).s13) rfl _

theorem ev_v146 : bodyRunEven.sl.v146 (F := Ideal) c i arg3 harg3 arg4 harg4 arg5 harg5 arg6 harg6 arg7 harg7 arg8 harg8 arg9 harg9 arg10 harg10 arg11 harg11 arg12 harg12 arg13 harg13 f3 f4 f5 = (arg7.view.readAt (Elt Ideal) (Rect.unit (s := S4x1024x256) ![0, 0, 0] S1x256x256.size inb_S4x1024x256_S1x256x256_0_0_0).toLoadRect (evR7 c i arg3 harg3 arg4 harg4 arg5 harg5 arg6 harg6 arg7 harg7 arg8 harg8 arg9 harg9 arg10 harg10 arg11 harg11 arg12 harg12 arg13 harg13 f3 f4 f5)) := by
  unfold bodyRunEven.sl.v146 evR7 ev0; dsimp only

theorem ev_v155 : bodyRunEven.sl.v155 (F := Ideal) c i arg3 harg3 arg4 harg4 arg5 harg5 arg6 harg6 arg7 harg7 arg8 harg8 arg9 harg9 arg10 harg10 arg11 harg11 arg12 harg12 arg13 harg13 f3 f4 f5 = (arg11.view.readAt (Elt Ideal) (Rect.unit (s := S4x1x256) ![0, 0, 0] S1x1x256.size inb_S4x1x256_S1x1x256_0_0_0).toLoadRect (evR11 c i arg3 harg3 arg4 harg4 arg5 harg5 arg6 harg6 arg7 harg7 arg8 harg8 arg9 harg9 arg10 harg10 arg11 harg11 arg12 harg12 arg13 harg13 f3 f4 f5)) := by
  unfold bodyRunEven.sl.v155 evR11 ev0; dsimp only

theorem ev_v165 : bodyRunEven.sl.v165 (F := Ideal) c i arg3 harg3 arg4 harg4 arg5 harg5 arg6 harg6 arg7 harg7 arg8 harg8 arg9 harg9 arg10 harg10 arg11 harg11 arg12 harg12 arg13 harg13 f3 f4 f5 = (arg12.view.readAt (Elt Ideal) (Rect.unit (s := S4x1x256) ![0, 0, 0] S1x1x256.size inb_S4x1x256_S1x1x256_0_0_0).toLoadRect (evR12 c i arg3 harg3 arg4 harg4 arg5 harg5 arg6 harg6 arg7 harg7 arg8 harg8 arg9 harg9 arg10 harg10 arg11 harg11 arg12 harg12 arg13 harg13 f3 f4 f5)) := by
  unfold bodyRunEven.sl.v165 evR12 ev0; dsimp only

theorem ev_v174 : bodyRunEven.sl.v174 (F := Ideal) c i arg3 harg3 arg4 harg4 arg5 harg5 arg6 harg6 arg7 harg7 arg8 harg8 arg9 harg9 arg10 harg10 arg11 harg11 arg12 harg12 arg13 harg13 f3 f4 f5 = (arg13.view.readAt (Elt Ideal) (Rect.unit (s := S4x128x256) ![0, 0, 0] S1x128x256.size inb_S4x128x256_S1x128x256_0_0_0).toLoadRect (evR13 c i arg3 harg3 arg4 harg4 arg5 harg5 arg6 harg6 arg7 harg7 arg8 harg8 arg9 harg9 arg10 harg10 arg11 harg11 arg12 harg12 arg13 harg13 f3 f4 f5)) := by
  unfold bodyRunEven.sl.v174 evR13 ev0; dsimp only

theorem ev_v190 : bodyRunEven.sl.v190 (F := Ideal) c i arg3 harg3 arg4 harg4 arg5 harg5 arg6 harg6 arg7 harg7 arg8 harg8 arg9 harg9 arg10 harg10 arg11 harg11 arg12 harg12 arg13 harg13 f3 f4 f5 = (arg7.view.readAt (Elt Ideal) (Rect.unit (s := S4x1024x256) ![1, 0, 0] S1x512x256.size inb_S4x1024x256_S1x512x256_1_0_0).toLoadRect (evR7 c i arg3 harg3 arg4 harg4 arg5 harg5 arg6 harg6 arg7 harg7 arg8 harg8 arg9 harg9 arg10 harg10 arg11 harg11 arg12 harg12 arg13 harg13 f3 f4 f5)) := by
  unfold bodyRunEven.sl.v190 evR7 ev0; dsimp only

theorem ev_v199 : bodyRunEven.sl.v199 (F := Ideal) c i arg3 harg3 arg4 harg4 arg5 harg5 arg6 harg6 arg7 harg7 arg8 harg8 arg9 harg9 arg10 harg10 arg11 harg11 arg12 harg12 arg13 harg13 f3 f4 f5 = (arg11.view.readAt (Elt Ideal) (Rect.unit (s := S4x1x256) ![1, 0, 0] S1x1x256.size inb_S4x1x256_S1x1x256_1_0_0).toLoadRect (evR11 c i arg3 harg3 arg4 harg4 arg5 harg5 arg6 harg6 arg7 harg7 arg8 harg8 arg9 harg9 arg10 harg10 arg11 harg11 arg12 harg12 arg13 harg13 f3 f4 f5)) := by
  unfold bodyRunEven.sl.v199 evR11 ev0; dsimp only

theorem ev_v209 : bodyRunEven.sl.v209 (F := Ideal) c i arg3 harg3 arg4 harg4 arg5 harg5 arg6 harg6 arg7 harg7 arg8 harg8 arg9 harg9 arg10 harg10 arg11 harg11 arg12 harg12 arg13 harg13 f3 f4 f5 = (arg12.view.readAt (Elt Ideal) (Rect.unit (s := S4x1x256) ![1, 0, 0] S1x1x256.size inb_S4x1x256_S1x1x256_1_0_0).toLoadRect (evR12 c i arg3 harg3 arg4 harg4 arg5 harg5 arg6 harg6 arg7 harg7 arg8 harg8 arg9 harg9 arg10 harg10 arg11 harg11 arg12 harg12 arg13 harg13 f3 f4 f5)) := by
  unfold bodyRunEven.sl.v209 evR12 ev0; dsimp only

theorem ev_v218 : bodyRunEven.sl.v218 (F := Ideal) c i arg3 harg3 arg4 harg4 arg5 harg5 arg6 harg6 arg7 harg7 arg8 harg8 arg9 harg9 arg10 harg10 arg11 harg11 arg12 harg12 arg13 harg13 f3 f4 f5 = (arg13.view.readAt (Elt Ideal) (Rect.unit (s := S4x128x256) ![1, 0, 0] S1x128x256.size inb_S4x128x256_S1x128x256_1_0_0).toLoadRect (evR13 c i arg3 harg3 arg4 harg4 arg5 harg5 arg6 harg6 arg7 harg7 arg8 harg8 arg9 harg9 arg10 harg10 arg11 harg11 arg12 harg12 arg13 harg13 f3 f4 f5)) := by
  unfold bodyRunEven.sl.v218 evR13 ev0; dsimp only

theorem ev_v234 : bodyRunEven.sl.v234 (F := Ideal) c i arg3 harg3 arg4 harg4 arg5 harg5 arg6 harg6 arg7 harg7 arg8 harg8 arg9 harg9 arg10 harg10 arg11 harg11 arg12 harg12 arg13 harg13 f3 f4 f5 = (arg7.view.readAt (Elt Ideal) (Rect.unit (s := S4x1024x256) ![2, 0, 0] S1x768x256.size inb_S4x1024x256_S1x768x256_2_0_0).toLoadRect (evR7 c i arg3 harg3 arg4 harg4 arg5 harg5 arg6 harg6 arg7 harg7 arg8 harg8 arg9 harg9 arg10 harg10 arg11 harg11 arg12 harg12 arg13 harg13 f3 f4 f5)) := by
  unfold bodyRunEven.sl.v234 evR7 ev0; dsimp only

theorem ev_v243 : bodyRunEven.sl.v243 (F := Ideal) c i arg3 harg3 arg4 harg4 arg5 harg5 arg6 harg6 arg7 harg7 arg8 harg8 arg9 harg9 arg10 harg10 arg11 harg11 arg12 harg12 arg13 harg13 f3 f4 f5 = (arg11.view.readAt (Elt Ideal) (Rect.unit (s := S4x1x256) ![2, 0, 0] S1x1x256.size inb_S4x1x256_S1x1x256_2_0_0).toLoadRect (evR11 c i arg3 harg3 arg4 harg4 arg5 harg5 arg6 harg6 arg7 harg7 arg8 harg8 arg9 harg9 arg10 harg10 arg11 harg11 arg12 harg12 arg13 harg13 f3 f4 f5)) := by
  unfold bodyRunEven.sl.v243 evR11 ev0; dsimp only

theorem ev_v253 : bodyRunEven.sl.v253 (F := Ideal) c i arg3 harg3 arg4 harg4 arg5 harg5 arg6 harg6 arg7 harg7 arg8 harg8 arg9 harg9 arg10 harg10 arg11 harg11 arg12 harg12 arg13 harg13 f3 f4 f5 = (arg12.view.readAt (Elt Ideal) (Rect.unit (s := S4x1x256) ![2, 0, 0] S1x1x256.size inb_S4x1x256_S1x1x256_2_0_0).toLoadRect (evR12 c i arg3 harg3 arg4 harg4 arg5 harg5 arg6 harg6 arg7 harg7 arg8 harg8 arg9 harg9 arg10 harg10 arg11 harg11 arg12 harg12 arg13 harg13 f3 f4 f5)) := by
  unfold bodyRunEven.sl.v253 evR12 ev0; dsimp only

theorem ev_v262 : bodyRunEven.sl.v262 (F := Ideal) c i arg3 harg3 arg4 harg4 arg5 harg5 arg6 harg6 arg7 harg7 arg8 harg8 arg9 harg9 arg10 harg10 arg11 harg11 arg12 harg12 arg13 harg13 f3 f4 f5 = (arg13.view.readAt (Elt Ideal) (Rect.unit (s := S4x128x256) ![2, 0, 0] S1x128x256.size inb_S4x128x256_S1x128x256_2_0_0).toLoadRect (evR13 c i arg3 harg3 arg4 harg4 arg5 harg5 arg6 harg6 arg7 harg7 arg8 harg8 arg9 harg9 arg10 harg10 arg11 harg11 arg12 harg12 arg13 harg13 f3 f4 f5)) := by
  unfold bodyRunEven.sl.v262 evR13 ev0; dsimp only

theorem ev_v278 : bodyRunEven.sl.v278 (F := Ideal) c i arg3 harg3 arg4 harg4 arg5 harg5 arg6 harg6 arg7 harg7 arg8 harg8 arg9 harg9 arg10 harg10 arg11 harg11 arg12 harg12 arg13 harg13 f3 f4 f5 = (arg7.view.readAt (Elt Ideal) (Rect.unit (s := S4x1024x256) ![3, 0, 0] S1x1024x256.size inb_S4x1024x256_S1x1024x256_3_0_0).toLoadRect (evR7 c i arg3 harg3 arg4 harg4 arg5 harg5 arg6 harg6 arg7 harg7 arg8 harg8 arg9 harg9 arg10 harg10 arg11 harg11 arg12 harg12 arg13 harg13 f3 f4 f5)) := by
  unfold bodyRunEven.sl.v278 evR7 ev0; dsimp only

theorem ev_v287 : bodyRunEven.sl.v287 (F := Ideal) c i arg3 harg3 arg4 harg4 arg5 harg5 arg6 harg6 arg7 harg7 arg8 harg8 arg9 harg9 arg10 harg10 arg11 harg11 arg12 harg12 arg13 harg13 f3 f4 f5 = (arg11.view.readAt (Elt Ideal) (Rect.unit (s := S4x1x256) ![3, 0, 0] S1x1x256.size inb_S4x1x256_S1x1x256_3_0_0).toLoadRect (evR11 c i arg3 harg3 arg4 harg4 arg5 harg5 arg6 harg6 arg7 harg7 arg8 harg8 arg9 harg9 arg10 harg10 arg11 harg11 arg12 harg12 arg13 harg13 f3 f4 f5)) := by
  unfold bodyRunEven.sl.v287 evR11 ev0; dsimp only

theorem ev_v297 : bodyRunEven.sl.v297 (F := Ideal) c i arg3 harg3 arg4 harg4 arg5 harg5 arg6 harg6 arg7 harg7 arg8 harg8 arg9 harg9 arg10 harg10 arg11 harg11 arg12 harg12 arg13 harg13 f3 f4 f5 = (arg12.view.readAt (Elt Ideal) (Rect.unit (s := S4x1x256) ![3, 0, 0] S1x1x256.size inb_S4x1x256_S1x1x256_3_0_0).toLoadRect (evR12 c i arg3 harg3 arg4 harg4 arg5 harg5 arg6 harg6 arg7 harg7 arg8 harg8 arg9 harg9 arg10 harg10 arg11 harg11 arg12 harg12 arg13 harg13 f3 f4 f5)) := by
  unfold bodyRunEven.sl.v297 evR12 ev0; dsimp only

theorem ev_v306 : bodyRunEven.sl.v306 (F := Ideal) c i arg3 harg3 arg4 harg4 arg5 harg5 arg6 harg6 arg7 harg7 arg8 harg8 arg9 harg9 arg10 harg10 arg11 harg11 arg12 harg12 arg13 harg13 f3 f4 f5 = (arg13.view.readAt (Elt Ideal) (Rect.unit (s := S4x128x256) ![3, 0, 0] S1x128x256.size inb_S4x128x256_S1x128x256_3_0_0).toLoadRect (evR13 c i arg3 harg3 arg4 harg4 arg5 harg5 arg6 harg6 arg7 harg7 arg8 harg8 arg9 harg9 arg10 harg10 arg11 harg11 arg12 harg12 arg13 harg13 f3 f4 f5)) := by
  unfold bodyRunEven.sl.v306 evR13 ev0; dsimp only
abbrev evV0 (h1 : k0_cond1 i = 1#1) := arg5.view.readAt (Elt Ideal) (Rect.unit (s := S1x1x16x128x1024) (k0_off7 i) S1x1x1x128x256.size (k0_off7_inb i h1)).toLoadRect f5
abbrev evV1 (h1 : k0_cond1 i = 1#1) := arg5.view.readAt (Elt Ideal) (Rect.unit (s := S1x1x16x128x1024) (k0_off8 i) S1x1x1x128x512.size (k0_off8_inb i h1)).toLoadRect f5
abbrev evV2 (h1 : k0_cond1 i = 1#1) := arg5.view.readAt (Elt Ideal) (Rect.unit (s := S1x1x16x128x1024) (k0_off9 i) S1x1x1x128x768.size (k0_off9_inb i h1)).toLoadRect f5
abbrev evV3 (h1 : k0_cond1 i = 1#1) := arg5.view.readAt (Elt Ideal) (Rect.unit (s := S1x1x16x128x1024) (k0_off10 i) S1x1x1x128x1024.size (k0_off10_inb i h1)).toLoadRect f5

set_option maxHeartbeats 4000000 in
theorem ev_pieces (h1 : k0_cond1 i = 1#1) (h2 : ¬ k0_cond2 i = 1#1) : (bodyRunEven (F := Ideal) c i arg3 harg3 arg4 harg4 arg5 harg5 arg6 harg6 arg7 harg7 arg8 harg8 arg9 harg9 arg10 harg10 arg11 harg11 arg12 harg12 arg13 harg13 h1 h2 f3 f4 f5).1 = [
    ⟨Rect.unit (s := S1x1024x128) ![0, 768, 0] S1x256x128.size inb_S1x1024x128_S1x256x128_0_768_0, outg (dA3 (arg7.view.readAt (Elt Ideal) (Rect.unit (s := S4x1024x256) ![3, 0, 0] S1x1024x256.size inb_S4x1024x256_S1x1024x256_3_0_0).toLoadRect (evR7 c i arg3 harg3 arg4 harg4 arg5 harg5 arg6 harg6 arg7 harg7 arg8 harg8 arg9 harg9 arg10 harg10 arg11 harg11 arg12 harg12 arg13 harg13 f3 f4 f5)) (g11_3 c arg11 (evR11 c i arg3 harg3 arg4 harg4 arg5 harg5 arg6 harg6 arg7 harg7 arg8 harg8 arg9 harg9 arg10 harg10 arg11 harg11 arg12 harg12 arg13 harg13 f3 f4 f5)) (g13_3 c arg13 (evR13 c i arg3 harg3 arg4 harg4 arg5 harg5 arg6 harg6 arg7 harg7 arg8 harg8 arg9 harg9 arg10 harg10 arg11 harg11 arg12 harg12 arg13 harg13 f3 f4 f5)) (evV3 c i arg5 f5 h1)) (dL3 (arg7.view.readAt (Elt Ideal) (Rect.unit (s := S4x1024x256) ![3, 0, 0] S1x1024x256.size inb_S4x1024x256_S1x1024x256_3_0_0).toLoadRect (evR7 c i arg3 harg3 arg4 harg4 arg5 harg5 arg6 harg6 arg7 harg7 arg8 harg8 arg9 harg9 arg10 harg10 arg11 harg11 arg12 harg12 arg13 harg13 f3 f4 f5)) (g11_3 c arg11 (evR11 c i arg3 harg3 arg4 harg4 arg5 harg5 arg6 harg6 arg7 harg7 arg8 harg8 arg9 harg9 arg10 harg10 arg11 harg11 arg12 harg12 arg13 harg13 f3 f4 f5)) (g12_3 c arg12 (evR12 c i arg3 harg3 arg4 harg4 arg5 harg5 arg6 harg6 arg7 harg7 arg8 harg8 arg9 harg9 arg10 harg10 arg11 harg11 arg12 harg12 arg13 harg13 f3 f4 f5)))⟩,
    ⟨Rect.unit (s := S1x1024x128) ![0, 512, 0] S1x256x128.size inb_S1x1024x128_S1x256x128_0_512_0, outg (dA2 (arg7.view.readAt (Elt Ideal) (Rect.unit (s := S4x1024x256) ![2, 0, 0] S1x768x256.size inb_S4x1024x256_S1x768x256_2_0_0).toLoadRect (evR7 c i arg3 harg3 arg4 harg4 arg5 harg5 arg6 harg6 arg7 harg7 arg8 harg8 arg9 harg9 arg10 harg10 arg11 harg11 arg12 harg12 arg13 harg13 f3 f4 f5)) (g11_2 c arg11 (evR11 c i arg3 harg3 arg4 harg4 arg5 harg5 arg6 harg6 arg7 harg7 arg8 harg8 arg9 harg9 arg10 harg10 arg11 harg11 arg12 harg12 arg13 harg13 f3 f4 f5)) (g13_2 c arg13 (evR13 c i arg3 harg3 arg4 harg4 arg5 harg5 arg6 harg6 arg7 harg7 arg8 harg8 arg9 harg9 arg10 harg10 arg11 harg11 arg12 harg12 arg13 harg13 f3 f4 f5)) (evV2 c i arg5 f5 h1)) (dL2 (arg7.view.readAt (Elt Ideal) (Rect.unit (s := S4x1024x256) ![2, 0, 0] S1x768x256.size inb_S4x1024x256_S1x768x256_2_0_0).toLoadRect (evR7 c i arg3 harg3 arg4 harg4 arg5 harg5 arg6 harg6 arg7 harg7 arg8 harg8 arg9 harg9 arg10 harg10 arg11 harg11 arg12 harg12 arg13 harg13 f3 f4 f5)) (g11_2 c arg11 (evR11 c i arg3 harg3 arg4 harg4 arg5 harg5 arg6 harg6 arg7 harg7 arg8 harg8 arg9 harg9 arg10 harg10 arg11 harg11 arg12 harg12 arg13 harg13 f3 f4 f5)) (g12_2 c arg12 (evR12 c i arg3 harg3 arg4 harg4 arg5 harg5 arg6 harg6 arg7 harg7 arg8 harg8 arg9 harg9 arg10 harg10 arg11 harg11 arg12 harg12 arg13 harg13 f3 f4 f5)))⟩,
    ⟨Rect.unit (s := S1x1024x128) ![0, 256, 0] S1x256x128.size inb_S1x1024x128_S1x256x128_0_256_0, outg (dA1 (arg7.view.readAt (Elt Ideal) (Rect.unit (s := S4x1024x256) ![1, 0, 0] S1x512x256.size inb_S4x1024x256_S1x512x256_1_0_0).toLoadRect (evR7 c i arg3 harg3 arg4 harg4 arg5 harg5 arg6 harg6 arg7 harg7 arg8 harg8 arg9 harg9 arg10 harg10 arg11 harg11 arg12 harg12 arg13 harg13 f3 f4 f5)) (g11_1 c arg11 (evR11 c i arg3 harg3 arg4 harg4 arg5 harg5 arg6 harg6 arg7 harg7 arg8 harg8 arg9 harg9 arg10 harg10 arg11 harg11 arg12 harg12 arg13 harg13 f3 f4 f5)) (g13_1 c arg13 (evR13 c i arg3 harg3 arg4 harg4 arg5 harg5 arg6 harg6 arg7 harg7 arg8 harg8 arg9 harg9 arg10 harg10 arg11 harg11 arg12 harg12 arg13 harg13 f3 f4 f5)) (evV1 c i arg5 f5 h1)) (dL1 (arg7.view.readAt (Elt Ideal) (Rect.unit (s := S4x1024x256) ![1, 0, 0] S1x512x256.size inb_S4x1024x256_S1x512x256_1_0_0).toLoadRect (evR7 c i arg3 harg3 arg4 harg4 arg5 harg5 arg6 harg6 arg7 harg7 arg8 harg8 arg9 harg9 arg10 harg10 arg11 harg11 arg12 harg12 arg13 harg13 f3 f4 f5)) (g11_1 c arg11 (evR11 c i arg3 harg3 arg4 harg4 arg5 harg5 arg6 harg6 arg7 harg7 arg8 harg8 arg9 harg9 arg10 harg10 arg11 harg11 arg12 harg12 arg13 harg13 f3 f4 f5)) (g12_1 c arg12 (evR12 c i arg3 harg3 arg4 harg4 arg5 harg5 arg6 harg6 arg7 harg7 arg8 harg8 arg9 harg9 arg10 harg10 arg11 harg11 arg12 harg12 arg13 harg13 f3 f4 f5)))⟩,
    ⟨Rect.unit (s := S1x1024x128) ![0, 0, 0] S1x256x128.size inb_S1x1024x128_S1x256x128_0_0_0, outg (dA0 (arg7.view.readAt (Elt Ideal) (Rect.unit (s := S4x1024x256) ![0, 0, 0] S1x256x256.size inb_S4x1024x256_S1x256x256_0_0_0).toLoadRect (evR7 c i arg3 harg3 arg4 harg4 arg5 harg5 arg6 harg6 arg7 harg7 arg8 harg8 arg9 harg9 arg10 harg10 arg11 harg11 arg12 harg12 arg13 harg13 f3 f4 f5)) (g11_0 c arg11 (evR11 c i arg3 harg3 arg4 harg4 arg5 harg5 arg6 harg6 arg7 harg7 arg8 harg8 arg9 harg9 arg10 harg10 arg11 harg11 arg12 harg12 arg13 harg13 f3 f4 f5)) (g13_0 c arg13 (evR13 c i arg3 harg3 arg4 harg4 arg5 harg5 arg6 harg6 arg7 harg7 arg8 harg8 arg9 harg9 arg10 harg10 arg11 harg11 arg12 harg12 arg13 harg13 f3 f4 f5)) (evV0 c i arg5 f5 h1)) (dL0 (arg7.view.readAt (Elt Ideal) (Rect.unit (s := S4x1024x256) ![0, 0, 0] S1x256x256.size inb_S4x1024x256_S1x256x256_0_0_0).toLoadRect (evR7 c i arg3 harg3 arg4 harg4 arg5 harg5 arg6 harg6 arg7 harg7 arg8 harg8 arg9 harg9 arg10 harg10 arg11 harg11 arg12 harg12 arg13 harg13 f3 f4 f5)) (g11_0 c arg11 (evR11 c i arg3 harg3 arg4 harg4 arg5 harg5 arg6 harg6 arg7 harg7 arg8 harg8 arg9 harg9 arg10 harg10 arg11 harg11 arg12 harg12 arg13 harg13 f3 f4 f5)) (g12_0 c arg12 (evR12 c i arg3 harg3 arg4 harg4 arg5 harg5 arg6 harg6 arg7 harg7 arg8 harg8 arg9 harg9 arg10 harg10 arg11 harg11 arg12 harg12 arg13 harg13 f3 f4 f5)))⟩] := by
  unfold bodyRunEven
  dsimp only
  refine pieces_congr ?_ ?_ ?_ ?_
  all_goals
    simp (disch := decide) only [ev_v146, ev_v155, ev_v165, ev_v174, ev_v190, ev_v199, ev_v209, ev_v218, ev_v234, ev_v243, ev_v253, ev_v262, ev_v278, ev_v287, ev_v297, ev_v306, outg, nM, nL, nA, dL0, dL1, dL2, dL3, dA0, dA1, dA2, dA3, bodyRunEven.sl.H9_4, bodyRunEven.sl.v74, bodyRunEven.sl.H12_4, bodyRunEven.sl.v62, bodyRunEven.sl.v79, bodyRunEven.sl.r_13, bodyRunEven.sl.H12_1, bodyRunEven.sl.v58, bodyRunEven.sl.r_4, bodyRunEven.sl.v108, bodyRunEven.sl.v118, bodyRunEven.sl.r_17, bodyRunEven.sl.r_2, bodyRunEven.sl.r_10, bodyRunEven.sl.r_5, bodyRunEven.sl.v106, bodyRunEven.sl.v61, bodyRunEven.sl.v71, bodyRunEven.sl.H13_4, bodyRunEven.sl.r_7, bodyRunEven.sl.H13_1, bodyRunEven.sl.r_1, bodyRunEven.sl.v73, bodyRunEven.sl.H7_4, bodyRunEven.sl.v75, bodyRunEven.sl.v116, bodyRunEven.sl.r_6, bodyRunEven.sl.r_8, bodyRunEven.sl.v280, bodyRunEven.sl.v63, bodyRunEven.sl.v59, bodyRunEven.sl.r_14, bodyRunEven.sl.v69, bodyRunEven.sl.r_3, bodyRunEven.sl.v128, bodyRunEven.sl.v138, bodyRunEven.sl.v78, bodyRunEven.sl.r_18, bodyRunEven.sl.v72, bodyRunEven.sl.v60, bodyRunEven.sl.r_9, bodyRunEven.sl.r, bodyRunEven.sl.r_15, bodyRunEven.sl.v126, bodyRunEven.sl.r_16, bodyRunEven.sl.v77, bodyRunEven.sl.r_12, bodyRunEven.sl.r_11, bodyRunEven.sl.v70, bodyRunEven.sl.v136, bodyRunEven.sl.v281, bodyRunEven.sl.H11_1, View.readCov_cons_toLoadRect, View.readCov_skip]
    rfl

theorem od_v194 : bodyRunOdd.sl.v194 (F := Ideal) c i arg3 harg3 arg4 harg4 arg5 harg5 arg6 harg6 arg7 harg7 arg8 harg8 arg9 harg9 arg10 harg10 arg11 harg11 arg12 harg12 arg13 harg13 f3 f4 f5 = (arg7.view.readAt (Elt Ideal) (Rect.unit (s := S4x1024x256) ![0, 0, 0] S1x1024x256.size inb_S4x1024x256_S1x1024x256_0_0_0).toLoadRect (odR7 c i arg3 harg3 arg4 harg4 arg5 harg5 arg6 harg6 arg7 harg7 arg8 harg8 arg9 harg9 arg10 harg10 arg11 harg11 arg12 harg12 arg13 harg13 f3 f4 f5)) := by
  unfold bodyRunOdd.sl.v194 odR7 od0; dsimp only

theorem od_v196 : bodyRunOdd.sl.v196 (F := Ideal) c i arg3 harg3 arg4 harg4 arg5 harg5 arg6 harg6 arg7 harg7 arg8 harg8 arg9 harg9 arg10 harg10 arg11 harg11 arg12 harg12 arg13 harg13 f3 f4 f5 = (arg11.view.readAt (Elt Ideal) (Rect.unit (s := S4x1x256) ![0, 0, 0] S1x1x256.size inb_S4x1x256_S1x1x256_0_0_0).toLoadRect (odR11 c i arg3 harg3 arg4 harg4 arg5 harg5 arg6 harg6 arg7 harg7 arg8 harg8 arg9 harg9 arg10 harg10 arg11 harg11 arg12 harg12 arg13 harg13 f3 f4 f5)) := by
  unfold bodyRunOdd.sl.v196 odR11 od0; dsimp only

theorem od_v198 : bodyRunOdd.sl.v198 (F := Ideal) c i arg3 harg3 arg4 harg4 arg5 harg5 arg6 harg6 arg7 harg7 arg8 harg8 arg9 harg9 arg10 harg10 arg11 harg11 arg12 harg12 arg13 harg13 f3 f4 f5 = (arg9.view.readAt (Elt Ideal) (Rect.unit (s := S4x1x256) ![0, 0, 0] S1x1x256.size inb_S4x1x256_S1x1x256_0_0_0).toLoadRect (odR9 c i arg3 harg3 arg4 harg4 arg5 harg5 arg6 harg6 arg7 harg7 arg8 harg8 arg9 harg9 arg10 harg10 arg11 harg11 arg12 harg12 arg13 harg13 f3 f4 f5)) := by
  unfold bodyRunOdd.sl.v198 odR9 od0; dsimp only

theorem od_v206 : bodyRunOdd.sl.v206 (F := Ideal) c i arg3 harg3 arg4 harg4 arg5 harg5 arg6 harg6 arg7 harg7 arg8 harg8 arg9 harg9 arg10 harg10 arg11 harg11 arg12 harg12 arg13 harg13 f3 f4 f5 = (arg12.view.readAt (Elt Ideal) (Rect.unit (s := S4x1x256) ![0, 0, 0] S1x1x256.size inb_S4x1x256_S1x1x256_0_0_0).toLoadRect (odR12 c i arg3 harg3 arg4 harg4 arg5 harg5 arg6 harg6 arg7 harg7 arg8 harg8 arg9 harg9 arg10 harg10 arg11 harg11 arg12 harg12 arg13 harg13 f3 f4 f5)) := by
  unfold bodyRunOdd.sl.v206 odR12 od0; dsimp only

theorem od_v215 : bodyRunOdd.sl.v215 (F := Ideal) c i arg3 harg3 arg4 harg4 arg5 harg5 arg6 harg6 arg7 harg7 arg8 harg8 arg9 harg9 arg10 harg10 arg11 harg11 arg12 harg12 arg13 harg13 f3 f4 f5 = (arg13.view.readAt (Elt Ideal) (Rect.unit (s := S4x128x256) ![0, 0, 0] S1x128x256.size inb_S4x128x256_S1x128x256_0_0_0).toLoadRect (odR13 c i arg3 harg3 arg4 harg4 arg5 harg5 arg6 harg6 arg7 harg7 arg8 harg8 arg9 harg9 arg10 harg10 arg11 harg11 arg12 harg12 arg13 harg13 f3 f4 f5)) := by
  unfold bodyRunOdd.sl.v215 odR13 od0; dsimp only

theorem od_v231 : bodyRunOdd.sl.v231 (F := Ideal) c i arg3 harg3 arg4 harg4 arg5 harg5 arg6 harg6 arg7 harg7 arg8 harg8 arg9 harg9 arg10 harg10 arg11 harg11 arg12 harg12 arg13 harg13 f3 f4 f5 = (arg7.view.readAt (Elt Ideal) (Rect.unit (s := S4x1024x256) ![1, 0, 0] S1x1024x256.size inb_S4x1024x256_S1x1024x256_1_0_0).toLoadRect (odR7 c i arg3 harg3 arg4 harg4 arg5 harg5 arg6 harg6 arg7 harg7 arg8 harg8 arg9 harg9 arg10 harg10 arg11 harg11 arg12 harg12 arg13 harg13 f3 f4 f5)) := by
  unfold bodyRunOdd.sl.v231 odR7 od0; dsimp only

theorem od_v233 : bodyRunOdd.sl.v233 (F := Ideal) c i arg3 harg3 arg4 harg4 arg5 harg5 arg6 harg6 arg7 harg7 arg8 harg8 arg9 harg9 arg10 harg10 arg11 harg11 arg12 harg12 arg13 harg13 f3 f4 f5 = (arg11.view.readAt (Elt Ideal) (Rect.unit (s := S4x1x256) ![1, 0, 0] S1x1x256.size inb_S4x1x256_S1x1x256_1_0_0).toLoadRect (odR11 c i arg3 harg3 arg4 harg4 arg5 harg5 arg6 harg6 arg7 harg7 arg8 harg8 arg9 harg9 arg10 harg10 arg11 harg11 arg12 harg12 arg13 harg13 f3 f4 f5)) := by
  unfold bodyRunOdd.sl.v233 odR11 od0; dsimp only

theorem od_v235 : bodyRunOdd.sl.v235 (F := Ideal) c i arg3 harg3 arg4 harg4 arg5 harg5 arg6 harg6 arg7 harg7 arg8 harg8 arg9 harg9 arg10 harg10 arg11 harg11 arg12 harg12 arg13 harg13 f3 f4 f5 = (arg9.view.readAt (Elt Ideal) (Rect.unit (s := S4x1x256) ![1, 0, 0] S1x1x256.size inb_S4x1x256_S1x1x256_1_0_0).toLoadRect (odR9 c i arg3 harg3 arg4 harg4 arg5 harg5 arg6 harg6 arg7 harg7 arg8 harg8 arg9 harg9 arg10 harg10 arg11 harg11 arg12 harg12 arg13 harg13 f3 f4 f5)) := by
  unfold bodyRunOdd.sl.v235 odR9 od0; dsimp only

theorem od_v243 : bodyRunOdd.sl.v243 (F := Ideal) c i arg3 harg3 arg4 harg4 arg5 harg5 arg6 harg6 arg7 harg7 arg8 harg8 arg9 harg9 arg10 harg10 arg11 harg11 arg12 harg12 arg13 harg13 f3 f4 f5 = (arg12.view.readAt (Elt Ideal) (Rect.unit (s := S4x1x256) ![1, 0, 0] S1x1x256.size inb_S4x1x256_S1x1x256_1_0_0).toLoadRect (odR12 c i arg3 harg3 arg4 harg4 arg5 harg5 arg6 harg6 arg7 harg7 arg8 harg8 arg9 harg9 arg10 harg10 arg11 harg11 arg12 harg12 arg13 harg13 f3 f4 f5)) := by
  unfold bodyRunOdd.sl.v243 odR12 od0; dsimp only

theorem od_v252 : bodyRunOdd.sl.v252 (F := Ideal) c i arg3 harg3 arg4 harg4 arg5 harg5 arg6 harg6 arg7 harg7 arg8 harg8 arg9 harg9 arg10 harg10 arg11 harg11 arg12 harg12 arg13 harg13 f3 f4 f5 = (arg13.view.readAt (Elt Ideal) (Rect.unit (s := S4x128x256) ![1, 0, 0] S1x128x256.size inb_S4x128x256_S1x128x256_1_0_0).toLoadRect (odR13 c i arg3 harg3 arg4 harg4 arg5 harg5 arg6 harg6 arg7 harg7 arg8 harg8 arg9 harg9 arg10 harg10 arg11 harg11 arg12 harg12 arg13 harg13 f3 f4 f5)) := by
  unfold bodyRunOdd.sl.v252 odR13 od0; dsimp only

theorem od_v268 : bodyRunOdd.sl.v268 (F := Ideal) c i arg3 harg3 arg4 harg4 arg5 harg5 arg6 harg6 arg7 harg7 arg8 harg8 arg9 harg9 arg10 harg10 arg11 harg11 arg12 harg12 arg13 harg13 f3 f4 f5 = (arg7.view.readAt (Elt Ideal) (Rect.unit (s := S4x1024x256) ![2, 0, 0] S1x1024x256.size inb_S4x1024x256_S1x1024x256_2_0_0).toLoadRect (odR7 c i arg3 harg3 arg4 harg4 arg5 harg5 arg6 harg6 arg7 harg7 arg8 harg8 arg9 harg9 arg10 harg10 arg11 harg11 arg12 harg12 arg13 harg13 f3 f4 f5)) := by
  unfold bodyRunOdd.sl.v268 odR7 od0; dsimp only

theorem od_v270 : bodyRunOdd.sl.v270 (F := Ideal) c i arg3 harg3 arg4 harg4 arg5 harg5 arg6 harg6 arg7 harg7 arg8 harg8 arg9 harg9 arg10 harg10 arg11 harg11 arg12 harg12 arg13 harg13 f3 f4 f5 = (arg11.view.readAt (Elt Ideal) (Rect.unit (s := S4x1x256) ![2, 0, 0] S1x1x256.size inb_S4x1x256_S1x1x256_2_0_0).toLoadRect (odR11 c i arg3 harg3 arg4 harg4 arg5 harg5 arg6 harg6 arg7 harg7 arg8 harg8 arg9 harg9 arg10 harg10 arg11 harg11 arg12 harg12 arg13 harg13 f3 f4 f5)) := by
  unfold bodyRunOdd.sl.v270 odR11 od0; dsimp only

theorem od_v272 : bodyRunOdd.sl.v272 (F := Ideal) c i arg3 harg3 arg4 harg4 arg5 harg5 arg6 harg6 arg7 harg7 arg8 harg8 arg9 harg9 arg10 harg10 arg11 harg11 arg12 harg12 arg13 harg13 f3 f4 f5 = (arg9.view.readAt (Elt Ideal) (Rect.unit (s := S4x1x256) ![2, 0, 0] S1x1x256.size inb_S4x1x256_S1x1x256_2_0_0).toLoadRect (odR9 c i arg3 harg3 arg4 harg4 arg5 harg5 arg6 harg6 arg7 harg7 arg8 harg8 arg9 harg9 arg10 harg10 arg11 harg11 arg12 harg12 arg13 harg13 f3 f4 f5)) := by
  unfold bodyRunOdd.sl.v272 odR9 od0; dsimp only

theorem od_v280 : bodyRunOdd.sl.v280 (F := Ideal) c i arg3 harg3 arg4 harg4 arg5 harg5 arg6 harg6 arg7 harg7 arg8 harg8 arg9 harg9 arg10 harg10 arg11 harg11 arg12 harg12 arg13 harg13 f3 f4 f5 = (arg12.view.readAt (Elt Ideal) (Rect.unit (s := S4x1x256) ![2, 0, 0] S1x1x256.size inb_S4x1x256_S1x1x256_2_0_0).toLoadRect (odR12 c i arg3 harg3 arg4 harg4 arg5 harg5 arg6 harg6 arg7 harg7 arg8 harg8 arg9 harg9 arg10 harg10 arg11 harg11 arg12 harg12 arg13 harg13 f3 f4 f5)) := by
  unfold bodyRunOdd.sl.v280 odR12 od0; dsimp only

theorem od_v289 : bodyRunOdd.sl.v289 (F := Ideal) c i arg3 harg3 arg4 harg4 arg5 harg5 arg6 harg6 arg7 harg7 arg8 harg8 arg9 harg9 arg10 harg10 arg11 harg11 arg12 harg12 arg13 harg13 f3 f4 f5 = (arg13.view.readAt (Elt Ideal) (Rect.unit (s := S4x128x256) ![2, 0, 0] S1x128x256.size inb_S4x128x256_S1x128x256_2_0_0).toLoadRect (odR13 c i arg3 harg3 arg4 harg4 arg5 harg5 arg6 harg6 arg7 harg7 arg8 harg8 arg9 harg9 arg10 harg10 arg11 harg11 arg12 harg12 arg13 harg13 f3 f4 f5)) := by
  unfold bodyRunOdd.sl.v289 odR13 od0; dsimp only

theorem od_v305 : bodyRunOdd.sl.v305 (F := Ideal) c i arg3 harg3 arg4 harg4 arg5 harg5 arg6 harg6 arg7 harg7 arg8 harg8 arg9 harg9 arg10 harg10 arg11 harg11 arg12 harg12 arg13 harg13 f3 f4 f5 = (arg7.view.readAt (Elt Ideal) (Rect.unit (s := S4x1024x256) ![3, 0, 0] S1x1024x256.size inb_S4x1024x256_S1x1024x256_3_0_0).toLoadRect (odR7 c i arg3 harg3 arg4 harg4 arg5 harg5 arg6 harg6 arg7 harg7 arg8 harg8 arg9 harg9 arg10 harg10 arg11 harg11 arg12 harg12 arg13 harg13 f3 f4 f5)) := by
  unfold bodyRunOdd.sl.v305 odR7 od0; dsimp only

theorem od_v307 : bodyRunOdd.sl.v307 (F := Ideal) c i arg3 harg3 arg4 harg4 arg5 harg5 arg6 harg6 arg7 harg7 arg8 harg8 arg9 harg9 arg10 harg10 arg11 harg11 arg12 harg12 arg13 harg13 f3 f4 f5 = (arg11.view.readAt (Elt Ideal) (Rect.unit (s := S4x1x256) ![3, 0, 0] S1x1x256.size inb_S4x1x256_S1x1x256_3_0_0).toLoadRect (odR11 c i arg3 harg3 arg4 harg4 arg5 harg5 arg6 harg6 arg7 harg7 arg8 harg8 arg9 harg9 arg10 harg10 arg11 harg11 arg12 harg12 arg13 harg13 f3 f4 f5)) := by
  unfold bodyRunOdd.sl.v307 odR11 od0; dsimp only

theorem od_v309 : bodyRunOdd.sl.v309 (F := Ideal) c i arg3 harg3 arg4 harg4 arg5 harg5 arg6 harg6 arg7 harg7 arg8 harg8 arg9 harg9 arg10 harg10 arg11 harg11 arg12 harg12 arg13 harg13 f3 f4 f5 = (arg9.view.readAt (Elt Ideal) (Rect.unit (s := S4x1x256) ![3, 0, 0] S1x1x256.size inb_S4x1x256_S1x1x256_3_0_0).toLoadRect (odR9 c i arg3 harg3 arg4 harg4 arg5 harg5 arg6 harg6 arg7 harg7 arg8 harg8 arg9 harg9 arg10 harg10 arg11 harg11 arg12 harg12 arg13 harg13 f3 f4 f5)) := by
  unfold bodyRunOdd.sl.v309 odR9 od0; dsimp only

theorem od_v317 : bodyRunOdd.sl.v317 (F := Ideal) c i arg3 harg3 arg4 harg4 arg5 harg5 arg6 harg6 arg7 harg7 arg8 harg8 arg9 harg9 arg10 harg10 arg11 harg11 arg12 harg12 arg13 harg13 f3 f4 f5 = (arg12.view.readAt (Elt Ideal) (Rect.unit (s := S4x1x256) ![3, 0, 0] S1x1x256.size inb_S4x1x256_S1x1x256_3_0_0).toLoadRect (odR12 c i arg3 harg3 arg4 harg4 arg5 harg5 arg6 harg6 arg7 harg7 arg8 harg8 arg9 harg9 arg10 harg10 arg11 harg11 arg12 harg12 arg13 harg13 f3 f4 f5)) := by
  unfold bodyRunOdd.sl.v317 odR12 od0; dsimp only

theorem od_v326 : bodyRunOdd.sl.v326 (F := Ideal) c i arg3 harg3 arg4 harg4 arg5 harg5 arg6 harg6 arg7 harg7 arg8 harg8 arg9 harg9 arg10 harg10 arg11 harg11 arg12 harg12 arg13 harg13 f3 f4 f5 = (arg13.view.readAt (Elt Ideal) (Rect.unit (s := S4x128x256) ![3, 0, 0] S1x128x256.size inb_S4x128x256_S1x128x256_3_0_0).toLoadRect (odR13 c i arg3 harg3 arg4 harg4 arg5 harg5 arg6 harg6 arg7 harg7 arg8 harg8 arg9 harg9 arg10 harg10 arg11 harg11 arg12 harg12 arg13 harg13 f3 f4 f5)) := by
  unfold bodyRunOdd.sl.v326 odR13 od0; dsimp only

abbrev KD (h2 : k0_cond2 i = 1#1) := arg4.view.readAt (Elt Ideal) (Rect.unit (s := S1x1x16x1024x256) (k0_off11 i) S1x1x1x1024x256.size (k0_off11_inb i h2)).toLoadRect f4
abbrev VP (h2 : k0_cond2 i = 1#1) := arg5.view.readAt (Elt Ideal) (Rect.unit (s := S1x1x16x128x1024) (k0_off12 i) S1x1x1x128x1024.size (k0_off12_inb i h2)).toLoadRect f5
/-- The odd buffer's contents when the diagonal block is read from it. -/
@[irreducible] def od8 (h2 : k0_cond2 i = 1#1) : Buf (Elt Ideal) (arg8.view.loc (c : Thread nD τ)) :=
  arg8.view.writes (Elt Ideal) arg8.view.junk (bodyRunOdd.sl.H8_4 c i arg3 arg4 h2 f3 f4)

theorem od_v342 (h2 : k0_cond2 i = 1#1) : bodyRunOdd.sl.v342 (F := Ideal) c i arg3 arg4 arg8 h2 f3 f4 = (arg8.view.readAt (Elt Ideal) (Rect.unit (s := S4x1024x256) ![0, 0, 0] S1x256x256.size inb_S4x1024x256_S1x256x256_0_0_0).toLoadRect (od8 c i arg3 arg4 arg8 f3 f4 h2)) := by
  unfold bodyRunOdd.sl.v342 od8; rfl

theorem od_v386 (h2 : k0_cond2 i = 1#1) : bodyRunOdd.sl.v386 (F := Ideal) c i arg3 arg4 arg8 h2 f3 f4 = (arg8.view.readAt (Elt Ideal) (Rect.unit (s := S4x1024x256) ![1, 0, 0] S1x512x256.size inb_S4x1024x256_S1x512x256_1_0_0).toLoadRect (od8 c i arg3 arg4 arg8 f3 f4 h2)) := by
  unfold bodyRunOdd.sl.v386 od8; rfl

theorem od_v430 (h2 : k0_cond2 i = 1#1) : bodyRunOdd.sl.v430 (F := Ideal) c i arg3 arg4 arg8 h2 f3 f4 = (arg8.view.readAt (Elt Ideal) (Rect.unit (s := S4x1024x256) ![2, 0, 0] S1x768x256.size inb_S4x1024x256_S1x768x256_2_0_0).toLoadRect (od8 c i arg3 arg4 arg8 f3 f4 h2)) := by
  unfold bodyRunOdd.sl.v430 od8; rfl

theorem od_v474 (h2 : k0_cond2 i = 1#1) : bodyRunOdd.sl.v474 (F := Ideal) c i arg3 arg4 arg8 h2 f3 f4 = (arg8.view.readAt (Elt Ideal) (Rect.unit (s := S4x1024x256) ![3, 0, 0] S1x1024x256.size inb_S4x1024x256_S1x1024x256_3_0_0).toLoadRect (od8 c i arg3 arg4 arg8 f3 f4 h2)) := by
  unfold bodyRunOdd.sl.v474 od8; rfl
abbrev odV0 (h2 : k0_cond2 i = 1#1) := arg5.view.readAt (Elt Ideal) (Rect.unit (s := S1x1x16x128x1024) (k0_off13 i) S1x1x1x128x256.size (k0_off13_inb i h2)).toLoadRect f5
abbrev odV1 (h2 : k0_cond2 i = 1#1) := arg5.view.readAt (Elt Ideal) (Rect.unit (s := S1x1x16x128x1024) (k0_off14 i) S1x1x1x128x512.size (k0_off14_inb i h2)).toLoadRect f5
abbrev odV2 (h2 : k0_cond2 i = 1#1) := arg5.view.readAt (Elt Ideal) (Rect.unit (s := S1x1x16x128x1024) (k0_off15 i) S1x1x1x128x768.size (k0_off15_inb i h2)).toLoadRect f5
abbrev odV3 (h2 : k0_cond2 i = 1#1) := arg5.view.readAt (Elt Ideal) (Rect.unit (s := S1x1x16x128x1024) (k0_off16 i) S1x1x1x128x1024.size (k0_off16_inb i h2)).toLoadRect f5

set_option maxHeartbeats 4000000 in
theorem od_pieces (h1 : ¬ k0_cond1 i = 1#1) (h2 : k0_cond2 i = 1#1) : (bodyRunOdd (F := Ideal) c i arg3 harg3 arg4 harg4 arg5 harg5 arg6 harg6 arg7 harg7 arg8 harg8 arg9 harg9 arg10 harg10 arg11 harg11 arg12 harg12 arg13 harg13 h1 h2 f3 f4 f5).1 = [
    ⟨Rect.unit (s := S1x1024x128) ![0, 768, 0] S1x256x128.size inb_S1x1024x128_S1x256x128_0_768_0, outg (dA3 (arg8.view.readAt (Elt Ideal) (Rect.unit (s := S4x1024x256) ![3, 0, 0] S1x1024x256.size inb_S4x1024x256_S1x1024x256_3_0_0).toLoadRect (od8 c i arg3 arg4 arg8 f3 f4 h2)) (nM (g11_3 c arg11 (odR11 c i arg3 harg3 arg4 harg4 arg5 harg5 arg6 harg6 arg7 harg7 arg8 harg8 arg9 harg9 arg10 harg10 arg11 harg11 arg12 harg12 arg13 harg13 f3 f4 f5)) (g9_3 c arg9 (odR9 c i arg3 harg3 arg4 harg4 arg5 harg5 arg6 harg6 arg7 harg7 arg8 harg8 arg9 harg9 arg10 harg10 arg11 harg11 arg12 harg12 arg13 harg13 f3 f4 f5))) (nA (g7_3 c arg7 (odR7 c i arg3 harg3 arg4 harg4 arg5 harg5 arg6 harg6 arg7 harg7 arg8 harg8 arg9 harg9 arg10 harg10 arg11 harg11 arg12 harg12 arg13 harg13 f3 f4 f5)) (g11_3 c arg11 (odR11 c i arg3 harg3 arg4 harg4 arg5 harg5 arg6 harg6 arg7 harg7 arg8 harg8 arg9 harg9 arg10 harg10 arg11 harg11 arg12 harg12 arg13 harg13 f3 f4 f5)) (g9_3 c arg9 (odR9 c i arg3 harg3 arg4 harg4 arg5 harg5 arg6 harg6 arg7 harg7 arg8 harg8 arg9 harg9 arg10 harg10 arg11 harg11 arg12 harg12 arg13 harg13 f3 f4 f5)) (g13_3 c arg13 (odR13 c i arg3 harg3 arg4 harg4 arg5 harg5 arg6 harg6 arg7 harg7 arg8 harg8 arg9 harg9 arg10 harg10 arg11 harg11 arg12 harg12 arg13 harg13 f3 f4 f5)) (VP c i arg5 f5 h2)) (odV3 c i arg5 f5 h2)) (dL3 (arg8.view.readAt (Elt Ideal) (Rect.unit (s := S4x1024x256) ![3, 0, 0] S1x1024x256.size inb_S4x1024x256_S1x1024x256_3_0_0).toLoadRect (od8 c i arg3 arg4 arg8 f3 f4 h2)) (nM (g11_3 c arg11 (odR11 c i arg3 harg3 arg4 harg4 arg5 harg5 arg6 harg6 arg7 harg7 arg8 harg8 arg9 harg9 arg10 harg10 arg11 harg11 arg12 harg12 arg13 harg13 f3 f4 f5)) (g9_3 c arg9 (odR9 c i arg3 harg3 arg4 harg4 arg5 harg5 arg6 harg6 arg7 harg7 arg8 harg8 arg9 harg9 arg10 harg10 arg11 harg11 arg12 harg12 arg13 harg13 f3 f4 f5))) (nL (g7_3 c arg7 (odR7 c i arg3 harg3 arg4 harg4 arg5 harg5 arg6 harg6 arg7 harg7 arg8 harg8 arg9 harg9 arg10 harg10 arg11 harg11 arg12 harg12 arg13 harg13 f3 f4 f5)) (g11_3 c arg11 (odR11 c i arg3 harg3 arg4 harg4 arg5 harg5 arg6 harg6 arg7 harg7 arg8 harg8 arg9 harg9 arg10 harg10 arg11 harg11 arg12 harg12 arg13 harg13 f3 f4 f5)) (g9_3 c arg9 (odR9 c i arg3 harg3 arg4 harg4 arg5 harg5 arg6 harg6 arg7 harg7 arg8 harg8 arg9 harg9 arg10 harg10 arg11 harg11 arg12 harg12 arg13 harg13 f3 f4 f5)) (g12_3 c arg12 (odR12 c i arg3 harg3 arg4 harg4 arg5 harg5 arg6 harg6 arg7 harg7 arg8 harg8 arg9 harg9 arg10 harg10 arg11 harg11 arg12 harg12 arg13 harg13 f3 f4 f5))))⟩,
    ⟨Rect.unit (s := S1x1024x128) ![0, 512, 0] S1x256x128.size inb_S1x1024x128_S1x256x128_0_512_0, outg (dA2 (arg8.view.readAt (Elt Ideal) (Rect.unit (s := S4x1024x256) ![2, 0, 0] S1x768x256.size inb_S4x1024x256_S1x768x256_2_0_0).toLoadRect (od8 c i arg3 arg4 arg8 f3 f4 h2)) (nM (g11_2 c arg11 (odR11 c i arg3 harg3 arg4 harg4 arg5 harg5 arg6 harg6 arg7 harg7 arg8 harg8 arg9 harg9 arg10 harg10 arg11 harg11 arg12 harg12 arg13 harg13 f3 f4 f5)) (g9_2 c arg9 (odR9 c i arg3 harg3 arg4 harg4 arg5 harg5 arg6 harg6 arg7 harg7 arg8 harg8 arg9 harg9 arg10 harg10 arg11 harg11 arg12 harg12 arg13 harg13 f3 f4 f5))) (nA (g7_2 c arg7 (odR7 c i arg3 harg3 arg4 harg4 arg5 harg5 arg6 harg6 arg7 harg7 arg8 harg8 arg9 harg9 arg10 harg10 arg11 harg11 arg12 harg12 arg13 harg13 f3 f4 f5)) (g11_2 c arg11 (odR11 c i arg3 harg3 arg4 harg4 arg5 harg5 arg6 harg6 arg7 harg7 arg8 harg8 arg9 harg9 arg10 harg10 arg11 harg11 arg12 harg12 arg13 harg13 f3 f4 f5)) (g9_2 c arg9 (odR9 c i arg3 harg3 arg4 harg4 arg5 harg5 arg6 harg6 arg7 harg7 arg8 harg8 arg9 harg9 arg10 harg10 arg11 harg11 arg12 harg12 arg13 harg13 f3 f4 f5)) (g13_2 c arg13 (odR13 c i arg3 harg3 arg4 harg4 arg5 harg5 arg6 harg6 arg7 harg7 arg8 harg8 arg9 harg9 arg10 harg10 arg11 harg11 arg12 harg12 arg13 harg13 f3 f4 f5)) (VP c i arg5 f5 h2)) (odV2 c i arg5 f5 h2)) (dL2 (arg8.view.readAt (Elt Ideal) (Rect.unit (s := S4x1024x256) ![2, 0, 0] S1x768x256.size inb_S4x1024x256_S1x768x256_2_0_0).toLoadRect (od8 c i arg3 arg4 arg8 f3 f4 h2)) (nM (g11_2 c arg11 (odR11 c i arg3 harg3 arg4 harg4 arg5 harg5 arg6 harg6 arg7 harg7 arg8 harg8 arg9 harg9 arg10 harg10 arg11 harg11 arg12 harg12 arg13 harg13 f3 f4 f5)) (g9_2 c arg9 (odR9 c i arg3 harg3 arg4 harg4 arg5 harg5 arg6 harg6 arg7 harg7 arg8 harg8 arg9 harg9 arg10 harg10 arg11 harg11 arg12 harg12 arg13 harg13 f3 f4 f5))) (nL (g7_2 c arg7 (odR7 c i arg3 harg3 arg4 harg4 arg5 harg5 arg6 harg6 arg7 harg7 arg8 harg8 arg9 harg9 arg10 harg10 arg11 harg11 arg12 harg12 arg13 harg13 f3 f4 f5)) (g11_2 c arg11 (odR11 c i arg3 harg3 arg4 harg4 arg5 harg5 arg6 harg6 arg7 harg7 arg8 harg8 arg9 harg9 arg10 harg10 arg11 harg11 arg12 harg12 arg13 harg13 f3 f4 f5)) (g9_2 c arg9 (odR9 c i arg3 harg3 arg4 harg4 arg5 harg5 arg6 harg6 arg7 harg7 arg8 harg8 arg9 harg9 arg10 harg10 arg11 harg11 arg12 harg12 arg13 harg13 f3 f4 f5)) (g12_2 c arg12 (odR12 c i arg3 harg3 arg4 harg4 arg5 harg5 arg6 harg6 arg7 harg7 arg8 harg8 arg9 harg9 arg10 harg10 arg11 harg11 arg12 harg12 arg13 harg13 f3 f4 f5))))⟩,
    ⟨Rect.unit (s := S1x1024x128) ![0, 256, 0] S1x256x128.size inb_S1x1024x128_S1x256x128_0_256_0, outg (dA1 (arg8.view.readAt (Elt Ideal) (Rect.unit (s := S4x1024x256) ![1, 0, 0] S1x512x256.size inb_S4x1024x256_S1x512x256_1_0_0).toLoadRect (od8 c i arg3 arg4 arg8 f3 f4 h2)) (nM (g11_1 c arg11 (odR11 c i arg3 harg3 arg4 harg4 arg5 harg5 arg6 harg6 arg7 harg7 arg8 harg8 arg9 harg9 arg10 harg10 arg11 harg11 arg12 harg12 arg13 harg13 f3 f4 f5)) (g9_1 c arg9 (odR9 c i arg3 harg3 arg4 harg4 arg5 harg5 arg6 harg6 arg7 harg7 arg8 harg8 arg9 harg9 arg10 harg10 arg11 harg11 arg12 harg12 arg13 harg13 f3 f4 f5))) (nA (g7_1 c arg7 (odR7 c i arg3 harg3 arg4 harg4 arg5 harg5 arg6 harg6 arg7 harg7 arg8 harg8 arg9 harg9 arg10 harg10 arg11 harg11 arg12 harg12 arg13 harg13 f3 f4 f5)) (g11_1 c arg11 (odR11 c i arg3 harg3 arg4 harg4 arg5 harg5 arg6 harg6 arg7 harg7 arg8 harg8 arg9 harg9 arg10 harg10 arg11 harg11 arg12 harg12 arg13 harg13 f3 f4 f5)) (g9_1 c arg9 (odR9 c i arg3 harg3 arg4 harg4 arg5 harg5 arg6 harg6 arg7 harg7 arg8 harg8 arg9 harg9 arg10 harg10 arg11 harg11 arg12 harg12 arg13 harg13 f3 f4 f5)) (g13_1 c arg13 (odR13 c i arg3 harg3 arg4 harg4 arg5 harg5 arg6 harg6 arg7 harg7 arg8 harg8 arg9 harg9 arg10 harg10 arg11 harg11 arg12 harg12 arg13 harg13 f3 f4 f5)) (VP c i arg5 f5 h2)) (odV1 c i arg5 f5 h2)) (dL1 (arg8.view.readAt (Elt Ideal) (Rect.unit (s := S4x1024x256) ![1, 0, 0] S1x512x256.size inb_S4x1024x256_S1x512x256_1_0_0).toLoadRect (od8 c i arg3 arg4 arg8 f3 f4 h2)) (nM (g11_1 c arg11 (odR11 c i arg3 harg3 arg4 harg4 arg5 harg5 arg6 harg6 arg7 harg7 arg8 harg8 arg9 harg9 arg10 harg10 arg11 harg11 arg12 harg12 arg13 harg13 f3 f4 f5)) (g9_1 c arg9 (odR9 c i arg3 harg3 arg4 harg4 arg5 harg5 arg6 harg6 arg7 harg7 arg8 harg8 arg9 harg9 arg10 harg10 arg11 harg11 arg12 harg12 arg13 harg13 f3 f4 f5))) (nL (g7_1 c arg7 (odR7 c i arg3 harg3 arg4 harg4 arg5 harg5 arg6 harg6 arg7 harg7 arg8 harg8 arg9 harg9 arg10 harg10 arg11 harg11 arg12 harg12 arg13 harg13 f3 f4 f5)) (g11_1 c arg11 (odR11 c i arg3 harg3 arg4 harg4 arg5 harg5 arg6 harg6 arg7 harg7 arg8 harg8 arg9 harg9 arg10 harg10 arg11 harg11 arg12 harg12 arg13 harg13 f3 f4 f5)) (g9_1 c arg9 (odR9 c i arg3 harg3 arg4 harg4 arg5 harg5 arg6 harg6 arg7 harg7 arg8 harg8 arg9 harg9 arg10 harg10 arg11 harg11 arg12 harg12 arg13 harg13 f3 f4 f5)) (g12_1 c arg12 (odR12 c i arg3 harg3 arg4 harg4 arg5 harg5 arg6 harg6 arg7 harg7 arg8 harg8 arg9 harg9 arg10 harg10 arg11 harg11 arg12 harg12 arg13 harg13 f3 f4 f5))))⟩,
    ⟨Rect.unit (s := S1x1024x128) ![0, 0, 0] S1x256x128.size inb_S1x1024x128_S1x256x128_0_0_0, outg (dA0 (arg8.view.readAt (Elt Ideal) (Rect.unit (s := S4x1024x256) ![0, 0, 0] S1x256x256.size inb_S4x1024x256_S1x256x256_0_0_0).toLoadRect (od8 c i arg3 arg4 arg8 f3 f4 h2)) (nM (g11_0 c arg11 (odR11 c i arg3 harg3 arg4 harg4 arg5 harg5 arg6 harg6 arg7 harg7 arg8 harg8 arg9 harg9 arg10 harg10 arg11 harg11 arg12 harg12 arg13 harg13 f3 f4 f5)) (g9_0 c arg9 (odR9 c i arg3 harg3 arg4 harg4 arg5 harg5 arg6 harg6 arg7 harg7 arg8 harg8 arg9 harg9 arg10 harg10 arg11 harg11 arg12 harg12 arg13 harg13 f3 f4 f5))) (nA (g7_0 c arg7 (odR7 c i arg3 harg3 arg4 harg4 arg5 harg5 arg6 harg6 arg7 harg7 arg8 harg8 arg9 harg9 arg10 harg10 arg11 harg11 arg12 harg12 arg13 harg13 f3 f4 f5)) (g11_0 c arg11 (odR11 c i arg3 harg3 arg4 harg4 arg5 harg5 arg6 harg6 arg7 harg7 arg8 harg8 arg9 harg9 arg10 harg10 arg11 harg11 arg12 harg12 arg13 harg13 f3 f4 f5)) (g9_0 c arg9 (odR9 c i arg3 harg3 arg4 harg4 arg5 harg5 arg6 harg6 arg7 harg7 arg8 harg8 arg9 harg9 arg10 harg10 arg11 harg11 arg12 harg12 arg13 harg13 f3 f4 f5)) (g13_0 c arg13 (odR13 c i arg3 harg3 arg4 harg4 arg5 harg5 arg6 harg6 arg7 harg7 arg8 harg8 arg9 harg9 arg10 harg10 arg11 harg11 arg12 harg12 arg13 harg13 f3 f4 f5)) (VP c i arg5 f5 h2)) (odV0 c i arg5 f5 h2)) (dL0 (arg8.view.readAt (Elt Ideal) (Rect.unit (s := S4x1024x256) ![0, 0, 0] S1x256x256.size inb_S4x1024x256_S1x256x256_0_0_0).toLoadRect (od8 c i arg3 arg4 arg8 f3 f4 h2)) (nM (g11_0 c arg11 (odR11 c i arg3 harg3 arg4 harg4 arg5 harg5 arg6 harg6 arg7 harg7 arg8 harg8 arg9 harg9 arg10 harg10 arg11 harg11 arg12 harg12 arg13 harg13 f3 f4 f5)) (g9_0 c arg9 (odR9 c i arg3 harg3 arg4 harg4 arg5 harg5 arg6 harg6 arg7 harg7 arg8 harg8 arg9 harg9 arg10 harg10 arg11 harg11 arg12 harg12 arg13 harg13 f3 f4 f5))) (nL (g7_0 c arg7 (odR7 c i arg3 harg3 arg4 harg4 arg5 harg5 arg6 harg6 arg7 harg7 arg8 harg8 arg9 harg9 arg10 harg10 arg11 harg11 arg12 harg12 arg13 harg13 f3 f4 f5)) (g11_0 c arg11 (odR11 c i arg3 harg3 arg4 harg4 arg5 harg5 arg6 harg6 arg7 harg7 arg8 harg8 arg9 harg9 arg10 harg10 arg11 harg11 arg12 harg12 arg13 harg13 f3 f4 f5)) (g9_0 c arg9 (odR9 c i arg3 harg3 arg4 harg4 arg5 harg5 arg6 harg6 arg7 harg7 arg8 harg8 arg9 harg9 arg10 harg10 arg11 harg11 arg12 harg12 arg13 harg13 f3 f4 f5)) (g12_0 c arg12 (odR12 c i arg3 harg3 arg4 harg4 arg5 harg5 arg6 harg6 arg7 harg7 arg8 harg8 arg9 harg9 arg10 harg10 arg11 harg11 arg12 harg12 arg13 harg13 f3 f4 f5))))⟩] := by
  unfold bodyRunOdd
  dsimp only
  refine pieces_congr ?_ ?_ ?_ ?_
  all_goals
    simp (disch := decide) only [od_v194, od_v196, od_v198, od_v206, od_v215, od_v231, od_v233, od_v235, od_v243, od_v252, od_v268, od_v270, od_v272, od_v280, od_v289, od_v305, od_v307, od_v309, od_v317, od_v326, od_v342, od_v386, od_v430, od_v474, outg, nM, nL, nA, dL0, dL1, dL2, dL3, dA0, dA1, dA2, dA3, bodyRunOdd.sl.v395, bodyRunOdd.sl.r_4, bodyRunOdd.sl.v128, bodyRunOdd.sl.v69, bodyRunOdd.sl.H7_4, bodyRunOdd.sl.r_13, bodyRunOdd.sl.r_26, bodyRunOdd.sl.v388, bodyRunOdd.sl.v73, bodyRunOdd.sl.v72, bodyRunOdd.sl.v361, bodyRunOdd.sl.v70, bodyRunOdd.sl.v483, bodyRunOdd.sl.r_8, bodyRunOdd.sl.H12_4, bodyRunOdd.sl.H12_7, bodyRunOdd.sl.v77, bodyRunOdd.sl.r_7, bodyRunOdd.sl.v126, bodyRunOdd.sl.r_29, bodyRunOdd.sl.H11_7, bodyRunOdd.sl.v493, bodyRunOdd.sl.v60, bodyRunOdd.sl.r_10, bodyRunOdd.sl.H13_8, bodyRunOdd.sl.v61, bodyRunOdd.sl.v449, bodyRunOdd.sl.r_2, bodyRunOdd.sl.r_18, bodyRunOdd.sl.v458, bodyRunOdd.sl.H11_5, bodyRunOdd.sl.H11_6, bodyRunOdd.sl.H12_1, bodyRunOdd.sl.r_22, bodyRunOdd.sl.v439, bodyRunOdd.sl.v78, bodyRunOdd.sl.v62, bodyRunOdd.sl.v79, bodyRunOdd.sl.H13_1, bodyRunOdd.sl.v405, bodyRunOdd.sl.r_1, bodyRunOdd.sl.r_3, bodyRunOdd.sl.v116, bodyRunOdd.sl.r_17, bodyRunOdd.sl.r_14, bodyRunOdd.sl.H9_4, bodyRunOdd.sl.v351, bodyRunOdd.sl.H11_1, bodyRunOdd.sl.r_21, bodyRunOdd.sl.v414, bodyRunOdd.sl.r_11, bodyRunOdd.sl.H13_4, bodyRunOdd.sl.v58, bodyRunOdd.sl.v71, bodyRunOdd.sl.H12_8, bodyRunOdd.sl.r_16, bodyRunOdd.sl.H13_7, bodyRunOdd.sl.v370, bodyRunOdd.sl.H13_6, bodyRunOdd.sl.v136, bodyRunOdd.sl.r_23, bodyRunOdd.sl.v106, bodyRunOdd.sl.H8_4, bodyRunOdd.sl.H13_5, bodyRunOdd.sl.v108, bodyRunOdd.sl.r_12, bodyRunOdd.sl.H12_6, bodyRunOdd.sl.v193, bodyRunOdd.sl.H12_5, bodyRunOdd.sl.H11_4, bodyRunOdd.sl.r_20, bodyRunOdd.sl.v63, bodyRunOdd.sl.v74, bodyRunOdd.sl.r_19, bodyRunOdd.sl.v75, bodyRunOdd.sl.r_27, bodyRunOdd.sl.v118, bodyRunOdd.sl.r_9, bodyRunOdd.sl.r_24, bodyRunOdd.sl.v502, bodyRunOdd.sl.r_6, bodyRunOdd.sl.r_15, bodyRunOdd.sl.v59, bodyRunOdd.sl.r_28, bodyRunOdd.sl.v138, bodyRunOdd.sl.r, bodyRunOdd.sl.r_5, bodyRunOdd.sl.r_25, View.readCov_cons_toLoadRect, View.readCov_skip]
    rfl

end Cert.FoxIdeal.Body

end
-- ==== Proof.FoxSteps.lean ====
module

public import proofs.«01_k».proof.Proof.FoxPoint
public import Idealize.ShloMosaic.Lib.Pipeline.ReadBack
public import Idealize.ShloMosaic.Lib.WritesUnit

/-! One query's column of the attention: what a block of keys does to the running maximum, sum and weighted sum,
    for a whole block and for the block of the diagonal. -/

@[expose] public section

set_option maxRecDepth 16384

noncomputable section

namespace Cert.FoxIdeal.Body

open Cert.FoxIdeal Cert.FoxIdeal.Gen Idealize.ShloMosaic Idealize.ShloMosaic.TcCoe Cert.FoxMath

/-- A load of a unit-stride rectangle reads the buffer at the offset plus the place in the rectangle. -/
theorem readAt_unit {sig : RefSig} {κ : Kind} {sp : Space} {s : Shape} {e : EltTy} {Val : EltTy → Type}
    (v : View sig κ sp s e) (f : v.ty.Contents Val) (off size : Fin s.rank → ℕ) (inb : ∀ a, off a + size a ≤ s.size a)
    (x : (Rect.unit off size inb).shape.Idx) (y : s.Idx) (h : ∀ a, (y a).val = off a + (x a).val) :
    v.readAt Val (Rect.unit off size inb).toLoadRect f x = v.read Val f y := by
  have hy : (Rect.unit off size inb).emb x = y := funext fun a => Fin.ext (by
    show off a + 1 * (x a).val = (y a).val
    rw [h a, Nat.one_mul])
  rw [← hy]; rfl

section Full

variable (S : ℕ → EReal) (V : ℕ → Fin 128 → EReal) (n : ℕ) (q : Fin 256)
  (s : Vec Ideal S1x1024x256 .f32) (m x l : Vec Ideal S1x1x256 .f32) (a : Vec Ideal S1x128x256 .f32) (v : Vec Ideal S1x1x1x128x1024 .bf16)
  (hs : ∀ κ : Fin 1024, s (ix3 0 κ q) = S (n + κ.val)) (hx : x (ix3 0 0 q) = Finset.univ.sup fun κ : Fin 1024 => S (n + κ.val))
  (hm : m (ix3 0 0 q) = rm S n)

include hx hm in
theorem stepM : nM m x (ix3 0 0 q) = rm S (n + 1024) := by
  rw [nM_at, hm, hx]; exact rm_add S n 1024 _ fun _ => rfl

include hs hx hm in
theorem stepL (hl : l (ix3 0 0 q) = rl S n) : nL s m x l (ix3 0 0 q) = rl S (n + 1024) := by
  rw [nL_at, stepM S n q m x hx hm, hl, hm]; exact rl_add S n 1024 _ hs

include hs hx hm in
theorem stepA (ha : ∀ d, a (ix3 0 d q) = ra S (fun u => V u d) n) (hv : ∀ d (κ : Fin 1024), v (ix5 0 0 0 d κ) = V (n + κ.val) d) (d : Fin 128) :
    nA s m x a v (ix3 0 d q) = ra S (fun u => V u d) (n + 1024) := by
  rw [nA_at, stepM S n q m x hx hm, ha, hm]; exact ra_add S (fun u => V u d) n 1024 _ _ hs (hv d)

end Full

section Diag

variable (S : ℕ → EReal) (V : ℕ → Fin 128 → EReal) (n : ℕ) (q : Fin 256)
  (m l : Vec Ideal S1x1x256 .f32) (a : Vec Ideal S1x128x256 .f32) (hm : m (ix3 0 0 q) = rm S n) (hl : l (ix3 0 0 q) = rl S n)
  (ha : ∀ d, a (ix3 0 d q) = ra S (fun u => V u d) n)

include hm in
theorem dM_col (g R : ℕ) (s : Fin R → EReal) (hs : ∀ κ, mk g s q κ = S (n + κ.val)) : dM g s (m (ix3 0 0 q)) q = rm S (n + R) := by
  unfold dM; rw [hm]; exact rm_add S n R _ hs

include hm hl ha in
/-- Group 0 of the diagonal block, divided out: the sums over every key the query sees. -/
theorem diag0 (s : Vec Ideal S1x256x256 .f32) (v : Vec Ideal S1x1x1x128x256 .bf16)
    (hs : ∀ κ : Fin 256, mk 0 (fun κ => s (ix3 0 κ q)) q κ = S (n + κ.val)) (hv : ∀ d (κ : Fin 256), v (ix5 0 0 0 d κ) = V (n + κ.val) d)
    (hz : ∀ u, n + 256 ≤ u → S u = ⊥) (hn : n + 256 ≤ 16384) (d : Fin 128) :
    outg (dA0 s m a v) (dL0 s m l) (ix3 0 q d) = Ideal.div (ra S (fun u => V u d) 16384) (rl S 16384) := by
  have e := Nat.add_sub_of_le hn
  have eM := dM_col S n q m hm 0 256 (fun κ => s (ix3 0 κ q)) hs
  rw [outg_at, dA0_at, dL0_at, eM, hm, hl, ha, rl_add S n 256 _ hs, ra_add S (fun u => V u d) n 256 _ _ hs (hv d),
    ← rl_ext S (n + 256) _ hz, ← ra_ext S (fun u => V u d) (n + 256) _ hz, e]

include hm hl ha in
/-- Group 1 of the diagonal block, divided out: the sums over every key the query sees. -/
theorem diag1 (s : Vec Ideal S1x512x256 .f32) (v : Vec Ideal S1x1x1x128x512 .bf16)
    (hs : ∀ κ : Fin 512, mk 1 (fun κ => s (ix3 0 κ q)) q κ = S (n + κ.val)) (hv : ∀ d (κ : Fin 512), v (ix5 0 0 0 d κ) = V (n + κ.val) d)
    (hz : ∀ u, n + 512 ≤ u → S u = ⊥) (hn : n + 512 ≤ 16384) (d : Fin 128) :
    outg (dA1 s m a v) (dL1 s m l) (ix3 0 q d) = Ideal.div (ra S (fun u => V u d) 16384) (rl S 16384) := by
  have e := Nat.add_sub_of_le hn
  have eM := dM_col S n q m hm 1 512 (fun κ => s (ix3 0 κ q)) hs
  rw [outg_at, dA1_at, dL1_at, eM, hm, hl, ha, rl_add S n 512 _ hs, ra_add S (fun u => V u d) n 512 _ _ hs (hv d),
    ← rl_ext S (n + 512) _ hz, ← ra_ext S (fun u => V u d) (n + 512) _ hz, e]

include hm hl ha in
/-- Group 2 of the diagonal block, divided out: the sums over every key the query sees. -/
theorem diag2 (s : Vec Ideal S1x768x256 .f32) (v : Vec Ideal S1x1x1x128x768 .bf16)
    (hs : ∀ κ : Fin 768, mk 2 (fun κ => s (ix3 0 κ q)) q κ = S (n + κ.val)) (hv : ∀ d (κ : Fin 768), v (ix5 0 0 0 d κ) = V (n + κ.val) d)
    (hz : ∀ u, n + 768 ≤ u → S u = ⊥) (hn : n + 768 ≤ 16384) (d : Fin 128) :
    outg (dA2 s m a v) (dL2 s m l) (ix3 0 q d) = Ideal.div (ra S (fun u => V u d) 16384) (rl S 16384) := by
  have e := Nat.add_sub_of_le hn
  have eM := dM_col S n q m hm 2 768 (fun κ => s (ix3 0 κ q)) hs
  rw [outg_at, dA2_at, dL2_at, eM, hm, hl, ha, rl_add S n 768 _ hs, ra_add S (fun u => V u d) n 768 _ _ hs (hv d),
    ← rl_ext S (n + 768) _ hz, ← ra_ext S (fun u => V u d) (n + 768) _ hz, e]

include hm hl ha in
/-- Group 3 of the diagonal block, divided out: the sums over every key the query sees. -/
theorem diag3 (s : Vec Ideal S1x1024x256 .f32) (v : Vec Ideal S1x1x1x128x1024 .bf16)
    (hs : ∀ κ : Fin 1024, mk 3 (fun κ => s (ix3 0 κ q)) q κ = S (n + κ.val)) (hv : ∀ d (κ : Fin 1024), v (ix5 0 0 0 d κ) = V (n + κ.val) d)
    (hz : ∀ u, n + 1024 ≤ u → S u = ⊥) (hn : n + 1024 ≤ 16384) (d : Fin 128) :
    outg (dA3 s m a v) (dL3 s m l) (ix3 0 q d) = Ideal.div (ra S (fun u => V u d) 16384) (rl S 16384) := by
  have e := Nat.add_sub_of_le hn
  have eM := dM_col S n q m hm 3 1024 (fun κ => s (ix3 0 κ q)) hs
  rw [outg_at, dA3_at, dL3_at, eM, hm, hl, ha, rl_add S n 1024 _ hs, ra_add S (fun u => V u d) n 1024 _ _ hs (hv d),
    ← rl_ext S (n + 1024) _ hz, ← ra_ext S (fun u => V u d) (n + 1024) _ hz, e]

end Diag

end Cert.FoxIdeal.Body

end
-- ==== Proof.FoxCol.lean ====
module

public import proofs.«01_k».proof.Proof.FoxIdealBody
public import proofs.«01_k».proof.Proof.FoxFin
public import proofs.«01_k».proof.Proof.FoxSteps
public import Idealize.ShloMosaic.Lib.Pipeline.ReadBack
public import Idealize.ShloMosaic.Lib.Tactic.RunNames

/-! The loop over key blocks and what follows it, column by column: the output block holds, for each query, the
    weighted sum of the values divided by the sum of the weights, over all the keys the query sees. -/

@[expose] public section

set_option maxRecDepth 16384

noncomputable section

namespace Cert.FoxIdeal.Body

open Idealize.ShloMosaic Idealize.ShloMosaic.TcCoe Idealize.ShloMosaic.Tactic
open Cert.FoxIdeal.Gen Cert.FoxMath

variable (c : Dev nD) (i : grid0.Coords) (arg3 : Memref sig .tc .vmem S1x1x1x1024x256 .bf16) (harg3 : arg3.IsWhole) (arg4 : Memref sig .tc .vmem S1x1x16x1024x256 .bf16) (harg4 : arg4.IsWhole) (arg5 : Memref sig .tc .vmem S1x1x16x128x1024 .bf16) (harg5 : arg5.IsWhole) (arg6 : Memref sig .tc .vmem S1x1024x128 .f32) (harg6 : arg6.IsWhole) (arg7 : Memref sig .tc .vmem S4x1024x256 .f32) (harg7 : arg7.IsWhole) (arg8 : Memref sig .tc .vmem S4x1024x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x1x256 .f32) (harg12 : arg12.IsWhole) (arg13 : Memref sig .tc .vmem S4x128x256 .f32) (harg13 : arg13.IsWhole)

theorem trips_eq : ∀ i : grid0.Coords, (k0_t1_loop i).trips = (i 2).val / 2 := by decide +kernel
theorem off1_odd : ∀ (i : grid0.Coords) (k : Fin (k0_t1_loop i).trips), k0_off1 i k 1#32 = ![0, 0, 2 * k.val + 1, 0, 0] := by decide +kernel
theorem off1_even : ∀ (i : grid0.Coords) (k : Fin (k0_t1_loop i).trips), k0_off1 i k 2#32 = ![0, 0, 2 * k.val + 2, 0, 0] := by decide +kernel
theorem off2_eq : ∀ (i : grid0.Coords) (k : Fin (k0_t1_loop i).trips), k0_off2 i k = ![0, 0, 2 * k.val, 0, 0] := by decide +kernel
theorem off3_eq : ∀ (i : grid0.Coords) (k : Fin (k0_t1_loop i).trips), k0_off3 i k = ![0, 0, 2 * k.val + 1, 0, 0] := by decide +kernel
theorem off7_eq : ∀ i : grid0.Coords, k0_off7 i = ![0, 0, (i 2).val, 0, 0] := by decide +kernel
theorem off8_eq : ∀ i : grid0.Coords, k0_off8 i = ![0, 0, (i 2).val, 0, 0] := by decide +kernel
theorem off9_eq : ∀ i : grid0.Coords, k0_off9 i = ![0, 0, (i 2).val, 0, 0] := by decide +kernel
theorem off10_eq : ∀ i : grid0.Coords, k0_off10 i = ![0, 0, (i 2).val, 0, 0] := by decide +kernel
theorem off11_eq : ∀ i : grid0.Coords, k0_off11 i = ![0, 0, (i 2).val, 0, 0] := by decide +kernel
theorem off13_eq : ∀ i : grid0.Coords, k0_off13 i = ![0, 0, (i 2).val, 0, 0] := by decide +kernel
theorem off14_eq : ∀ i : grid0.Coords, k0_off14 i = ![0, 0, (i 2).val, 0, 0] := by decide +kernel
theorem off15_eq : ∀ i : grid0.Coords, k0_off15 i = ![0, 0, (i 2).val, 0, 0] := by decide +kernel
theorem off16_eq : ∀ i : grid0.Coords, k0_off16 i = ![0, 0, (i 2).val, 0, 0] := by decide +kernel
theorem off12_eq : ∀ i : grid0.Coords, k0_cond2 i = 1#1 → k0_off12 i = ![0, 0, (i 2).val - 1, 0, 0] := by decide +kernel
theorem even_of : ∀ i : grid0.Coords, k0_cond1 i = 1#1 → 2 * ((i 2).val / 2) = (i 2).val := by decide +kernel
theorem odd_of : ∀ i : grid0.Coords, k0_cond2 i = 1#1 → 2 * ((i 2).val / 2) + 1 = (i 2).val := by decide +kernel

theorem pay301_at (x : S4x1x256.Idx) : (k0_pay301 : FVec Ideal S4x1x256 .f32) x = ⊥ := by
  pointwise [k0_pay301]
  exact ninf
theorem pay302_at (x : S4x1x256.Idx) : (k0_pay302 : FVec Ideal S4x1x256 .f32) x = 0 := by
  pointwise [k0_pay302]
theorem pay303_at (x : S4x128x256.Idx) : (k0_pay303 : FVec Ideal S4x128x256 .f32) x = 0 := by
  pointwise [k0_pay303]

variable (Kk : ℕ → Fin 256 → EReal) (Q : ℕ → Fin 256 → EReal) (V : ℕ → Fin 128 → EReal)

/-- The score of key `u` for query `T` of the block, and the same with the keys the query does not see at `⊥`. -/
def Sc (T u : ℕ) : EReal := ∑ d : Fin 256, Kk u d * Q T d
def Sm (b T u : ℕ) : EReal := if u ≤ 1024 * b + T then Sc Kk Q T u else ⊥

/-- A column before key block `n`. -/
def Col (b n T : ℕ) (r7 : Fin 1024 → EReal) (r9 r11 r12 : EReal) (r13 : Fin 128 → EReal) : Prop :=
  (∀ κ, r7 κ = Sc Kk Q T (1024 * n + κ.val)) ∧ (r9 = Finset.univ.sup fun κ : Fin 1024 => Sc Kk Q T (1024 * n + κ.val))
    ∧ r11 = rm (Sm Kk Q b T) (1024 * n) ∧ r12 = rl (Sm Kk Q b T) (1024 * n) ∧ ∀ d, r13 d = ra (Sm Kk Q b T) (fun u => V u d) (1024 * n)

theorem Sm_of_lt {b n T : ℕ} (h : n < b) (κ : Fin 1024) : Sm Kk Q b T (1024 * n + κ.val) = Sc Kk Q T (1024 * n + κ.val) :=
  if_pos (by have := κ.2; omega)

theorem Sm_succ {b n T : ℕ} (h : n + 1 < b) (κ : Fin 1024) : Sm Kk Q b T (1024 * n + 1024 + κ.val) = Sc Kk Q T (1024 * (n + 1) + κ.val) :=
  (if_pos (by have := κ.2; omega)).trans (congrArg _ (by omega))

/-- The state before key block `n`. -/
def Inv (b n : ℕ) (s : St (F := Ideal) c arg7 arg9 arg11 arg12 arg13) : Prop := ∀ q : Fin 256,
  Col Kk Q V b n (0 + q.val) (fun κ => g7_0 c arg7 s.s7 (ix3 0 κ q)) (g9_0 c arg9 s.s9 (ix3 0 0 q)) (g11_0 c arg11 s.s11 (ix3 0 0 q)) (g12_0 c arg12 s.s12 (ix3 0 0 q)) (fun d => g13_0 c arg13 s.s13 (ix3 0 d q))
    ∧ Col Kk Q V b n (256 + q.val) (fun κ => g7_1 c arg7 s.s7 (ix3 0 κ q)) (g9_1 c arg9 s.s9 (ix3 0 0 q)) (g11_1 c arg11 s.s11 (ix3 0 0 q)) (g12_1 c arg12 s.s12 (ix3 0 0 q)) (fun d => g13_1 c arg13 s.s13 (ix3 0 d q))
    ∧ Col Kk Q V b n (512 + q.val) (fun κ => g7_2 c arg7 s.s7 (ix3 0 κ q)) (g9_2 c arg9 s.s9 (ix3 0 0 q)) (g11_2 c arg11 s.s11 (ix3 0 0 q)) (g12_2 c arg12 s.s12 (ix3 0 0 q)) (fun d => g13_2 c arg13 s.s13 (ix3 0 d q))
    ∧ Col Kk Q V b n (768 + q.val) (fun κ => g7_3 c arg7 s.s7 (ix3 0 κ q)) (g9_3 c arg9 s.s9 (ix3 0 0 q)) (g11_3 c arg11 s.s11 (ix3 0 0 q)) (g12_3 c arg12 s.s12 (ix3 0 0 q)) (fun d => g13_3 c arg13 s.s13 (ix3 0 d q))

variable (arg2 : BitVec 32) (v13 : FVec Ideal S1024x256 .bf16) (f3 : Buf (Elt Ideal) (arg3.view.loc (c : Thread nD τ))) (f4 : Buf (Elt Ideal) (arg4.view.loc (c : Thread nD τ))) (f5 : Buf (Elt Ideal) (arg5.view.loc (c : Thread nD τ)))
  (hK : ∀ (j : Fin 16) (κ : Fin 1024) (d : Fin 256), arg4.view.read (Elt Ideal) f4 (ix5 0 0 j κ d) = Kk (1024 * j.val + κ.val) d)
  (hQ : ∀ (r : Fin 1024) (d : Fin 256), arg3.view.read (Elt Ideal) f3 (ix5 0 0 0 r d) = Q r.val d)
  (hV : ∀ (j : Fin 16) (d : Fin 128) (κ : Fin 1024), arg5.view.read (Elt Ideal) f5 (ix5 0 0 j d κ) = V (1024 * j.val + κ.val) d)

include hK in
theorem kb_at (off : Fin 5 → ℕ) {inb} (j : ℕ) (h : off = ![0, 0, j, 0, 0]) (hj : j < 16) (κ : Fin 1024) (d : Fin 256) :
    arg4.view.readAt (Elt Ideal) (Rect.unit (s := S1x1x16x1024x256) off S1x1x1x1024x256.size inb).toLoadRect f4 (ix5 0 0 0 κ d) = Kk (1024 * j + κ.val) d := by
  subst h
  rw [← hK ⟨j, hj⟩ κ d]
  refine readAt_unit _ _ _ _ _ _ _ fun a => ?_
  fin_cases a <;> simp

include hV in
theorem vb256_at (off : Fin 5 → ℕ) {inb} (j : ℕ) (h : off = ![0, 0, j, 0, 0]) (hj : j < 16) (d : Fin 128) (κ : Fin 256) :
    arg5.view.readAt (Elt Ideal) (Rect.unit (s := S1x1x16x128x1024) off S1x1x1x128x256.size inb).toLoadRect f5 (ix5 0 0 0 d κ) = V (1024 * j + κ.val) d := by
  subst h
  rw [← hV ⟨j, hj⟩ d ⟨κ.val, by have := κ.2; omega⟩]
  refine readAt_unit _ _ _ _ _ _ _ fun a => ?_
  fin_cases a <;> simp

include hV in
theorem vb512_at (off : Fin 5 → ℕ) {inb} (j : ℕ) (h : off = ![0, 0, j, 0, 0]) (hj : j < 16) (d : Fin 128) (κ : Fin 512) :
    arg5.view.readAt (Elt Ideal) (Rect.unit (s := S1x1x16x128x1024) off S1x1x1x128x512.size inb).toLoadRect f5 (ix5 0 0 0 d κ) = V (1024 * j + κ.val) d := by
  subst h
  rw [← hV ⟨j, hj⟩ d ⟨κ.val, by have := κ.2; omega⟩]
  refine readAt_unit _ _ _ _ _ _ _ fun a => ?_
  fin_cases a <;> simp

include hV in
theorem vb768_at (off : Fin 5 → ℕ) {inb} (j : ℕ) (h : off = ![0, 0, j, 0, 0]) (hj : j < 16) (d : Fin 128) (κ : Fin 768) :
    arg5.view.readAt (Elt Ideal) (Rect.unit (s := S1x1x16x128x1024) off S1x1x1x128x768.size inb).toLoadRect f5 (ix5 0 0 0 d κ) = V (1024 * j + κ.val) d := by
  subst h
  rw [← hV ⟨j, hj⟩ d ⟨κ.val, by have := κ.2; omega⟩]
  refine readAt_unit _ _ _ _ _ _ _ fun a => ?_
  fin_cases a <;> simp

include hV in
theorem vb1024_at (off : Fin 5 → ℕ) {inb} (j : ℕ) (h : off = ![0, 0, j, 0, 0]) (hj : j < 16) (d : Fin 128) (κ : Fin 1024) :
    arg5.view.readAt (Elt Ideal) (Rect.unit (s := S1x1x16x128x1024) off S1x1x1x128x1024.size inb).toLoadRect f5 (ix5 0 0 0 d κ) = V (1024 * j + κ.val) d := by
  subst h
  rw [← hV ⟨j, hj⟩ d ⟨κ.val, by have := κ.2; omega⟩]
  refine readAt_unit _ _ _ _ _ _ _ fun a => ?_
  fin_cases a <;> simp

include hQ in
theorem qg0_at (q d : Fin 256) : qg0 c arg3 f3 (ix5 0 0 0 q d) = Q (0 + q.val) d := by
  rw [← hQ ⟨0 + q.val, by have := q.2; omega⟩ d]
  refine readAt_unit _ _ _ _ _ _ _ fun a => ?_
  fin_cases a <;> simp

include hK hQ in
theorem sc0_at (off : Fin 5 → ℕ) {inb} (j : ℕ) (h : off = ![0, 0, j, 0, 0]) (hj : j < 16) (q : Fin 256) (κ : Fin 1024) :
    sc (arg4.view.readAt (Elt Ideal) (Rect.unit (s := S1x1x16x1024x256) off S1x1x1x1024x256.size inb).toLoadRect f4) (qg0 c arg3 f3) (ix3 0 κ q)
      = Sc Kk Q (0 + q.val) (1024 * j + κ.val) := by
  rw [sc_at]
  exact Finset.sum_congr rfl fun d _ => by rw [kb_at (c := c) (hK := hK) (h := h) (hj := hj), qg0_at (c := c) (hQ := hQ)]

include hK hQ in
theorem smx0_at (off : Fin 5 → ℕ) {inb} (j : ℕ) (h : off = ![0, 0, j, 0, 0]) (hj : j < 16) (q : Fin 256) :
    smx (arg4.view.readAt (Elt Ideal) (Rect.unit (s := S1x1x16x1024x256) off S1x1x1x1024x256.size inb).toLoadRect f4) (qg0 c arg3 f3) (ix3 0 0 q)
      = Finset.univ.sup fun κ : Fin 1024 => Sc Kk Q (0 + q.val) (1024 * j + κ.val) := by
  rw [smx_at]
  exact congrArg _ (funext fun κ => sc0_at (c := c) (hK := hK) (hQ := hQ) (h := h) (hj := hj) (q := q) (κ := κ))

/-- A whole block taken in by column 0. -/
theorem col0_step {b n : ℕ} (hn : n < b) (q : Fin 256) (s : Vec Ideal S1x1024x256 .f32) (m x l : Vec Ideal S1x1x256 .f32) (a : Vec Ideal S1x128x256 .f32)
    (v : Vec Ideal S1x1x1x128x1024 .bf16)
    (h : Col Kk Q V b n (0 + q.val) (fun κ => s (ix3 0 κ q)) (x (ix3 0 0 q)) (m (ix3 0 0 q)) (l (ix3 0 0 q)) (fun d => a (ix3 0 d q)))
    (hv : ∀ d (κ : Fin 1024), v (ix5 0 0 0 d κ) = V (1024 * n + κ.val) d) :
    nM m x (ix3 0 0 q) = rm (Sm Kk Q b (0 + q.val)) (1024 * (n + 1)) ∧ nL s m x l (ix3 0 0 q) = rl (Sm Kk Q b (0 + q.val)) (1024 * (n + 1))
      ∧ ∀ d, nA s m x a v (ix3 0 d q) = ra (Sm Kk Q b (0 + q.val)) (fun u => V u d) (1024 * (n + 1)) := by
  obtain ⟨h7, h9, h11, h12, h13⟩ := h
  have hs : ∀ κ : Fin 1024, s (ix3 0 κ q) = Sm Kk Q b (0 + q.val) (1024 * n + κ.val) := fun κ => (h7 κ).trans (Sm_of_lt Kk Q hn κ).symm
  have hx : x (ix3 0 0 q) = Finset.univ.sup fun κ : Fin 1024 => Sm Kk Q b (0 + q.val) (1024 * n + κ.val) :=
    h9.trans (congrArg _ (funext fun κ => (Sm_of_lt Kk Q hn κ).symm))
  exact ⟨stepM _ _ _ _ _ hx h11, stepL _ _ _ _ _ _ _ hs hx h11 h12, stepA _ V _ _ _ _ _ _ _ hs hx h11 h13 hv⟩

include hQ in
theorem qg1_at (q d : Fin 256) : qg1 c arg3 f3 (ix5 0 0 0 q d) = Q (256 + q.val) d := by
  rw [← hQ ⟨256 + q.val, by have := q.2; omega⟩ d]
  refine readAt_unit _ _ _ _ _ _ _ fun a => ?_
  fin_cases a <;> simp

include hK hQ in
theorem sc1_at (off : Fin 5 → ℕ) {inb} (j : ℕ) (h : off = ![0, 0, j, 0, 0]) (hj : j < 16) (q : Fin 256) (κ : Fin 1024) :
    sc (arg4.view.readAt (Elt Ideal) (Rect.unit (s := S1x1x16x1024x256) off S1x1x1x1024x256.size inb).toLoadRect f4) (qg1 c arg3 f3) (ix3 0 κ q)
      = Sc Kk Q (256 + q.val) (1024 * j + κ.val) := by
  rw [sc_at]
  exact Finset.sum_congr rfl fun d _ => by rw [kb_at (c := c) (hK := hK) (h := h) (hj := hj), qg1_at (c := c) (hQ := hQ)]

include hK hQ in
theorem smx1_at (off : Fin 5 → ℕ) {inb} (j : ℕ) (h : off = ![0, 0, j, 0, 0]) (hj : j < 16) (q : Fin 256) :
    smx (arg4.view.readAt (Elt Ideal) (Rect.unit (s := S1x1x16x1024x256) off S1x1x1x1024x256.size inb).toLoadRect f4) (qg1 c arg3 f3) (ix3 0 0 q)
      = Finset.univ.sup fun κ : Fin 1024 => Sc Kk Q (256 + q.val) (1024 * j + κ.val) := by
  rw [smx_at]
  exact congrArg _ (funext fun κ => sc1_at (c := c) (hK := hK) (hQ := hQ) (h := h) (hj := hj) (q := q) (κ := κ))

/-- A whole block taken in by column 1. -/
theorem col1_step {b n : ℕ} (hn : n < b) (q : Fin 256) (s : Vec Ideal S1x1024x256 .f32) (m x l : Vec Ideal S1x1x256 .f32) (a : Vec Ideal S1x128x256 .f32)
    (v : Vec Ideal S1x1x1x128x1024 .bf16)
    (h : Col Kk Q V b n (256 + q.val) (fun κ => s (ix3 0 κ q)) (x (ix3 0 0 q)) (m (ix3 0 0 q)) (l (ix3 0 0 q)) (fun d => a (ix3 0 d q)))
    (hv : ∀ d (κ : Fin 1024), v (ix5 0 0 0 d κ) = V (1024 * n + κ.val) d) :
    nM m x (ix3 0 0 q) = rm (Sm Kk Q b (256 + q.val)) (1024 * (n + 1)) ∧ nL s m x l (ix3 0 0 q) = rl (Sm Kk Q b (256 + q.val)) (1024 * (n + 1))
      ∧ ∀ d, nA s m x a v (ix3 0 d q) = ra (Sm Kk Q b (256 + q.val)) (fun u => V u d) (1024 * (n + 1)) := by
  obtain ⟨h7, h9, h11, h12, h13⟩ := h
  have hs : ∀ κ : Fin 1024, s (ix3 0 κ q) = Sm Kk Q b (256 + q.val) (1024 * n + κ.val) := fun κ => (h7 κ).trans (Sm_of_lt Kk Q hn κ).symm
  have hx : x (ix3 0 0 q) = Finset.univ.sup fun κ : Fin 1024 => Sm Kk Q b (256 + q.val) (1024 * n + κ.val) :=
    h9.trans (congrArg _ (funext fun κ => (Sm_of_lt Kk Q hn κ).symm))
  exact ⟨stepM _ _ _ _ _ hx h11, stepL _ _ _ _ _ _ _ hs hx h11 h12, stepA _ V _ _ _ _ _ _ _ hs hx h11 h13 hv⟩

include hQ in
theorem qg2_at (q d : Fin 256) : qg2 c arg3 f3 (ix5 0 0 0 q d) = Q (512 + q.val) d := by
  rw [← hQ ⟨512 + q.val, by have := q.2; omega⟩ d]
  refine readAt_unit _ _ _ _ _ _ _ fun a => ?_
  fin_cases a <;> simp

include hK hQ in
theorem sc2_at (off : Fin 5 → ℕ) {inb} (j : ℕ) (h : off = ![0, 0, j, 0, 0]) (hj : j < 16) (q : Fin 256) (κ : Fin 1024) :
    sc (arg4.view.readAt (Elt Ideal) (Rect.unit (s := S1x1x16x1024x256) off S1x1x1x1024x256.size inb).toLoadRect f4) (qg2 c arg3 f3) (ix3 0 κ q)
      = Sc Kk Q (512 + q.val) (1024 * j + κ.val) := by
  rw [sc_at]
  exact Finset.sum_congr rfl fun d _ => by rw [kb_at (c := c) (hK := hK) (h := h) (hj := hj), qg2_at (c := c) (hQ := hQ)]

include hK hQ in
theorem smx2_at (off : Fin 5 → ℕ) {inb} (j : ℕ) (h : off = ![0, 0, j, 0, 0]) (hj : j < 16) (q : Fin 256) :
    smx (arg4.view.readAt (Elt Ideal) (Rect.unit (s := S1x1x16x1024x256) off S1x1x1x1024x256.size inb).toLoadRect f4) (qg2 c arg3 f3) (ix3 0 0 q)
      = Finset.univ.sup fun κ : Fin 1024 => Sc Kk Q (512 + q.val) (1024 * j + κ.val) := by
  rw [smx_at]
  exact congrArg _ (funext fun κ => sc2_at (c := c) (hK := hK) (hQ := hQ) (h := h) (hj := hj) (q := q) (κ := κ))

/-- A whole block taken in by column 2. -/
theorem col2_step {b n : ℕ} (hn : n < b) (q : Fin 256) (s : Vec Ideal S1x1024x256 .f32) (m x l : Vec Ideal S1x1x256 .f32) (a : Vec Ideal S1x128x256 .f32)
    (v : Vec Ideal S1x1x1x128x1024 .bf16)
    (h : Col Kk Q V b n (512 + q.val) (fun κ => s (ix3 0 κ q)) (x (ix3 0 0 q)) (m (ix3 0 0 q)) (l (ix3 0 0 q)) (fun d => a (ix3 0 d q)))
    (hv : ∀ d (κ : Fin 1024), v (ix5 0 0 0 d κ) = V (1024 * n + κ.val) d) :
    nM m x (ix3 0 0 q) = rm (Sm Kk Q b (512 + q.val)) (1024 * (n + 1)) ∧ nL s m x l (ix3 0 0 q) = rl (Sm Kk Q b (512 + q.val)) (1024 * (n + 1))
      ∧ ∀ d, nA s m x a v (ix3 0 d q) = ra (Sm Kk Q b (512 + q.val)) (fun u => V u d) (1024 * (n + 1)) := by
  obtain ⟨h7, h9, h11, h12, h13⟩ := h
  have hs : ∀ κ : Fin 1024, s (ix3 0 κ q) = Sm Kk Q b (512 + q.val) (1024 * n + κ.val) := fun κ => (h7 κ).trans (Sm_of_lt Kk Q hn κ).symm
  have hx : x (ix3 0 0 q) = Finset.univ.sup fun κ : Fin 1024 => Sm Kk Q b (512 + q.val) (1024 * n + κ.val) :=
    h9.trans (congrArg _ (funext fun κ => (Sm_of_lt Kk Q hn κ).symm))
  exact ⟨stepM _ _ _ _ _ hx h11, stepL _ _ _ _ _ _ _ hs hx h11 h12, stepA _ V _ _ _ _ _ _ _ hs hx h11 h13 hv⟩

include hQ in
theorem qg3_at (q d : Fin 256) : qg3 c arg3 f3 (ix5 0 0 0 q d) = Q (768 + q.val) d := by
  rw [← hQ ⟨768 + q.val, by have := q.2; omega⟩ d]
  refine readAt_unit _ _ _ _ _ _ _ fun a => ?_
  fin_cases a <;> simp

include hK hQ in
theorem sc3_at (off : Fin 5 → ℕ) {inb} (j : ℕ) (h : off = ![0, 0, j, 0, 0]) (hj : j < 16) (q : Fin 256) (κ : Fin 1024) :
    sc (arg4.view.readAt (Elt Ideal) (Rect.unit (s := S1x1x16x1024x256) off S1x1x1x1024x256.size inb).toLoadRect f4) (qg3 c arg3 f3) (ix3 0 κ q)
      = Sc Kk Q (768 + q.val) (1024 * j + κ.val) := by
  rw [sc_at]
  exact Finset.sum_congr rfl fun d _ => by rw [kb_at (c := c) (hK := hK) (h := h) (hj := hj), qg3_at (c := c) (hQ := hQ)]

include hK hQ in
theorem smx3_at (off : Fin 5 → ℕ) {inb} (j : ℕ) (h : off = ![0, 0, j, 0, 0]) (hj : j < 16) (q : Fin 256) :
    smx (arg4.view.readAt (Elt Ideal) (Rect.unit (s := S1x1x16x1024x256) off S1x1x1x1024x256.size inb).toLoadRect f4) (qg3 c arg3 f3) (ix3 0 0 q)
      = Finset.univ.sup fun κ : Fin 1024 => Sc Kk Q (768 + q.val) (1024 * j + κ.val) := by
  rw [smx_at]
  exact congrArg _ (funext fun κ => sc3_at (c := c) (hK := hK) (hQ := hQ) (h := h) (hj := hj) (q := q) (κ := κ))

/-- A whole block taken in by column 3. -/
theorem col3_step {b n : ℕ} (hn : n < b) (q : Fin 256) (s : Vec Ideal S1x1024x256 .f32) (m x l : Vec Ideal S1x1x256 .f32) (a : Vec Ideal S1x128x256 .f32)
    (v : Vec Ideal S1x1x1x128x1024 .bf16)
    (h : Col Kk Q V b n (768 + q.val) (fun κ => s (ix3 0 κ q)) (x (ix3 0 0 q)) (m (ix3 0 0 q)) (l (ix3 0 0 q)) (fun d => a (ix3 0 d q)))
    (hv : ∀ d (κ : Fin 1024), v (ix5 0 0 0 d κ) = V (1024 * n + κ.val) d) :
    nM m x (ix3 0 0 q) = rm (Sm Kk Q b (768 + q.val)) (1024 * (n + 1)) ∧ nL s m x l (ix3 0 0 q) = rl (Sm Kk Q b (768 + q.val)) (1024 * (n + 1))
      ∧ ∀ d, nA s m x a v (ix3 0 d q) = ra (Sm Kk Q b (768 + q.val)) (fun u => V u d) (1024 * (n + 1)) := by
  obtain ⟨h7, h9, h11, h12, h13⟩ := h
  have hs : ∀ κ : Fin 1024, s (ix3 0 κ q) = Sm Kk Q b (768 + q.val) (1024 * n + κ.val) := fun κ => (h7 κ).trans (Sm_of_lt Kk Q hn κ).symm
  have hx : x (ix3 0 0 q) = Finset.univ.sup fun κ : Fin 1024 => Sm Kk Q b (768 + q.val) (1024 * n + κ.val) :=
    h9.trans (congrArg _ (funext fun κ => (Sm_of_lt Kk Q hn κ).symm))
  exact ⟨stepM _ _ _ _ _ hx h11, stepL _ _ _ _ _ _ _ hs hx h11 h12, stepA _ V _ _ _ _ _ _ _ hs hx h11 h13 hv⟩

include hK hQ hV in
set_option maxHeartbeats 1000000 in
/-- One trip takes in two blocks. -/
theorem trip_inv (k : Fin (k0_t1_loop i).trips) (b : ℕ) (hb : 2 * k.val + 2 ≤ b) (hb' : b < 16) (s : St (F := Ideal) c arg7 arg9 arg11 arg12 arg13)
    (H : Inv c arg7 arg9 arg11 arg12 arg13 Kk Q V b (2 * k.val) s) :
    Inv c arg7 arg9 arg11 arg12 arg13 Kk Q V b (2 * k.val + 2) (tripSt c i arg3 harg3 arg4 harg4 arg5 harg5 arg6 harg6 arg7 harg7 arg8 harg8 arg9 harg9 arg10 harg10 arg11 harg11 arg12 harg12 arg13 harg13 arg2 v13 f3 f4 f5 k s) := by
  intro q
  obtain ⟨H0, H1, H2, H3⟩ := H q
  refine ⟨?_, ?_, ?_, ?_⟩
  · have A := col0_step Kk Q V (by omega) q _ _ _ _ _ (VE c i arg5 k f5) H0 fun d κ => vb1024_at (c := c) (hV := hV) (h := off2_eq i k) (hj := by omega) (d := d) (κ := κ)
    have B := col0_step Kk Q V (n := 2 * k.val + 1) (by omega) q (sc (KO c i arg4 k f4) (qg0 c arg3 f3)) _ (smx (KO c i arg4 k f4) (qg0 c arg3 f3)) _ _ (VO' c i arg5 k f5)
      ⟨fun κ => sc0_at (c := c) (hK := hK) (hQ := hQ) (h := off1_odd i k) (hj := by omega) (q := q) (κ := κ), smx0_at (c := c) (hK := hK) (hQ := hQ) (h := off1_odd i k) (hj := by omega) (q := q), A.1, A.2.1, A.2.2⟩
      fun d κ => vb1024_at (c := c) (hV := hV) (h := off3_eq i k) (hj := by omega) (d := d) (κ := κ)
    exact ⟨fun κ => (congrFun (trip7_0 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (sc0_at (c := c) (hK := hK) (hQ := hQ) (h := off1_even i k) (hj := by omega) (q := q) (κ := κ)),
      (congrFun (trip9_0 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (smx0_at (c := c) (hK := hK) (hQ := hQ) (h := off1_even i k) (hj := by omega) (q := q)),
      (congrFun (trip11_0 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans B.1, (congrFun (trip12_0 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans B.2.1,
      fun d => (congrFun (trip13_0 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (B.2.2 d)⟩
  · have A := col1_step Kk Q V (by omega) q _ _ _ _ _ (VE c i arg5 k f5) H1 fun d κ => vb1024_at (c := c) (hV := hV) (h := off2_eq i k) (hj := by omega) (d := d) (κ := κ)
    have B := col1_step Kk Q V (n := 2 * k.val + 1) (by omega) q (sc (KO c i arg4 k f4) (qg1 c arg3 f3)) _ (smx (KO c i arg4 k f4) (qg1 c arg3 f3)) _ _ (VO' c i arg5 k f5)
      ⟨fun κ => sc1_at (c := c) (hK := hK) (hQ := hQ) (h := off1_odd i k) (hj := by omega) (q := q) (κ := κ), smx1_at (c := c) (hK := hK) (hQ := hQ) (h := off1_odd i k) (hj := by omega) (q := q), A.1, A.2.1, A.2.2⟩
      fun d κ => vb1024_at (c := c) (hV := hV) (h := off3_eq i k) (hj := by omega) (d := d) (κ := κ)
    exact ⟨fun κ => (congrFun (trip7_1 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (sc1_at (c := c) (hK := hK) (hQ := hQ) (h := off1_even i k) (hj := by omega) (q := q) (κ := κ)),
      (congrFun (trip9_1 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (smx1_at (c := c) (hK := hK) (hQ := hQ) (h := off1_even i k) (hj := by omega) (q := q)),
      (congrFun (trip11_1 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans B.1, (congrFun (trip12_1 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans B.2.1,
      fun d => (congrFun (trip13_1 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (B.2.2 d)⟩
  · have A := col2_step Kk Q V (by omega) q _ _ _ _ _ (VE c i arg5 k f5) H2 fun d κ => vb1024_at (c := c) (hV := hV) (h := off2_eq i k) (hj := by omega) (d := d) (κ := κ)
    have B := col2_step Kk Q V (n := 2 * k.val + 1) (by omega) q (sc (KO c i arg4 k f4) (qg2 c arg3 f3)) _ (smx (KO c i arg4 k f4) (qg2 c arg3 f3)) _ _ (VO' c i arg5 k f5)
      ⟨fun κ => sc2_at (c := c) (hK := hK) (hQ := hQ) (h := off1_odd i k) (hj := by omega) (q := q) (κ := κ), smx2_at (c := c) (hK := hK) (hQ := hQ) (h := off1_odd i k) (hj := by omega) (q := q), A.1, A.2.1, A.2.2⟩
      fun d κ => vb1024_at (c := c) (hV := hV) (h := off3_eq i k) (hj := by omega) (d := d) (κ := κ)
    exact ⟨fun κ => (congrFun (trip7_2 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (sc2_at (c := c) (hK := hK) (hQ := hQ) (h := off1_even i k) (hj := by omega) (q := q) (κ := κ)),
      (congrFun (trip9_2 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (smx2_at (c := c) (hK := hK) (hQ := hQ) (h := off1_even i k) (hj := by omega) (q := q)),
      (congrFun (trip11_2 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans B.1, (congrFun (trip12_2 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans B.2.1,
      fun d => (congrFun (trip13_2 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (B.2.2 d)⟩
  · have A := col3_step Kk Q V (by omega) q _ _ _ _ _ (VE c i arg5 k f5) H3 fun d κ => vb1024_at (c := c) (hV := hV) (h := off2_eq i k) (hj := by omega) (d := d) (κ := κ)
    have B := col3_step Kk Q V (n := 2 * k.val + 1) (by omega) q (sc (KO c i arg4 k f4) (qg3 c arg3 f3)) _ (smx (KO c i arg4 k f4) (qg3 c arg3 f3)) _ _ (VO' c i arg5 k f5)
      ⟨fun κ => sc3_at (c := c) (hK := hK) (hQ := hQ) (h := off1_odd i k) (hj := by omega) (q := q) (κ := κ), smx3_at (c := c) (hK := hK) (hQ := hQ) (h := off1_odd i k) (hj := by omega) (q := q), A.1, A.2.1, A.2.2⟩
      fun d κ => vb1024_at (c := c) (hV := hV) (h := off3_eq i k) (hj := by omega) (d := d) (κ := κ)
    exact ⟨fun κ => (congrFun (trip7_3 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (sc3_at (c := c) (hK := hK) (hQ := hQ) (h := off1_even i k) (hj := by omega) (q := q) (κ := κ)),
      (congrFun (trip9_3 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (smx3_at (c := c) (hK := hK) (hQ := hQ) (h := off1_even i k) (hj := by omega) (q := q)),
      (congrFun (trip11_3 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans B.1, (congrFun (trip12_3 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans B.2.1,
      fun d => (congrFun (trip13_3 c i arg3 harg3 arg4 harg4 arg5 harg5 arg6 harg6 arg7 harg7 arg8 harg8 arg9 harg9 arg10 harg10 arg11 harg11 arg12 harg12 arg13 harg13 arg2 v13 k f3 f4 f5 s.s7 s.s9 s.s11 s.s12 s.s13) _).trans (B.2.2 d)⟩

include hK hQ hV in
/-- The loop. -/
theorem loop_inv (b : ℕ) (hb : (i 2).val = b) (s : St (F := Ideal) c arg7 arg9 arg11 arg12 arg13) (H : Inv c arg7 arg9 arg11 arg12 arg13 Kk Q V b 0 s) (k : ℕ) (hk : k ≤ (k0_t1_loop i).trips) :
    Inv c arg7 arg9 arg11 arg12 arg13 Kk Q V b (2 * k) (stAt (F := Ideal) c i arg3 harg3 arg4 harg4 arg5 harg5 arg6 harg6 arg7 harg7 arg8 harg8 arg9 harg9 arg10 harg10 arg11 harg11 arg12 harg12 arg13 harg13 arg2 v13 f3 f4 f5 s k) := by
  have ht := trips_eq i
  have hi : (i 2).val < 16 := (i 2).isLt
  induction k with
  | zero => exact H
  | succ k ih =>
    rw [stAt, dif_pos (by omega)]
    exact trip_inv c i arg3 harg3 arg4 harg4 arg5 harg5 arg6 harg6 arg7 harg7 arg8 harg8 arg9 harg9 arg10 harg10 arg11 harg11 arg12 harg12 arg13 harg13 Kk Q V arg2 v13 f3 f4 f5 hK hQ hV ⟨k, by omega⟩ b (by simp only; omega) (by omega) _ (ih (by omega))

end Cert.FoxIdeal.Body

end
-- ==== Proof.FoxInit.lean ====
module

public import proofs.«01_k».proof.Proof.FoxIdealBody
public import proofs.«01_k».proof.Proof.FoxCol
public import proofs.«01_k».proof.Proof.FoxSteps
public import Idealize.ShloMosaic.Lib.Pipeline.ReadBack
public import Idealize.ShloMosaic.Lib.Tactic.RunNames

/-! The scratch buffers before the loop hold the scores of the first key block and empty sums. -/

@[expose] public section

set_option maxRecDepth 16384

noncomputable section

namespace Cert.FoxIdeal.Body

open Idealize.ShloMosaic Idealize.ShloMosaic.TcCoe Idealize.ShloMosaic.Tactic
open Cert.FoxIdeal.Gen Cert.FoxMath

variable (c : Dev nD) (i : grid0.Coords) (arg3 : Memref sig .tc .vmem S1x1x1x1024x256 .bf16) (harg3 : arg3.IsWhole) (arg4 : Memref sig .tc .vmem S1x1x16x1024x256 .bf16) (harg4 : arg4.IsWhole) (arg5 : Memref sig .tc .vmem S1x1x16x128x1024 .bf16) (harg5 : arg5.IsWhole) (arg6 : Memref sig .tc .vmem S1x1024x128 .f32) (harg6 : arg6.IsWhole) (arg7 : Memref sig .tc .vmem S4x1024x256 .f32) (harg7 : arg7.IsWhole) (arg8 : Memref sig .tc .vmem S4x1024x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x1x256 .f32) (harg12 : arg12.IsWhole) (arg13 : Memref sig .tc .vmem S4x128x256 .f32) (harg13 : arg13.IsWhole)
variable (Kk : ℕ → Fin 256 → EReal) (Q : ℕ → Fin 256 → EReal) (V : ℕ → Fin 128 → EReal)
variable (arg2 : BitVec 32) (v13 : FVec Ideal S1024x256 .bf16) (f3 : Buf (Elt Ideal) (arg3.view.loc (c : Thread nD τ))) (f4 : Buf (Elt Ideal) (arg4.view.loc (c : Thread nD τ))) (f5 : Buf (Elt Ideal) (arg5.view.loc (c : Thread nD τ)))
  (hK : ∀ (j : Fin 16) (κ : Fin 1024) (d : Fin 256), arg4.view.read (Elt Ideal) f4 (ix5 0 0 j κ d) = Kk (1024 * j.val + κ.val) d)
  (hQ : ∀ (r : Fin 1024) (d : Fin 256), arg3.view.read (Elt Ideal) f3 (ix5 0 0 0 r d) = Q r.val d)
  (hV : ∀ (j : Fin 16) (d : Fin 128) (κ : Fin 1024), arg5.view.read (Elt Ideal) f5 (ix5 0 0 j d κ) = V (1024 * j.val + κ.val) d)

theorem ev7_0 : g7_0 c arg7 (ev0 c arg3 arg4 arg7 arg9 arg11 arg12 arg13 f3 f4).s7 = sc (arg4.view.readAt (Elt Ideal) (Rect.unit (s := S1x1x16x1024x256) ![0, 0, 0, 0, 0] S1x1x1x1024x256.size inb_S1x1x16x1024x256_S1x1x1x1024x256_0_0_0_0_0).toLoadRect f4) (qg0 c arg3 f3) := by
  unfold ev0 bodyRunEven.sl.H7_4
  dsimp only [g7_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  try simp only [bodyRunEven.sl.r, bodyRunEven.sl.r_1]
  rfl

theorem ev9_0 : g9_0 c arg9 (ev0 c arg3 arg4 arg7 arg9 arg11 arg12 arg13 f3 f4).s9 = smx (arg4.view.readAt (Elt Ideal) (Rect.unit (s := S1x1x16x1024x256) ![0, 0, 0, 0, 0] S1x1x1x1024x256.size inb_S1x1x16x1024x256_S1x1x1x1024x256_0_0_0_0_0).toLoadRect f4) (qg0 c arg3 f3) := by
  unfold ev0 bodyRunEven.sl.H9_4
  dsimp only [g9_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  try simp only [bodyRunEven.sl.r, bodyRunEven.sl.r_1]
  rfl

theorem ev11_0 (q : Fin 256) : g11_0 c arg11 (ev0 c arg3 arg4 arg7 arg9 arg11 arg12 arg13 f3 f4).s11 (ix3 0 0 q) = ⊥ := by
  refine (readAt_unit _ _ _ _ _ _ (ix3 0 0 q) fun a => by fin_cases a <;> simp).trans ?_
  refine (View.read_writes_cons_unit_of_mem _ _ _ _ _ (ix3 0 0 q) (ix3 0 0 q) rfl fun a => by fin_cases a <;> simp).trans ?_
  exact pay301_at _

theorem ev12_0 (q : Fin 256) : g12_0 c arg12 (ev0 c arg3 arg4 arg7 arg9 arg11 arg12 arg13 f3 f4).s12 (ix3 0 0 q) = 0 := by
  refine (readAt_unit _ _ _ _ _ _ (ix3 0 0 q) fun a => by fin_cases a <;> simp).trans ?_
  refine (View.read_writes_cons_unit_of_mem _ _ _ _ _ (ix3 0 0 q) (ix3 0 0 q) rfl fun a => by fin_cases a <;> simp).trans ?_
  exact pay302_at _

theorem ev13_0 (d : Fin 128) (q : Fin 256) : g13_0 c arg13 (ev0 c arg3 arg4 arg7 arg9 arg11 arg12 arg13 f3 f4).s13 (ix3 0 d q) = 0 := by
  refine (readAt_unit _ _ _ _ _ _ (ix3 0 d q) fun a => by fin_cases a <;> simp).trans ?_
  refine (View.read_writes_cons_unit_of_mem _ _ _ _ _ (ix3 0 d q) (ix3 0 d q) rfl fun a => by fin_cases a <;> simp).trans ?_
  exact pay303_at _

theorem ev7_1 : g7_1 c arg7 (ev0 c arg3 arg4 arg7 arg9 arg11 arg12 arg13 f3 f4).s7 = sc (arg4.view.readAt (Elt Ideal) (Rect.unit (s := S1x1x16x1024x256) ![0, 0, 0, 0, 0] S1x1x1x1024x256.size inb_S1x1x16x1024x256_S1x1x1x1024x256_0_0_0_0_0).toLoadRect f4) (qg1 c arg3 f3) := by
  unfold ev0 bodyRunEven.sl.H7_4
  dsimp only [g7_1]
  refine (readAt_skip _ _ _ _ _ _ ?_).trans ?_; · decide
  refine (readAt_skip _ _ _ _ _ _ ?_).trans ?_; · decide
  refine (readAt_head _ _ _ _ _).trans ?_
  try simp only [bodyRunEven.sl.r, bodyRunEven.sl.r_1]
  rfl

theorem ev9_1 : g9_1 c arg9 (ev0 c arg3 arg4 arg7 arg9 arg11 arg12 arg13 f3 f4).s9 = smx (arg4.view.readAt (Elt Ideal) (Rect.unit (s := S1x1x16x1024x256) ![0, 0, 0, 0, 0] S1x1x1x1024x256.size inb_S1x1x16x1024x256_S1x1x1x1024x256_0_0_0_0_0).toLoadRect f4) (qg1 c arg3 f3) := by
  unfold ev0 bodyRunEven.sl.H9_4
  dsimp only [g9_1]
  refine (readAt_skip _ _ _ _ _ _ ?_).trans ?_; · decide
  refine (readAt_skip _ _ _ _ _ _ ?_).trans ?_; · decide
  refine (readAt_head _ _ _ _ _).trans ?_
  try simp only [bodyRunEven.sl.r, bodyRunEven.sl.r_1]
  rfl

theorem ev11_1 (q : Fin 256) : g11_1 c arg11 (ev0 c arg3 arg4 arg7 arg9 arg11 arg12 arg13 f3 f4).s11 (ix3 0 0 q) = ⊥ := by
  refine (readAt_unit _ _ _ _ _ _ (ix3 1 0 q) fun a => by fin_cases a <;> simp).trans ?_
  refine (View.read_writes_cons_unit_of_mem _ _ _ _ _ (ix3 1 0 q) (ix3 1 0 q) rfl fun a => by fin_cases a <;> simp).trans ?_
  exact pay301_at _

theorem ev12_1 (q : Fin 256) : g12_1 c arg12 (ev0 c arg3 arg4 arg7 arg9 arg11 arg12 arg13 f3 f4).s12 (ix3 0 0 q) = 0 := by
  refine (readAt_unit _ _ _ _ _ _ (ix3 1 0 q) fun a => by fin_cases a <;> simp).trans ?_
  refine (View.read_writes_cons_unit_of_mem _ _ _ _ _ (ix3 1 0 q) (ix3 1 0 q) rfl fun a => by fin_cases a <;> simp).trans ?_
  exact pay302_at _

theorem ev13_1 (d : Fin 128) (q : Fin 256) : g13_1 c arg13 (ev0 c arg3 arg4 arg7 arg9 arg11 arg12 arg13 f3 f4).s13 (ix3 0 d q) = 0 := by
  refine (readAt_unit _ _ _ _ _ _ (ix3 1 d q) fun a => by fin_cases a <;> simp).trans ?_
  refine (View.read_writes_cons_unit_of_mem _ _ _ _ _ (ix3 1 d q) (ix3 1 d q) rfl fun a => by fin_cases a <;> simp).trans ?_
  exact pay303_at _

theorem ev7_2 : g7_2 c arg7 (ev0 c arg3 arg4 arg7 arg9 arg11 arg12 arg13 f3 f4).s7 = sc (arg4.view.readAt (Elt Ideal) (Rect.unit (s := S1x1x16x1024x256) ![0, 0, 0, 0, 0] S1x1x1x1024x256.size inb_S1x1x16x1024x256_S1x1x1x1024x256_0_0_0_0_0).toLoadRect f4) (qg2 c arg3 f3) := by
  unfold ev0 bodyRunEven.sl.H7_4
  dsimp only [g7_2]
  refine (readAt_skip _ _ _ _ _ _ ?_).trans ?_; · decide
  refine (readAt_head _ _ _ _ _).trans ?_
  try simp only [bodyRunEven.sl.r, bodyRunEven.sl.r_1]
  rfl

theorem ev9_2 : g9_2 c arg9 (ev0 c arg3 arg4 arg7 arg9 arg11 arg12 arg13 f3 f4).s9 = smx (arg4.view.readAt (Elt Ideal) (Rect.unit (s := S1x1x16x1024x256) ![0, 0, 0, 0, 0] S1x1x1x1024x256.size inb_S1x1x16x1024x256_S1x1x1x1024x256_0_0_0_0_0).toLoadRect f4) (qg2 c arg3 f3) := by
  unfold ev0 bodyRunEven.sl.H9_4
  dsimp only [g9_2]
  refine (readAt_skip _ _ _ _ _ _ ?_).trans ?_; · decide
  refine (readAt_head _ _ _ _ _).trans ?_
  try simp only [bodyRunEven.sl.r, bodyRunEven.sl.r_1]
  rfl

theorem ev11_2 (q : Fin 256) : g11_2 c arg11 (ev0 c arg3 arg4 arg7 arg9 arg11 arg12 arg13 f3 f4).s11 (ix3 0 0 q) = ⊥ := by
  refine (readAt_unit _ _ _ _ _ _ (ix3 2 0 q) fun a => by fin_cases a <;> simp).trans ?_
  refine (View.read_writes_cons_unit_of_mem _ _ _ _ _ (ix3 2 0 q) (ix3 2 0 q) rfl fun a => by fin_cases a <;> simp).trans ?_
  exact pay301_at _

theorem ev12_2 (q : Fin 256) : g12_2 c arg12 (ev0 c arg3 arg4 arg7 arg9 arg11 arg12 arg13 f3 f4).s12 (ix3 0 0 q) = 0 := by
  refine (readAt_unit _ _ _ _ _ _ (ix3 2 0 q) fun a => by fin_cases a <;> simp).trans ?_
  refine (View.read_writes_cons_unit_of_mem _ _ _ _ _ (ix3 2 0 q) (ix3 2 0 q) rfl fun a => by fin_cases a <;> simp).trans ?_
  exact pay302_at _

theorem ev13_2 (d : Fin 128) (q : Fin 256) : g13_2 c arg13 (ev0 c arg3 arg4 arg7 arg9 arg11 arg12 arg13 f3 f4).s13 (ix3 0 d q) = 0 := by
  refine (readAt_unit _ _ _ _ _ _ (ix3 2 d q) fun a => by fin_cases a <;> simp).trans ?_
  refine (View.read_writes_cons_unit_of_mem _ _ _ _ _ (ix3 2 d q) (ix3 2 d q) rfl fun a => by fin_cases a <;> simp).trans ?_
  exact pay303_at _

theorem ev7_3 : g7_3 c arg7 (ev0 c arg3 arg4 arg7 arg9 arg11 arg12 arg13 f3 f4).s7 = sc (arg4.view.readAt (Elt Ideal) (Rect.unit (s := S1x1x16x1024x256) ![0, 0, 0, 0, 0] S1x1x1x1024x256.size inb_S1x1x16x1024x256_S1x1x1x1024x256_0_0_0_0_0).toLoadRect f4) (qg3 c arg3 f3) := by
  unfold ev0 bodyRunEven.sl.H7_4
  dsimp only [g7_3]
  refine (readAt_head _ _ _ _ _).trans ?_
  try simp only [bodyRunEven.sl.r, bodyRunEven.sl.r_1]
  rfl

theorem ev9_3 : g9_3 c arg9 (ev0 c arg3 arg4 arg7 arg9 arg11 arg12 arg13 f3 f4).s9 = smx (arg4.view.readAt (Elt Ideal) (Rect.unit (s := S1x1x16x1024x256) ![0, 0, 0, 0, 0] S1x1x1x1024x256.size inb_S1x1x16x1024x256_S1x1x1x1024x256_0_0_0_0_0).toLoadRect f4) (qg3 c arg3 f3) := by
  unfold ev0 bodyRunEven.sl.H9_4
  dsimp only [g9_3]
  refine (readAt_head _ _ _ _ _).trans ?_
  try simp only [bodyRunEven.sl.r, bodyRunEven.sl.r_1]
  rfl

theorem ev11_3 (q : Fin 256) : g11_3 c arg11 (ev0 c arg3 arg4 arg7 arg9 arg11 arg12 arg13 f3 f4).s11 (ix3 0 0 q) = ⊥ := by
  refine (readAt_unit _ _ _ _ _ _ (ix3 3 0 q) fun a => by fin_cases a <;> simp).trans ?_
  refine (View.read_writes_cons_unit_of_mem _ _ _ _ _ (ix3 3 0 q) (ix3 3 0 q) rfl fun a => by fin_cases a <;> simp).trans ?_
  exact pay301_at _

theorem ev12_3 (q : Fin 256) : g12_3 c arg12 (ev0 c arg3 arg4 arg7 arg9 arg11 arg12 arg13 f3 f4).s12 (ix3 0 0 q) = 0 := by
  refine (readAt_unit _ _ _ _ _ _ (ix3 3 0 q) fun a => by fin_cases a <;> simp).trans ?_
  refine (View.read_writes_cons_unit_of_mem _ _ _ _ _ (ix3 3 0 q) (ix3 3 0 q) rfl fun a => by fin_cases a <;> simp).trans ?_
  exact pay302_at _

theorem ev13_3 (d : Fin 128) (q : Fin 256) : g13_3 c arg13 (ev0 c arg3 arg4 arg7 arg9 arg11 arg12 arg13 f3 f4).s13 (ix3 0 d q) = 0 := by
  refine (readAt_unit _ _ _ _ _ _ (ix3 3 d q) fun a => by fin_cases a <;> simp).trans ?_
  refine (View.read_writes_cons_unit_of_mem _ _ _ _ _ (ix3 3 d q) (ix3 3 d q) rfl fun a => by fin_cases a <;> simp).trans ?_
  exact pay303_at _

include hK hQ in
theorem ev_init (b : ℕ) : Inv c arg7 arg9 arg11 arg12 arg13 Kk Q V b 0 (ev0 c arg3 arg4 arg7 arg9 arg11 arg12 arg13 f3 f4) := fun q =>
  ⟨⟨fun κ => (congrFun (ev7_0 c arg3 arg4 arg7 arg9 arg11 arg12 arg13 f3 f4) _).trans (sc0_at (c := c) (hK := hK) (hQ := hQ) (inb := inb_S1x1x16x1024x256_S1x1x1x1024x256_0_0_0_0_0) (j := 0) (h := rfl) (hj := by omega) (q := q) (κ := κ)),
      (congrFun (ev9_0 c arg3 arg4 arg7 arg9 arg11 arg12 arg13 f3 f4) _).trans (smx0_at (c := c) (hK := hK) (hQ := hQ) (inb := inb_S1x1x16x1024x256_S1x1x1x1024x256_0_0_0_0_0) (j := 0) (h := rfl) (hj := by omega) (q := q)),
      (ev11_0 c arg3 arg4 arg7 arg9 arg11 arg12 arg13 f3 f4 q), (ev12_0 c arg3 arg4 arg7 arg9 arg11 arg12 arg13 f3 f4 q).trans (rl_zero _).symm,
      fun d => (ev13_0 c arg3 arg4 arg7 arg9 arg11 arg12 arg13 f3 f4 d q).trans (ra_zero _ _).symm⟩,
    ⟨fun κ => (congrFun (ev7_1 c arg3 arg4 arg7 arg9 arg11 arg12 arg13 f3 f4) _).trans (sc1_at (c := c) (hK := hK) (hQ := hQ) (inb := inb_S1x1x16x1024x256_S1x1x1x1024x256_0_0_0_0_0) (j := 0) (h := rfl) (hj := by omega) (q := q) (κ := κ)),
      (congrFun (ev9_1 c arg3 arg4 arg7 arg9 arg11 arg12 arg13 f3 f4) _).trans (smx1_at (c := c) (hK := hK) (hQ := hQ) (inb := inb_S1x1x16x1024x256_S1x1x1x1024x256_0_0_0_0_0) (j := 0) (h := rfl) (hj := by omega) (q := q)),
      (ev11_1 c arg3 arg4 arg7 arg9 arg11 arg12 arg13 f3 f4 q), (ev12_1 c arg3 arg4 arg7 arg9 arg11 arg12 arg13 f3 f4 q).trans (rl_zero _).symm,
      fun d => (ev13_1 c arg3 arg4 arg7 arg9 arg11 arg12 arg13 f3 f4 d q).trans (ra_zero _ _).symm⟩,
    ⟨fun κ => (congrFun (ev7_2 c arg3 arg4 arg7 arg9 arg11 arg12 arg13 f3 f4) _).trans (sc2_at (c := c) (hK := hK) (hQ := hQ) (inb := inb_S1x1x16x1024x256_S1x1x1x1024x256_0_0_0_0_0) (j := 0) (h := rfl) (hj := by omega) (q := q) (κ := κ)),
      (congrFun (ev9_2 c arg3 arg4 arg7 arg9 arg11 arg12 arg13 f3 f4) _).trans (smx2_at (c := c) (hK := hK) (hQ := hQ) (inb := inb_S1x1x16x1024x256_S1x1x1x1024x256_0_0_0_0_0) (j := 0) (h := rfl) (hj := by omega) (q := q)),
      (ev11_2 c arg3 arg4 arg7 arg9 arg11 arg12 arg13 f3 f4 q), (ev12_2 c arg3 arg4 arg7 arg9 arg11 arg12 arg13 f3 f4 q).trans (rl_zero _).symm,
      fun d => (ev13_2 c arg3 arg4 arg7 arg9 arg11 arg12 arg13 f3 f4 d q).trans (ra_zero _ _).symm⟩,
    ⟨fun κ => (congrFun (ev7_3 c arg3 arg4 arg7 arg9 arg11 arg12 arg13 f3 f4) _).trans (sc3_at (c := c) (hK := hK) (hQ := hQ) (inb := inb_S1x1x16x1024x256_S1x1x1x1024x256_0_0_0_0_0) (j := 0) (h := rfl) (hj := by omega) (q := q) (κ := κ)),
      (congrFun (ev9_3 c arg3 arg4 arg7 arg9 arg11 arg12 arg13 f3 f4) _).trans (smx3_at (c := c) (hK := hK) (hQ := hQ) (inb := inb_S1x1x16x1024x256_S1x1x1x1024x256_0_0_0_0_0) (j := 0) (h := rfl) (hj := by omega) (q := q)),
      (ev11_3 c arg3 arg4 arg7 arg9 arg11 arg12 arg13 f3 f4 q), (ev12_3 c arg3 arg4 arg7 arg9 arg11 arg12 arg13 f3 f4 q).trans (rl_zero _).symm,
      fun d => (ev13_3 c arg3 arg4 arg7 arg9 arg11 arg12 arg13 f3 f4 d q).trans (ra_zero _ _).symm⟩⟩

theorem od7_0 : g7_0 c arg7 (od0 c arg3 arg4 arg7 arg9 arg11 arg12 arg13 f3 f4).s7 = sc (arg4.view.readAt (Elt Ideal) (Rect.unit (s := S1x1x16x1024x256) ![0, 0, 0, 0, 0] S1x1x1x1024x256.size inb_S1x1x16x1024x256_S1x1x1x1024x256_0_0_0_0_0).toLoadRect f4) (qg0 c arg3 f3) := by
  unfold od0 bodyRunOdd.sl.H7_4
  dsimp only [g7_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  try simp only [bodyRunOdd.sl.r, bodyRunOdd.sl.r_1]
  rfl

theorem od9_0 : g9_0 c arg9 (od0 c arg3 arg4 arg7 arg9 arg11 arg12 arg13 f3 f4).s9 = smx (arg4.view.readAt (Elt Ideal) (Rect.unit (s := S1x1x16x1024x256) ![0, 0, 0, 0, 0] S1x1x1x1024x256.size inb_S1x1x16x1024x256_S1x1x1x1024x256_0_0_0_0_0).toLoadRect f4) (qg0 c arg3 f3) := by
  unfold od0 bodyRunOdd.sl.H9_4
  dsimp only [g9_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  try simp only [bodyRunOdd.sl.r, bodyRunOdd.sl.r_1]
  rfl

theorem od11_0 (q : Fin 256) : g11_0 c arg11 (od0 c arg3 arg4 arg7 arg9 arg11 arg12 arg13 f3 f4).s11 (ix3 0 0 q) = ⊥ := by
  refine (readAt_unit _ _ _ _ _ _ (ix3 0 0 q) fun a => by fin_cases a <;> simp).trans ?_
  refine (View.read_writes_cons_unit_of_mem _ _ _ _ _ (ix3 0 0 q) (ix3 0 0 q) rfl fun a => by fin_cases a <;> simp).trans ?_
  exact pay301_at _

theorem od12_0 (q : Fin 256) : g12_0 c arg12 (od0 c arg3 arg4 arg7 arg9 arg11 arg12 arg13 f3 f4).s12 (ix3 0 0 q) = 0 := by
  refine (readAt_unit _ _ _ _ _ _ (ix3 0 0 q) fun a => by fin_cases a <;> simp).trans ?_
  refine (View.read_writes_cons_unit_of_mem _ _ _ _ _ (ix3 0 0 q) (ix3 0 0 q) rfl fun a => by fin_cases a <;> simp).trans ?_
  exact pay302_at _

theorem od13_0 (d : Fin 128) (q : Fin 256) : g13_0 c arg13 (od0 c arg3 arg4 arg7 arg9 arg11 arg12 arg13 f3 f4).s13 (ix3 0 d q) = 0 := by
  refine (readAt_unit _ _ _ _ _ _ (ix3 0 d q) fun a => by fin_cases a <;> simp).trans ?_
  refine (View.read_writes_cons_unit_of_mem _ _ _ _ _ (ix3 0 d q) (ix3 0 d q) rfl fun a => by fin_cases a <;> simp).trans ?_
  exact pay303_at _

theorem od7_1 : g7_1 c arg7 (od0 c arg3 arg4 arg7 arg9 arg11 arg12 arg13 f3 f4).s7 = sc (arg4.view.readAt (Elt Ideal) (Rect.unit (s := S1x1x16x1024x256) ![0, 0, 0, 0, 0] S1x1x1x1024x256.size inb_S1x1x16x1024x256_S1x1x1x1024x256_0_0_0_0_0).toLoadRect f4) (qg1 c arg3 f3) := by
  unfold od0 bodyRunOdd.sl.H7_4
  dsimp only [g7_1]
  refine (readAt_skip _ _ _ _ _ _ ?_).trans ?_; · decide
  refine (readAt_skip _ _ _ _ _ _ ?_).trans ?_; · decide
  refine (readAt_head _ _ _ _ _).trans ?_
  try simp only [bodyRunOdd.sl.r, bodyRunOdd.sl.r_1]
  rfl

theorem od9_1 : g9_1 c arg9 (od0 c arg3 arg4 arg7 arg9 arg11 arg12 arg13 f3 f4).s9 = smx (arg4.view.readAt (Elt Ideal) (Rect.unit (s := S1x1x16x1024x256) ![0, 0, 0, 0, 0] S1x1x1x1024x256.size inb_S1x1x16x1024x256_S1x1x1x1024x256_0_0_0_0_0).toLoadRect f4) (qg1 c arg3 f3) := by
  unfold od0 bodyRunOdd.sl.H9_4
  dsimp only [g9_1]
  refine (readAt_skip _ _ _ _ _ _ ?_).trans ?_; · decide
  refine (readAt_skip _ _ _ _ _ _ ?_).trans ?_; · decide
  refine (readAt_head _ _ _ _ _).trans ?_
  try simp only [bodyRunOdd.sl.r, bodyRunOdd.sl.r_1]
  rfl

theorem od11_1 (q : Fin 256) : g11_1 c arg11 (od0 c arg3 arg4 arg7 arg9 arg11 arg12 arg13 f3 f4).s11 (ix3 0 0 q) = ⊥ := by
  refine (readAt_unit _ _ _ _ _ _ (ix3 1 0 q) fun a => by fin_cases a <;> simp).trans ?_
  refine (View.read_writes_cons_unit_of_mem _ _ _ _ _ (ix3 1 0 q) (ix3 1 0 q) rfl fun a => by fin_cases a <;> simp).trans ?_
  exact pay301_at _

theorem od12_1 (q : Fin 256) : g12_1 c arg12 (od0 c arg3 arg4 arg7 arg9 arg11 arg12 arg13 f3 f4).s12 (ix3 0 0 q) = 0 := by
  refine (readAt_unit _ _ _ _ _ _ (ix3 1 0 q) fun a => by fin_cases a <;> simp).trans ?_
  refine (View.read_writes_cons_unit_of_mem _ _ _ _ _ (ix3 1 0 q) (ix3 1 0 q) rfl fun a => by fin_cases a <;> simp).trans ?_
  exact pay302_at _

theorem od13_1 (d : Fin 128) (q : Fin 256) : g13_1 c arg13 (od0 c arg3 arg4 arg7 arg9 arg11 arg12 arg13 f3 f4).s13 (ix3 0 d q) = 0 := by
  refine (readAt_unit _ _ _ _ _ _ (ix3 1 d q) fun a => by fin_cases a <;> simp).trans ?_
  refine (View.read_writes_cons_unit_of_mem _ _ _ _ _ (ix3 1 d q) (ix3 1 d q) rfl fun a => by fin_cases a <;> simp).trans ?_
  exact pay303_at _

theorem od7_2 : g7_2 c arg7 (od0 c arg3 arg4 arg7 arg9 arg11 arg12 arg13 f3 f4).s7 = sc (arg4.view.readAt (Elt Ideal) (Rect.unit (s := S1x1x16x1024x256) ![0, 0, 0, 0, 0] S1x1x1x1024x256.size inb_S1x1x16x1024x256_S1x1x1x1024x256_0_0_0_0_0).toLoadRect f4) (qg2 c arg3 f3) := by
  unfold od0 bodyRunOdd.sl.H7_4
  dsimp only [g7_2]
  refine (readAt_skip _ _ _ _ _ _ ?_).trans ?_; · decide
  refine (readAt_head _ _ _ _ _).trans ?_
  try simp only [bodyRunOdd.sl.r, bodyRunOdd.sl.r_1]
  rfl

theorem od9_2 : g9_2 c arg9 (od0 c arg3 arg4 arg7 arg9 arg11 arg12 arg13 f3 f4).s9 = smx (arg4.view.readAt (Elt Ideal) (Rect.unit (s := S1x1x16x1024x256) ![0, 0, 0, 0, 0] S1x1x1x1024x256.size inb_S1x1x16x1024x256_S1x1x1x1024x256_0_0_0_0_0).toLoadRect f4) (qg2 c arg3 f3) := by
  unfold od0 bodyRunOdd.sl.H9_4
  dsimp only [g9_2]
  refine (readAt_skip _ _ _ _ _ _ ?_).trans ?_; · decide
  refine (readAt_head _ _ _ _ _).trans ?_
  try simp only [bodyRunOdd.sl.r, bodyRunOdd.sl.r_1]
  rfl

theorem od11_2 (q : Fin 256) : g11_2 c arg11 (od0 c arg3 arg4 arg7 arg9 arg11 arg12 arg13 f3 f4).s11 (ix3 0 0 q) = ⊥ := by
  refine (readAt_unit _ _ _ _ _ _ (ix3 2 0 q) fun a => by fin_cases a <;> simp).trans ?_
  refine (View.read_writes_cons_unit_of_mem _ _ _ _ _ (ix3 2 0 q) (ix3 2 0 q) rfl fun a => by fin_cases a <;> simp).trans ?_
  exact pay301_at _

theorem od12_2 (q : Fin 256) : g12_2 c arg12 (od0 c arg3 arg4 arg7 arg9 arg11 arg12 arg13 f3 f4).s12 (ix3 0 0 q) = 0 := by
  refine (readAt_unit _ _ _ _ _ _ (ix3 2 0 q) fun a => by fin_cases a <;> simp).trans ?_
  refine (View.read_writes_cons_unit_of_mem _ _ _ _ _ (ix3 2 0 q) (ix3 2 0 q) rfl fun a => by fin_cases a <;> simp).trans ?_
  exact pay302_at _

theorem od13_2 (d : Fin 128) (q : Fin 256) : g13_2 c arg13 (od0 c arg3 arg4 arg7 arg9 arg11 arg12 arg13 f3 f4).s13 (ix3 0 d q) = 0 := by
  refine (readAt_unit _ _ _ _ _ _ (ix3 2 d q) fun a => by fin_cases a <;> simp).trans ?_
  refine (View.read_writes_cons_unit_of_mem _ _ _ _ _ (ix3 2 d q) (ix3 2 d q) rfl fun a => by fin_cases a <;> simp).trans ?_
  exact pay303_at _

theorem od7_3 : g7_3 c arg7 (od0 c arg3 arg4 arg7 arg9 arg11 arg12 arg13 f3 f4).s7 = sc (arg4.view.readAt (Elt Ideal) (Rect.unit (s := S1x1x16x1024x256) ![0, 0, 0, 0, 0] S1x1x1x1024x256.size inb_S1x1x16x1024x256_S1x1x1x1024x256_0_0_0_0_0).toLoadRect f4) (qg3 c arg3 f3) := by
  unfold od0 bodyRunOdd.sl.H7_4
  dsimp only [g7_3]
  refine (readAt_head _ _ _ _ _).trans ?_
  try simp only [bodyRunOdd.sl.r, bodyRunOdd.sl.r_1]
  rfl

theorem od9_3 : g9_3 c arg9 (od0 c arg3 arg4 arg7 arg9 arg11 arg12 arg13 f3 f4).s9 = smx (arg4.view.readAt (Elt Ideal) (Rect.unit (s := S1x1x16x1024x256) ![0, 0, 0, 0, 0] S1x1x1x1024x256.size inb_S1x1x16x1024x256_S1x1x1x1024x256_0_0_0_0_0).toLoadRect f4) (qg3 c arg3 f3) := by
  unfold od0 bodyRunOdd.sl.H9_4
  dsimp only [g9_3]
  refine (readAt_head _ _ _ _ _).trans ?_
  try simp only [bodyRunOdd.sl.r, bodyRunOdd.sl.r_1]
  rfl

theorem od11_3 (q : Fin 256) : g11_3 c arg11 (od0 c arg3 arg4 arg7 arg9 arg11 arg12 arg13 f3 f4).s11 (ix3 0 0 q) = ⊥ := by
  refine (readAt_unit _ _ _ _ _ _ (ix3 3 0 q) fun a => by fin_cases a <;> simp).trans ?_
  refine (View.read_writes_cons_unit_of_mem _ _ _ _ _ (ix3 3 0 q) (ix3 3 0 q) rfl fun a => by fin_cases a <;> simp).trans ?_
  exact pay301_at _

theorem od12_3 (q : Fin 256) : g12_3 c arg12 (od0 c arg3 arg4 arg7 arg9 arg11 arg12 arg13 f3 f4).s12 (ix3 0 0 q) = 0 := by
  refine (readAt_unit _ _ _ _ _ _ (ix3 3 0 q) fun a => by fin_cases a <;> simp).trans ?_
  refine (View.read_writes_cons_unit_of_mem _ _ _ _ _ (ix3 3 0 q) (ix3 3 0 q) rfl fun a => by fin_cases a <;> simp).trans ?_
  exact pay302_at _

theorem od13_3 (d : Fin 128) (q : Fin 256) : g13_3 c arg13 (od0 c arg3 arg4 arg7 arg9 arg11 arg12 arg13 f3 f4).s13 (ix3 0 d q) = 0 := by
  refine (readAt_unit _ _ _ _ _ _ (ix3 3 d q) fun a => by fin_cases a <;> simp).trans ?_
  refine (View.read_writes_cons_unit_of_mem _ _ _ _ _ (ix3 3 d q) (ix3 3 d q) rfl fun a => by fin_cases a <;> simp).trans ?_
  exact pay303_at _

include hK hQ in
theorem od_init (b : ℕ) : Inv c arg7 arg9 arg11 arg12 arg13 Kk Q V b 0 (od0 c arg3 arg4 arg7 arg9 arg11 arg12 arg13 f3 f4) := fun q =>
  ⟨⟨fun κ => (congrFun (od7_0 c arg3 arg4 arg7 arg9 arg11 arg12 arg13 f3 f4) _).trans (sc0_at (c := c) (hK := hK) (hQ := hQ) (inb := inb_S1x1x16x1024x256_S1x1x1x1024x256_0_0_0_0_0) (j := 0) (h := rfl) (hj := by omega) (q := q) (κ := κ)),
      (congrFun (od9_0 c arg3 arg4 arg7 arg9 arg11 arg12 arg13 f3 f4) _).trans (smx0_at (c := c) (hK := hK) (hQ := hQ) (inb := inb_S1x1x16x1024x256_S1x1x1x1024x256_0_0_0_0_0) (j := 0) (h := rfl) (hj := by omega) (q := q)),
      (od11_0 c arg3 arg4 arg7 arg9 arg11 arg12 arg13 f3 f4 q), (od12_0 c arg3 arg4 arg7 arg9 arg11 arg12 arg13 f3 f4 q).trans (rl_zero _).symm,
      fun d => (od13_0 c arg3 arg4 arg7 arg9 arg11 arg12 arg13 f3 f4 d q).trans (ra_zero _ _).symm⟩,
    ⟨fun κ => (congrFun (od7_1 c arg3 arg4 arg7 arg9 arg11 arg12 arg13 f3 f4) _).trans (sc1_at (c := c) (hK := hK) (hQ := hQ) (inb := inb_S1x1x16x1024x256_S1x1x1x1024x256_0_0_0_0_0) (j := 0) (h := rfl) (hj := by omega) (q := q) (κ := κ)),
      (congrFun (od9_1 c arg3 arg4 arg7 arg9 arg11 arg12 arg13 f3 f4) _).trans (smx1_at (c := c) (hK := hK) (hQ := hQ) (inb := inb_S1x1x16x1024x256_S1x1x1x1024x256_0_0_0_0_0) (j := 0) (h := rfl) (hj := by omega) (q := q)),
      (od11_1 c arg3 arg4 arg7 arg9 arg11 arg12 arg13 f3 f4 q), (od12_1 c arg3 arg4 arg7 arg9 arg11 arg12 arg13 f3 f4 q).trans (rl_zero _).symm,
      fun d => (od13_1 c arg3 arg4 arg7 arg9 arg11 arg12 arg13 f3 f4 d q).trans (ra_zero _ _).symm⟩,
    ⟨fun κ => (congrFun (od7_2 c arg3 arg4 arg7 arg9 arg11 arg12 arg13 f3 f4) _).trans (sc2_at (c := c) (hK := hK) (hQ := hQ) (inb := inb_S1x1x16x1024x256_S1x1x1x1024x256_0_0_0_0_0) (j := 0) (h := rfl) (hj := by omega) (q := q) (κ := κ)),
      (congrFun (od9_2 c arg3 arg4 arg7 arg9 arg11 arg12 arg13 f3 f4) _).trans (smx2_at (c := c) (hK := hK) (hQ := hQ) (inb := inb_S1x1x16x1024x256_S1x1x1x1024x256_0_0_0_0_0) (j := 0) (h := rfl) (hj := by omega) (q := q)),
      (od11_2 c arg3 arg4 arg7 arg9 arg11 arg12 arg13 f3 f4 q), (od12_2 c arg3 arg4 arg7 arg9 arg11 arg12 arg13 f3 f4 q).trans (rl_zero _).symm,
      fun d => (od13_2 c arg3 arg4 arg7 arg9 arg11 arg12 arg13 f3 f4 d q).trans (ra_zero _ _).symm⟩,
    ⟨fun κ => (congrFun (od7_3 c arg3 arg4 arg7 arg9 arg11 arg12 arg13 f3 f4) _).trans (sc3_at (c := c) (hK := hK) (hQ := hQ) (inb := inb_S1x1x16x1024x256_S1x1x1x1024x256_0_0_0_0_0) (j := 0) (h := rfl) (hj := by omega) (q := q) (κ := κ)),
      (congrFun (od9_3 c arg3 arg4 arg7 arg9 arg11 arg12 arg13 f3 f4) _).trans (smx3_at (c := c) (hK := hK) (hQ := hQ) (inb := inb_S1x1x16x1024x256_S1x1x1x1024x256_0_0_0_0_0) (j := 0) (h := rfl) (hj := by omega) (q := q)),
      (od11_3 c arg3 arg4 arg7 arg9 arg11 arg12 arg13 f3 f4 q), (od12_3 c arg3 arg4 arg7 arg9 arg11 arg12 arg13 f3 f4 q).trans (rl_zero _).symm,
      fun d => (od13_3 c arg3 arg4 arg7 arg9 arg11 arg12 arg13 f3 f4 d q).trans (ra_zero _ _).symm⟩⟩

end Cert.FoxIdeal.Body

end
-- ==== Proof.FoxEnd.lean ====
module

public import proofs.«01_k».proof.Proof.FoxIdealBody
public import proofs.«01_k».proof.Proof.FoxInit
public import proofs.«01_k».proof.Proof.FoxSteps
public import Idealize.ShloMosaic.Lib.Pipeline.ReadBack
public import Idealize.ShloMosaic.Lib.Tactic.RunNames

/-! The output block: each query's weighted sum of the values divided by the sum of the weights, over all the keys
    the query sees. -/

@[expose] public section

set_option maxRecDepth 16384

noncomputable section

namespace Cert.FoxIdeal.Body

open Idealize.ShloMosaic Idealize.ShloMosaic.TcCoe Idealize.ShloMosaic.Tactic
open Cert.FoxIdeal.Gen Cert.FoxMath

variable (c : Dev nD) (i : grid0.Coords) (arg3 : Memref sig .tc .vmem S1x1x1x1024x256 .bf16) (harg3 : arg3.IsWhole) (arg4 : Memref sig .tc .vmem S1x1x16x1024x256 .bf16) (harg4 : arg4.IsWhole) (arg5 : Memref sig .tc .vmem S1x1x16x128x1024 .bf16) (harg5 : arg5.IsWhole) (arg6 : Memref sig .tc .vmem S1x1024x128 .f32) (harg6 : arg6.IsWhole) (arg7 : Memref sig .tc .vmem S4x1024x256 .f32) (harg7 : arg7.IsWhole) (arg8 : Memref sig .tc .vmem S4x1024x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x1x256 .f32) (harg12 : arg12.IsWhole) (arg13 : Memref sig .tc .vmem S4x128x256 .f32) (harg13 : arg13.IsWhole)

set_option maxHeartbeats 1600000 in
/-- The four pieces of the output block, read at a row. -/
theorem four_read {sig : RefSig} {κ : Kind} {sp : Space} (v : View sig κ sp S1x1024x128 .f32) (f : v.ty.Contents (Elt Ideal))
    (A3 A2 A1 A0 : Vec Ideal S1x256x128 .f32) (F : ℕ → Fin 128 → EReal)
    (h3 : ∀ (q : Fin 256) d, A3 (ix3 0 q d) = F (768 + q.val) d)
    (h2 : ∀ (q : Fin 256) d, A2 (ix3 0 q d) = F (512 + q.val) d)
    (h1 : ∀ (q : Fin 256) d, A1 (ix3 0 q d) = F (256 + q.val) d)
    (h0 : ∀ (q : Fin 256) d, A0 (ix3 0 q d) = F (0 + q.val) d)
    (T : Fin 1024) (d : Fin 128) :
    v.read (Elt Ideal) (v.writes (Elt Ideal) f [
      ⟨Rect.unit (s := S1x1024x128) ![0, 768, 0] S1x256x128.size inb_S1x1024x128_S1x256x128_0_768_0, A3⟩,
      ⟨Rect.unit (s := S1x1024x128) ![0, 512, 0] S1x256x128.size inb_S1x1024x128_S1x256x128_0_512_0, A2⟩,
      ⟨Rect.unit (s := S1x1024x128) ![0, 256, 0] S1x256x128.size inb_S1x1024x128_S1x256x128_0_256_0, A1⟩,
      ⟨Rect.unit (s := S1x1024x128) ![0, 0, 0] S1x256x128.size inb_S1x1024x128_S1x256x128_0_0_0, A0⟩])
      (ix3 0 T d) = F T.val d := by
  have hT := T.2
  by_cases t3 : 768 ≤ T.val
  · have e : T.val = 768 + (T.val - 768) := by omega
    refine (View.read_writes_cons_unit_of_mem _ _ _ _ _ (ix3 0 T d) (ix3 0 (⟨T.val - 768, by omega⟩ : Fin 256) d) rfl fun a => ?_).trans ((h3 ⟨T.val - 768, by omega⟩ d).trans (congrArg (fun n => F n d) e.symm))
    fin_cases a <;> first | rfl | exact e | exact (Nat.zero_add _).symm
  refine (View.read_writes_cons_unit_of_not_mem _ _ _ _ _ (ix3 0 T d) rfl 1 (Or.inl (by show T.val < 768; omega))).trans ?_
  by_cases t2 : 512 ≤ T.val
  · have e : T.val = 512 + (T.val - 512) := by omega
    refine (View.read_writes_cons_unit_of_mem _ _ _ _ _ (ix3 0 T d) (ix3 0 (⟨T.val - 512, by omega⟩ : Fin 256) d) rfl fun a => ?_).trans ((h2 ⟨T.val - 512, by omega⟩ d).trans (congrArg (fun n => F n d) e.symm))
    fin_cases a <;> first | rfl | exact e | exact (Nat.zero_add _).symm
  refine (View.read_writes_cons_unit_of_not_mem _ _ _ _ _ (ix3 0 T d) rfl 1 (Or.inl (by show T.val < 512; omega))).trans ?_
  by_cases t1 : 256 ≤ T.val
  · have e : T.val = 256 + (T.val - 256) := by omega
    refine (View.read_writes_cons_unit_of_mem _ _ _ _ _ (ix3 0 T d) (ix3 0 (⟨T.val - 256, by omega⟩ : Fin 256) d) rfl fun a => ?_).trans ((h1 ⟨T.val - 256, by omega⟩ d).trans (congrArg (fun n => F n d) e.symm))
    fin_cases a <;> first | rfl | exact e | exact (Nat.zero_add _).symm
  refine (View.read_writes_cons_unit_of_not_mem _ _ _ _ _ (ix3 0 T d) rfl 1 (Or.inl (by show T.val < 256; omega))).trans ?_
  have e : T.val = 0 + (T.val - 0) := by omega
  refine (View.read_writes_cons_unit_of_mem _ _ _ _ _ (ix3 0 T d) (ix3 0 (⟨T.val - 0, by omega⟩ : Fin 256) d) rfl fun a => ?_).trans ((h0 ⟨T.val - 0, by omega⟩ d).trans (congrArg (fun n => F n d) e.symm))
  fin_cases a <;> first | rfl | exact e | (simp)

variable (Kk : ℕ → Fin 256 → EReal) (Q : ℕ → Fin 256 → EReal) (V : ℕ → Fin 128 → EReal)
variable (arg2 : BitVec 32) (v13 : FVec Ideal S1024x256 .bf16) (f3 : Buf (Elt Ideal) (arg3.view.loc (c : Thread nD τ))) (f4 : Buf (Elt Ideal) (arg4.view.loc (c : Thread nD τ))) (f5 : Buf (Elt Ideal) (arg5.view.loc (c : Thread nD τ)))
  (hK : ∀ (j : Fin 16) (κ : Fin 1024) (d : Fin 256), arg4.view.read (Elt Ideal) f4 (ix5 0 0 j κ d) = Kk (1024 * j.val + κ.val) d)
  (hQ : ∀ (r : Fin 1024) (d : Fin 256), arg3.view.read (Elt Ideal) f3 (ix5 0 0 0 r d) = Q r.val d)
  (hV : ∀ (j : Fin 16) (d : Fin 128) (κ : Fin 1024), arg5.view.read (Elt Ideal) f5 (ix5 0 0 j d κ) = V (1024 * j.val + κ.val) d)

include hK hQ hV in
theorem ev_inv (b : ℕ) (hb : (i 2).val = b) :
    Inv c arg7 arg9 arg11 arg12 arg13 Kk Q V b (2 * (k0_t1_loop i).trips) (ev1 c i arg3 harg3 arg4 harg4 arg5 harg5 arg6 harg6 arg7 harg7 arg8 harg8 arg9 harg9 arg10 harg10 arg11 harg11 arg12 harg12 arg13 harg13 f3 f4 f5) :=
  loop_inv c i arg3 harg3 arg4 harg4 arg5 harg5 arg6 harg6 arg7 harg7 arg8 harg8 arg9 harg9 arg10 harg10 arg11 harg11 arg12 harg12 arg13 harg13 Kk Q V _ _ f3 f4 f5 hK hQ hV b hb _ (ev_init c arg3 arg4 arg7 arg9 arg11 arg12 arg13 Kk Q V f3 f4 hK hQ b) _ le_rfl

theorem ev_rd0 (f : Buf (Elt Ideal) (arg7.view.loc (c : Thread nD τ))) (κ : Fin 256) (q : Fin 256) :
    arg7.view.readAt (Elt Ideal) (Rect.unit (s := S4x1024x256) ![0, 0, 0] S1x256x256.size inb_S4x1024x256_S1x256x256_0_0_0).toLoadRect f (ix3 0 κ q) = g7_0 c arg7 f (ix3 0 ⟨κ.val, by have := κ.2; omega⟩ q) := by
  refine (readAt_unit _ _ _ _ _ _ (ix3 0 ⟨κ.val, by have := κ.2; omega⟩ q) fun a => ?_).trans (readAt_unit _ _ _ _ _ _ (ix3 0 ⟨κ.val, by have := κ.2; omega⟩ q) fun a => ?_).symm
  · fin_cases a <;> simp
  · fin_cases a <;> simp

include hK hQ hV in
/-- Group 0 of the output block where the diagonal block's number is even. -/
theorem ev_out0 (h1 : k0_cond1 i = 1#1) (b : ℕ) (hb : (i 2).val = b) (q : Fin 256) (d : Fin 128) :
    outg (dA0 (arg7.view.readAt (Elt Ideal) (Rect.unit (s := S4x1024x256) ![0, 0, 0] S1x256x256.size inb_S4x1024x256_S1x256x256_0_0_0).toLoadRect (evR7 c i arg3 harg3 arg4 harg4 arg5 harg5 arg6 harg6 arg7 harg7 arg8 harg8 arg9 harg9 arg10 harg10 arg11 harg11 arg12 harg12 arg13 harg13 f3 f4 f5)) (g11_0 c arg11 (evR11 c i arg3 harg3 arg4 harg4 arg5 harg5 arg6 harg6 arg7 harg7 arg8 harg8 arg9 harg9 arg10 harg10 arg11 harg11 arg12 harg12 arg13 harg13 f3 f4 f5)) (g13_0 c arg13 (evR13 c i arg3 harg3 arg4 harg4 arg5 harg5 arg6 harg6 arg7 harg7 arg8 harg8 arg9 harg9 arg10 harg10 arg11 harg11 arg12 harg12 arg13 harg13 f3 f4 f5)) (evV0 c i arg5 f5 h1)) (dL0 (arg7.view.readAt (Elt Ideal) (Rect.unit (s := S4x1024x256) ![0, 0, 0] S1x256x256.size inb_S4x1024x256_S1x256x256_0_0_0).toLoadRect (evR7 c i arg3 harg3 arg4 harg4 arg5 harg5 arg6 harg6 arg7 harg7 arg8 harg8 arg9 harg9 arg10 harg10 arg11 harg11 arg12 harg12 arg13 harg13 f3 f4 f5)) (g11_0 c arg11 (evR11 c i arg3 harg3 arg4 harg4 arg5 harg5 arg6 harg6 arg7 harg7 arg8 harg8 arg9 harg9 arg10 harg10 arg11 harg11 arg12 harg12 arg13 harg13 f3 f4 f5)) (g12_0 c arg12 (evR12 c i arg3 harg3 arg4 harg4 arg5 harg5 arg6 harg6 arg7 harg7 arg8 harg8 arg9 harg9 arg10 harg10 arg11 harg11 arg12 harg12 arg13 harg13 f3 f4 f5))) (ix3 0 q d)
      = Ideal.div (ra (Sm Kk Q b (0 + q.val)) (fun u => V u d) 16384) (rl (Sm Kk Q b (0 + q.val)) 16384) := by
  have ht := trips_eq i
  have he := even_of i h1
  have hi : (i 2).val < 16 := (i 2).isLt
  have hn : 2 * (k0_t1_loop i).trips = b := by omega
  rw [evR7_eq, evR11_eq, evR12_eq, evR13_eq]
  have H := ev_inv c i arg3 harg3 arg4 harg4 arg5 harg5 arg6 harg6 arg7 harg7 arg8 harg8 arg9 harg9 arg10 harg10 arg11 harg11 arg12 harg12 arg13 harg13 Kk Q V f3 f4 f5 hK hQ hV b hb q
  rw [hn] at H
  obtain ⟨h7, -, h11, h12, h13⟩ := H.1
  refine diag0 (Sm Kk Q b (0 + q.val)) V (1024 * b) q _ _ _ h11 h12 h13 _ _ (fun κ => ?_)
    (fun d κ => vb256_at (c := c) (hV := hV) (h := off7_eq i) (hj := hi) (d := d) (κ := κ) |>.trans (by rw [hb])) (fun u hu => if_neg (by have := q.2; omega)) (by omega) d
  unfold mk Sm
  by_cases h : κ.val ≤ q.val + 256 * 0
  · rw [if_pos h, if_pos (by omega)]
    exact (ev_rd0 c arg7 _ κ q).trans (h7 _)
  · rw [if_neg h, if_neg (by omega)]

theorem ev_rd1 (f : Buf (Elt Ideal) (arg7.view.loc (c : Thread nD τ))) (κ : Fin 512) (q : Fin 256) :
    arg7.view.readAt (Elt Ideal) (Rect.unit (s := S4x1024x256) ![1, 0, 0] S1x512x256.size inb_S4x1024x256_S1x512x256_1_0_0).toLoadRect f (ix3 0 κ q) = g7_1 c arg7 f (ix3 0 ⟨κ.val, by have := κ.2; omega⟩ q) := by
  refine (readAt_unit _ _ _ _ _ _ (ix3 1 ⟨κ.val, by have := κ.2; omega⟩ q) fun a => ?_).trans (readAt_unit _ _ _ _ _ _ (ix3 1 ⟨κ.val, by have := κ.2; omega⟩ q) fun a => ?_).symm
  · fin_cases a <;> simp
  · fin_cases a <;> simp

include hK hQ hV in
/-- Group 1 of the output block where the diagonal block's number is even. -/
theorem ev_out1 (h1 : k0_cond1 i = 1#1) (b : ℕ) (hb : (i 2).val = b) (q : Fin 256) (d : Fin 128) :
    outg (dA1 (arg7.view.readAt (Elt Ideal) (Rect.unit (s := S4x1024x256) ![1, 0, 0] S1x512x256.size inb_S4x1024x256_S1x512x256_1_0_0).toLoadRect (evR7 c i arg3 harg3 arg4 harg4 arg5 harg5 arg6 harg6 arg7 harg7 arg8 harg8 arg9 harg9 arg10 harg10 arg11 harg11 arg12 harg12 arg13 harg13 f3 f4 f5)) (g11_1 c arg11 (evR11 c i arg3 harg3 arg4 harg4 arg5 harg5 arg6 harg6 arg7 harg7 arg8 harg8 arg9 harg9 arg10 harg10 arg11 harg11 arg12 harg12 arg13 harg13 f3 f4 f5)) (g13_1 c arg13 (evR13 c i arg3 harg3 arg4 harg4 arg5 harg5 arg6 harg6 arg7 harg7 arg8 harg8 arg9 harg9 arg10 harg10 arg11 harg11 arg12 harg12 arg13 harg13 f3 f4 f5)) (evV1 c i arg5 f5 h1)) (dL1 (arg7.view.readAt (Elt Ideal) (Rect.unit (s := S4x1024x256) ![1, 0, 0] S1x512x256.size inb_S4x1024x256_S1x512x256_1_0_0).toLoadRect (evR7 c i arg3 harg3 arg4 harg4 arg5 harg5 arg6 harg6 arg7 harg7 arg8 harg8 arg9 harg9 arg10 harg10 arg11 harg11 arg12 harg12 arg13 harg13 f3 f4 f5)) (g11_1 c arg11 (evR11 c i arg3 harg3 arg4 harg4 arg5 harg5 arg6 harg6 arg7 harg7 arg8 harg8 arg9 harg9 arg10 harg10 arg11 harg11 arg12 harg12 arg13 harg13 f3 f4 f5)) (g12_1 c arg12 (evR12 c i arg3 harg3 arg4 harg4 arg5 harg5 arg6 harg6 arg7 harg7 arg8 harg8 arg9 harg9 arg10 harg10 arg11 harg11 arg12 harg12 arg13 harg13 f3 f4 f5))) (ix3 0 q d)
      = Ideal.div (ra (Sm Kk Q b (256 + q.val)) (fun u => V u d) 16384) (rl (Sm Kk Q b (256 + q.val)) 16384) := by
  have ht := trips_eq i
  have he := even_of i h1
  have hi : (i 2).val < 16 := (i 2).isLt
  have hn : 2 * (k0_t1_loop i).trips = b := by omega
  rw [evR7_eq, evR11_eq, evR12_eq, evR13_eq]
  have H := ev_inv c i arg3 harg3 arg4 harg4 arg5 harg5 arg6 harg6 arg7 harg7 arg8 harg8 arg9 harg9 arg10 harg10 arg11 harg11 arg12 harg12 arg13 harg13 Kk Q V f3 f4 f5 hK hQ hV b hb q
  rw [hn] at H
  obtain ⟨h7, -, h11, h12, h13⟩ := H.2.1
  refine diag1 (Sm Kk Q b (256 + q.val)) V (1024 * b) q _ _ _ h11 h12 h13 _ _ (fun κ => ?_)
    (fun d κ => vb512_at (c := c) (hV := hV) (h := off8_eq i) (hj := hi) (d := d) (κ := κ) |>.trans (by rw [hb])) (fun u hu => if_neg (by have := q.2; omega)) (by omega) d
  unfold mk Sm
  by_cases h : κ.val ≤ q.val + 256 * 1
  · rw [if_pos h, if_pos (by omega)]
    exact (ev_rd1 c arg7 _ κ q).trans (h7 _)
  · rw [if_neg h, if_neg (by omega)]

theorem ev_rd2 (f : Buf (Elt Ideal) (arg7.view.loc (c : Thread nD τ))) (κ : Fin 768) (q : Fin 256) :
    arg7.view.readAt (Elt Ideal) (Rect.unit (s := S4x1024x256) ![2, 0, 0] S1x768x256.size inb_S4x1024x256_S1x768x256_2_0_0).toLoadRect f (ix3 0 κ q) = g7_2 c arg7 f (ix3 0 ⟨κ.val, by have := κ.2; omega⟩ q) := by
  refine (readAt_unit _ _ _ _ _ _ (ix3 2 ⟨κ.val, by have := κ.2; omega⟩ q) fun a => ?_).trans (readAt_unit _ _ _ _ _ _ (ix3 2 ⟨κ.val, by have := κ.2; omega⟩ q) fun a => ?_).symm
  · fin_cases a <;> simp
  · fin_cases a <;> simp

include hK hQ hV in
/-- Group 2 of the output block where the diagonal block's number is even. -/
theorem ev_out2 (h1 : k0_cond1 i = 1#1) (b : ℕ) (hb : (i 2).val = b) (q : Fin 256) (d : Fin 128) :
    outg (dA2 (arg7.view.readAt (Elt Ideal) (Rect.unit (s := S4x1024x256) ![2, 0, 0] S1x768x256.size inb_S4x1024x256_S1x768x256_2_0_0).toLoadRect (evR7 c i arg3 harg3 arg4 harg4 arg5 harg5 arg6 harg6 arg7 harg7 arg8 harg8 arg9 harg9 arg10 harg10 arg11 harg11 arg12 harg12 arg13 harg13 f3 f4 f5)) (g11_2 c arg11 (evR11 c i arg3 harg3 arg4 harg4 arg5 harg5 arg6 harg6 arg7 harg7 arg8 harg8 arg9 harg9 arg10 harg10 arg11 harg11 arg12 harg12 arg13 harg13 f3 f4 f5)) (g13_2 c arg13 (evR13 c i arg3 harg3 arg4 harg4 arg5 harg5 arg6 harg6 arg7 harg7 arg8 harg8 arg9 harg9 arg10 harg10 arg11 harg11 arg12 harg12 arg13 harg13 f3 f4 f5)) (evV2 c i arg5 f5 h1)) (dL2 (arg7.view.readAt (Elt Ideal) (Rect.unit (s := S4x1024x256) ![2, 0, 0] S1x768x256.size inb_S4x1024x256_S1x768x256_2_0_0).toLoadRect (evR7 c i arg3 harg3 arg4 harg4 arg5 harg5 arg6 harg6 arg7 harg7 arg8 harg8 arg9 harg9 arg10 harg10 arg11 harg11 arg12 harg12 arg13 harg13 f3 f4 f5)) (g11_2 c arg11 (evR11 c i arg3 harg3 arg4 harg4 arg5 harg5 arg6 harg6 arg7 harg7 arg8 harg8 arg9 harg9 arg10 harg10 arg11 harg11 arg12 harg12 arg13 harg13 f3 f4 f5)) (g12_2 c arg12 (evR12 c i arg3 harg3 arg4 harg4 arg5 harg5 arg6 harg6 arg7 harg7 arg8 harg8 arg9 harg9 arg10 harg10 arg11 harg11 arg12 harg12 arg13 harg13 f3 f4 f5))) (ix3 0 q d)
      = Ideal.div (ra (Sm Kk Q b (512 + q.val)) (fun u => V u d) 16384) (rl (Sm Kk Q b (512 + q.val)) 16384) := by
  have ht := trips_eq i
  have he := even_of i h1
  have hi : (i 2).val < 16 := (i 2).isLt
  have hn : 2 * (k0_t1_loop i).trips = b := by omega
  rw [evR7_eq, evR11_eq, evR12_eq, evR13_eq]
  have H := ev_inv c i arg3 harg3 arg4 harg4 arg5 harg5 arg6 harg6 arg7 harg7 arg8 harg8 arg9 harg9 arg10 harg10 arg11 harg11 arg12 harg12 arg13 harg13 Kk Q V f3 f4 f5 hK hQ hV b hb q
  rw [hn] at H
  obtain ⟨h7, -, h11, h12, h13⟩ := H.2.2.1
  refine diag2 (Sm Kk Q b (512 + q.val)) V (1024 * b) q _ _ _ h11 h12 h13 _ _ (fun κ => ?_)
    (fun d κ => vb768_at (c := c) (hV := hV) (h := off9_eq i) (hj := hi) (d := d) (κ := κ) |>.trans (by rw [hb])) (fun u hu => if_neg (by have := q.2; omega)) (by omega) d
  unfold mk Sm
  by_cases h : κ.val ≤ q.val + 256 * 2
  · rw [if_pos h, if_pos (by omega)]
    exact (ev_rd2 c arg7 _ κ q).trans (h7 _)
  · rw [if_neg h, if_neg (by omega)]

theorem ev_rd3 (f : Buf (Elt Ideal) (arg7.view.loc (c : Thread nD τ))) (κ : Fin 1024) (q : Fin 256) :
    arg7.view.readAt (Elt Ideal) (Rect.unit (s := S4x1024x256) ![3, 0, 0] S1x1024x256.size inb_S4x1024x256_S1x1024x256_3_0_0).toLoadRect f (ix3 0 κ q) = g7_3 c arg7 f (ix3 0 ⟨κ.val, by have := κ.2; omega⟩ q) := by
  refine (readAt_unit _ _ _ _ _ _ (ix3 3 ⟨κ.val, by have := κ.2; omega⟩ q) fun a => ?_).trans (readAt_unit _ _ _ _ _ _ (ix3 3 ⟨κ.val, by have := κ.2; omega⟩ q) fun a => ?_).symm
  · fin_cases a <;> simp
  · fin_cases a <;> simp

include hK hQ hV in
/-- Group 3 of the output block where the diagonal block's number is even. -/
theorem ev_out3 (h1 : k0_cond1 i = 1#1) (b : ℕ) (hb : (i 2).val = b) (q : Fin 256) (d : Fin 128) :
    outg (dA3 (arg7.view.readAt (Elt Ideal) (Rect.unit (s := S4x1024x256) ![3, 0, 0] S1x1024x256.size inb_S4x1024x256_S1x1024x256_3_0_0).toLoadRect (evR7 c i arg3 harg3 arg4 harg4 arg5 harg5 arg6 harg6 arg7 harg7 arg8 harg8 arg9 harg9 arg10 harg10 arg11 harg11 arg12 harg12 arg13 harg13 f3 f4 f5)) (g11_3 c arg11 (evR11 c i arg3 harg3 arg4 harg4 arg5 harg5 arg6 harg6 arg7 harg7 arg8 harg8 arg9 harg9 arg10 harg10 arg11 harg11 arg12 harg12 arg13 harg13 f3 f4 f5)) (g13_3 c arg13 (evR13 c i arg3 harg3 arg4 harg4 arg5 harg5 arg6 harg6 arg7 harg7 arg8 harg8 arg9 harg9 arg10 harg10 arg11 harg11 arg12 harg12 arg13 harg13 f3 f4 f5)) (evV3 c i arg5 f5 h1)) (dL3 (arg7.view.readAt (Elt Ideal) (Rect.unit (s := S4x1024x256) ![3, 0, 0] S1x1024x256.size inb_S4x1024x256_S1x1024x256_3_0_0).toLoadRect (evR7 c i arg3 harg3 arg4 harg4 arg5 harg5 arg6 harg6 arg7 harg7 arg8 harg8 arg9 harg9 arg10 harg10 arg11 harg11 arg12 harg12 arg13 harg13 f3 f4 f5)) (g11_3 c arg11 (evR11 c i arg3 harg3 arg4 harg4 arg5 harg5 arg6 harg6 arg7 harg7 arg8 harg8 arg9 harg9 arg10 harg10 arg11 harg11 arg12 harg12 arg13 harg13 f3 f4 f5)) (g12_3 c arg12 (evR12 c i arg3 harg3 arg4 harg4 arg5 harg5 arg6 harg6 arg7 harg7 arg8 harg8 arg9 harg9 arg10 harg10 arg11 harg11 arg12 harg12 arg13 harg13 f3 f4 f5))) (ix3 0 q d)
      = Ideal.div (ra (Sm Kk Q b (768 + q.val)) (fun u => V u d) 16384) (rl (Sm Kk Q b (768 + q.val)) 16384) := by
  have ht := trips_eq i
  have he := even_of i h1
  have hi : (i 2).val < 16 := (i 2).isLt
  have hn : 2 * (k0_t1_loop i).trips = b := by omega
  rw [evR7_eq, evR11_eq, evR12_eq, evR13_eq]
  have H := ev_inv c i arg3 harg3 arg4 harg4 arg5 harg5 arg6 harg6 arg7 harg7 arg8 harg8 arg9 harg9 arg10 harg10 arg11 harg11 arg12 harg12 arg13 harg13 Kk Q V f3 f4 f5 hK hQ hV b hb q
  rw [hn] at H
  obtain ⟨h7, -, h11, h12, h13⟩ := H.2.2.2
  refine diag3 (Sm Kk Q b (768 + q.val)) V (1024 * b) q _ _ _ h11 h12 h13 _ _ (fun κ => ?_)
    (fun d κ => vb1024_at (c := c) (hV := hV) (h := off10_eq i) (hj := hi) (d := d) (κ := κ) |>.trans (by rw [hb])) (fun u hu => if_neg (by have := q.2; omega)) (by omega) d
  unfold mk Sm
  by_cases h : κ.val ≤ q.val + 256 * 3
  · rw [if_pos h, if_pos (by omega)]
    exact (ev_rd3 c arg7 _ κ q).trans (h7 _)
  · rw [if_neg h, if_neg (by omega)]

include hK hQ hV in
theorem ev_read (h1 : k0_cond1 i = 1#1) (h2 : ¬ k0_cond2 i = 1#1) (b : ℕ) (hb : (i 2).val = b) {sig' : RefSig} {κ' : Kind} {sp' : Space} (v : View sig' κ' sp' S1x1024x128 .f32)
    (f : v.ty.Contents (Elt Ideal)) (T : Fin 1024) (d : Fin 128) :
    v.read (Elt Ideal) (v.writes (Elt Ideal) f (bodyRunEven (F := Ideal) c i arg3 harg3 arg4 harg4 arg5 harg5 arg6 harg6 arg7 harg7 arg8 harg8 arg9 harg9 arg10 harg10 arg11 harg11 arg12 harg12 arg13 harg13 h1 h2 f3 f4 f5).1) (ix3 0 T d)
      = Ideal.div (ra (Sm Kk Q b T.val) (fun u => V u d) 16384) (rl (Sm Kk Q b T.val) 16384) := by
  rw [ev_pieces]
  exact four_read v f _ _ _ _ (fun T d => Ideal.div (ra (Sm Kk Q b T) (fun u => V u d) 16384) (rl (Sm Kk Q b T) 16384))
    (fun q d => ev_out3 c i arg3 harg3 arg4 harg4 arg5 harg5 arg6 harg6 arg7 harg7 arg8 harg8 arg9 harg9 arg10 harg10 arg11 harg11 arg12 harg12 arg13 harg13 Kk Q V f3 f4 f5 hK hQ hV h1 b hb q d) (fun q d => ev_out2 c i arg3 harg3 arg4 harg4 arg5 harg5 arg6 harg6 arg7 harg7 arg8 harg8 arg9 harg9 arg10 harg10 arg11 harg11 arg12 harg12 arg13 harg13 Kk Q V f3 f4 f5 hK hQ hV h1 b hb q d)
    (fun q d => ev_out1 c i arg3 harg3 arg4 harg4 arg5 harg5 arg6 harg6 arg7 harg7 arg8 harg8 arg9 harg9 arg10 harg10 arg11 harg11 arg12 harg12 arg13 harg13 Kk Q V f3 f4 f5 hK hQ hV h1 b hb q d)
    (fun q d => (ev_out0 c i arg3 harg3 arg4 harg4 arg5 harg5 arg6 harg6 arg7 harg7 arg8 harg8 arg9 harg9 arg10 harg10 arg11 harg11 arg12 harg12 arg13 harg13 Kk Q V f3 f4 f5 hK hQ hV h1 b hb q d)) T d

include hK hQ hV in
theorem od_inv (b : ℕ) (hb : (i 2).val = b) :
    Inv c arg7 arg9 arg11 arg12 arg13 Kk Q V b (2 * (k0_t1_loop i).trips) (od1 c i arg3 harg3 arg4 harg4 arg5 harg5 arg6 harg6 arg7 harg7 arg8 harg8 arg9 harg9 arg10 harg10 arg11 harg11 arg12 harg12 arg13 harg13 f3 f4 f5) :=
  loop_inv c i arg3 harg3 arg4 harg4 arg5 harg5 arg6 harg6 arg7 harg7 arg8 harg8 arg9 harg9 arg10 harg10 arg11 harg11 arg12 harg12 arg13 harg13 Kk Q V _ _ f3 f4 f5 hK hQ hV b hb _ (od_init c arg3 arg4 arg7 arg9 arg11 arg12 arg13 Kk Q V f3 f4 hK hQ b) _ le_rfl

theorem od_rd0 (f : Buf (Elt Ideal) (arg8.view.loc (c : Thread nD τ))) (κ : Fin 256) (q : Fin 256) :
    arg8.view.readAt (Elt Ideal) (Rect.unit (s := S4x1024x256) ![0, 0, 0] S1x256x256.size inb_S4x1024x256_S1x256x256_0_0_0).toLoadRect f (ix3 0 κ q) = g8_0 c arg8 f (ix3 0 ⟨κ.val, by have := κ.2; omega⟩ q) := by
  refine (readAt_unit _ _ _ _ _ _ (ix3 0 ⟨κ.val, by have := κ.2; omega⟩ q) fun a => ?_).trans (readAt_unit _ _ _ _ _ _ (ix3 0 ⟨κ.val, by have := κ.2; omega⟩ q) fun a => ?_).symm
  · fin_cases a <;> simp
  · fin_cases a <;> simp

theorem od8_0 (h2 : k0_cond2 i = 1#1) : g8_0 c arg8 (od8 c i arg3 arg4 arg8 f3 f4 h2) = sc (KD c i arg4 f4 h2) (qg0 c arg3 f3) := by
  unfold od8 bodyRunOdd.sl.H8_4
  dsimp only [g8_0]
  refine (readAt_skip _ _ _ _ _ _ ?_).trans ?_; · decide
  refine (readAt_skip _ _ _ _ _ _ ?_).trans ?_; · decide
  refine (readAt_skip _ _ _ _ _ _ ?_).trans ?_; · decide
  refine (readAt_head _ _ _ _ _).trans ?_
  try simp only [bodyRunOdd.sl.r_3]
  rfl

include hK hQ hV in
/-- Group 0 of the output block where the diagonal block's number is odd. -/
theorem od_out0 (h2 : k0_cond2 i = 1#1) (b : ℕ) (hb : (i 2).val = b) (q : Fin 256) (d : Fin 128) :
    outg (dA0 (arg8.view.readAt (Elt Ideal) (Rect.unit (s := S4x1024x256) ![0, 0, 0] S1x256x256.size inb_S4x1024x256_S1x256x256_0_0_0).toLoadRect (od8 c i arg3 arg4 arg8 f3 f4 h2)) (nM (g11_0 c arg11 (odR11 c i arg3 harg3 arg4 harg4 arg5 harg5 arg6 harg6 arg7 harg7 arg8 harg8 arg9 harg9 arg10 harg10 arg11 harg11 arg12 harg12 arg13 harg13 f3 f4 f5)) (g9_0 c arg9 (odR9 c i arg3 harg3 arg4 harg4 arg5 harg5 arg6 harg6 arg7 harg7 arg8 harg8 arg9 harg9 arg10 harg10 arg11 harg11 arg12 harg12 arg13 harg13 f3 f4 f5))) (nA (g7_0 c arg7 (odR7 c i arg3 harg3 arg4 harg4 arg5 harg5 arg6 harg6 arg7 harg7 arg8 harg8 arg9 harg9 arg10 harg10 arg11 harg11 arg12 harg12 arg13 harg13 f3 f4 f5)) (g11_0 c arg11 (odR11 c i arg3 harg3 arg4 harg4 arg5 harg5 arg6 harg6 arg7 harg7 arg8 harg8 arg9 harg9 arg10 harg10 arg11 harg11 arg12 harg12 arg13 harg13 f3 f4 f5)) (g9_0 c arg9 (odR9 c i arg3 harg3 arg4 harg4 arg5 harg5 arg6 harg6 arg7 harg7 arg8 harg8 arg9 harg9 arg10 harg10 arg11 harg11 arg12 harg12 arg13 harg13 f3 f4 f5)) (g13_0 c arg13 (odR13 c i arg3 harg3 arg4 harg4 arg5 harg5 arg6 harg6 arg7 harg7 arg8 harg8 arg9 harg9 arg10 harg10 arg11 harg11 arg12 harg12 arg13 harg13 f3 f4 f5)) (VP c i arg5 f5 h2)) (odV0 c i arg5 f5 h2)) (dL0 (arg8.view.readAt (Elt Ideal) (Rect.unit (s := S4x1024x256) ![0, 0, 0] S1x256x256.size inb_S4x1024x256_S1x256x256_0_0_0).toLoadRect (od8 c i arg3 arg4 arg8 f3 f4 h2)) (nM (g11_0 c arg11 (odR11 c i arg3 harg3 arg4 harg4 arg5 harg5 arg6 harg6 arg7 harg7 arg8 harg8 arg9 harg9 arg10 harg10 arg11 harg11 arg12 harg12 arg13 harg13 f3 f4 f5)) (g9_0 c arg9 (odR9 c i arg3 harg3 arg4 harg4 arg5 harg5 arg6 harg6 arg7 harg7 arg8 harg8 arg9 harg9 arg10 harg10 arg11 harg11 arg12 harg12 arg13 harg13 f3 f4 f5))) (nL (g7_0 c arg7 (odR7 c i arg3 harg3 arg4 harg4 arg5 harg5 arg6 harg6 arg7 harg7 arg8 harg8 arg9 harg9 arg10 harg10 arg11 harg11 arg12 harg12 arg13 harg13 f3 f4 f5)) (g11_0 c arg11 (odR11 c i arg3 harg3 arg4 harg4 arg5 harg5 arg6 harg6 arg7 harg7 arg8 harg8 arg9 harg9 arg10 harg10 arg11 harg11 arg12 harg12 arg13 harg13 f3 f4 f5)) (g9_0 c arg9 (odR9 c i arg3 harg3 arg4 harg4 arg5 harg5 arg6 harg6 arg7 harg7 arg8 harg8 arg9 harg9 arg10 harg10 arg11 harg11 arg12 harg12 arg13 harg13 f3 f4 f5)) (g12_0 c arg12 (odR12 c i arg3 harg3 arg4 harg4 arg5 harg5 arg6 harg6 arg7 harg7 arg8 harg8 arg9 harg9 arg10 harg10 arg11 harg11 arg12 harg12 arg13 harg13 f3 f4 f5)))) (ix3 0 q d)
      = Ideal.div (ra (Sm Kk Q b (0 + q.val)) (fun u => V u d) 16384) (rl (Sm Kk Q b (0 + q.val)) 16384) := by
  have ht := trips_eq i
  have he := odd_of i h2
  have hi : (i 2).val < 16 := (i 2).isLt
  have hn : 2 * (k0_t1_loop i).trips = b - 1 := by omega
  have hb1 : b - 1 + 1 = b := by omega
  rw [odR7_eq, odR9_eq, odR11_eq, odR12_eq, odR13_eq]
  have H := od_inv c i arg3 harg3 arg4 harg4 arg5 harg5 arg6 harg6 arg7 harg7 arg8 harg8 arg9 harg9 arg10 harg10 arg11 harg11 arg12 harg12 arg13 harg13 Kk Q V f3 f4 f5 hK hQ hV b hb q
  rw [hn] at H
  have A := col0_step Kk Q V (by omega) q _ _ _ _ _ (VP c i arg5 f5 h2) H.1
    fun d κ => vb1024_at (c := c) (hV := hV) (h := off12_eq i h2) (hj := by omega) (d := d) (κ := κ) |>.trans (by rw [hb])
  rw [hb1] at A
  refine diag0 (Sm Kk Q b (0 + q.val)) V (1024 * b) q _ _ _ A.1 A.2.1 A.2.2 _ _ (fun κ => ?_)
    (fun d κ => vb256_at (c := c) (hV := hV) (h := off13_eq i) (hj := hi) (d := d) (κ := κ) |>.trans (by rw [hb])) (fun u hu => if_neg (by have := q.2; omega)) (by omega) d
  unfold mk Sm
  by_cases h : κ.val ≤ q.val + 256 * 0
  · rw [if_pos h, if_pos (by omega)]
    refine (od_rd0 c arg8 _ κ q).trans ((congrFun (od8_0 c i arg3 arg4 arg8 f3 f4 h2) _).trans ?_)
    exact (sc0_at (c := c) (hK := hK) (hQ := hQ) (h := off11_eq i) (hj := hi) (q := q) (κ := _)).trans (by rw [hb])
  · rw [if_neg h, if_neg (by omega)]

theorem od_rd1 (f : Buf (Elt Ideal) (arg8.view.loc (c : Thread nD τ))) (κ : Fin 512) (q : Fin 256) :
    arg8.view.readAt (Elt Ideal) (Rect.unit (s := S4x1024x256) ![1, 0, 0] S1x512x256.size inb_S4x1024x256_S1x512x256_1_0_0).toLoadRect f (ix3 0 κ q) = g8_1 c arg8 f (ix3 0 ⟨κ.val, by have := κ.2; omega⟩ q) := by
  refine (readAt_unit _ _ _ _ _ _ (ix3 1 ⟨κ.val, by have := κ.2; omega⟩ q) fun a => ?_).trans (readAt_unit _ _ _ _ _ _ (ix3 1 ⟨κ.val, by have := κ.2; omega⟩ q) fun a => ?_).symm
  · fin_cases a <;> simp
  · fin_cases a <;> simp

theorem od8_1 (h2 : k0_cond2 i = 1#1) : g8_1 c arg8 (od8 c i arg3 arg4 arg8 f3 f4 h2) = sc (KD c i arg4 f4 h2) (qg1 c arg3 f3) := by
  unfold od8 bodyRunOdd.sl.H8_4
  dsimp only [g8_1]
  refine (readAt_skip _ _ _ _ _ _ ?_).trans ?_; · decide
  refine (readAt_skip _ _ _ _ _ _ ?_).trans ?_; · decide
  refine (readAt_head _ _ _ _ _).trans ?_
  try simp only [bodyRunOdd.sl.r_3]
  rfl

include hK hQ hV in
/-- Group 1 of the output block where the diagonal block's number is odd. -/
theorem od_out1 (h2 : k0_cond2 i = 1#1) (b : ℕ) (hb : (i 2).val = b) (q : Fin 256) (d : Fin 128) :
    outg (dA1 (arg8.view.readAt (Elt Ideal) (Rect.unit (s := S4x1024x256) ![1, 0, 0] S1x512x256.size inb_S4x1024x256_S1x512x256_1_0_0).toLoadRect (od8 c i arg3 arg4 arg8 f3 f4 h2)) (nM (g11_1 c arg11 (odR11 c i arg3 harg3 arg4 harg4 arg5 harg5 arg6 harg6 arg7 harg7 arg8 harg8 arg9 harg9 arg10 harg10 arg11 harg11 arg12 harg12 arg13 harg13 f3 f4 f5)) (g9_1 c arg9 (odR9 c i arg3 harg3 arg4 harg4 arg5 harg5 arg6 harg6 arg7 harg7 arg8 harg8 arg9 harg9 arg10 harg10 arg11 harg11 arg12 harg12 arg13 harg13 f3 f4 f5))) (nA (g7_1 c arg7 (odR7 c i arg3 harg3 arg4 harg4 arg5 harg5 arg6 harg6 arg7 harg7 arg8 harg8 arg9 harg9 arg10 harg10 arg11 harg11 arg12 harg12 arg13 harg13 f3 f4 f5)) (g11_1 c arg11 (odR11 c i arg3 harg3 arg4 harg4 arg5 harg5 arg6 harg6 arg7 harg7 arg8 harg8 arg9 harg9 arg10 harg10 arg11 harg11 arg12 harg12 arg13 harg13 f3 f4 f5)) (g9_1 c arg9 (odR9 c i arg3 harg3 arg4 harg4 arg5 harg5 arg6 harg6 arg7 harg7 arg8 harg8 arg9 harg9 arg10 harg10 arg11 harg11 arg12 harg12 arg13 harg13 f3 f4 f5)) (g13_1 c arg13 (odR13 c i arg3 harg3 arg4 harg4 arg5 harg5 arg6 harg6 arg7 harg7 arg8 harg8 arg9 harg9 arg10 harg10 arg11 harg11 arg12 harg12 arg13 harg13 f3 f4 f5)) (VP c i arg5 f5 h2)) (odV1 c i arg5 f5 h2)) (dL1 (arg8.view.readAt (Elt Ideal) (Rect.unit (s := S4x1024x256) ![1, 0, 0] S1x512x256.size inb_S4x1024x256_S1x512x256_1_0_0).toLoadRect (od8 c i arg3 arg4 arg8 f3 f4 h2)) (nM (g11_1 c arg11 (odR11 c i arg3 harg3 arg4 harg4 arg5 harg5 arg6 harg6 arg7 harg7 arg8 harg8 arg9 harg9 arg10 harg10 arg11 harg11 arg12 harg12 arg13 harg13 f3 f4 f5)) (g9_1 c arg9 (odR9 c i arg3 harg3 arg4 harg4 arg5 harg5 arg6 harg6 arg7 harg7 arg8 harg8 arg9 harg9 arg10 harg10 arg11 harg11 arg12 harg12 arg13 harg13 f3 f4 f5))) (nL (g7_1 c arg7 (odR7 c i arg3 harg3 arg4 harg4 arg5 harg5 arg6 harg6 arg7 harg7 arg8 harg8 arg9 harg9 arg10 harg10 arg11 harg11 arg12 harg12 arg13 harg13 f3 f4 f5)) (g11_1 c arg11 (odR11 c i arg3 harg3 arg4 harg4 arg5 harg5 arg6 harg6 arg7 harg7 arg8 harg8 arg9 harg9 arg10 harg10 arg11 harg11 arg12 harg12 arg13 harg13 f3 f4 f5)) (g9_1 c arg9 (odR9 c i arg3 harg3 arg4 harg4 arg5 harg5 arg6 harg6 arg7 harg7 arg8 harg8 arg9 harg9 arg10 harg10 arg11 harg11 arg12 harg12 arg13 harg13 f3 f4 f5)) (g12_1 c arg12 (odR12 c i arg3 harg3 arg4 harg4 arg5 harg5 arg6 harg6 arg7 harg7 arg8 harg8 arg9 harg9 arg10 harg10 arg11 harg11 arg12 harg12 arg13 harg13 f3 f4 f5)))) (ix3 0 q d)
      = Ideal.div (ra (Sm Kk Q b (256 + q.val)) (fun u => V u d) 16384) (rl (Sm Kk Q b (256 + q.val)) 16384) := by
  have ht := trips_eq i
  have he := odd_of i h2
  have hi : (i 2).val < 16 := (i 2).isLt
  have hn : 2 * (k0_t1_loop i).trips = b - 1 := by omega
  have hb1 : b - 1 + 1 = b := by omega
  rw [odR7_eq, odR9_eq, odR11_eq, odR12_eq, odR13_eq]
  have H := od_inv c i arg3 harg3 arg4 harg4 arg5 harg5 arg6 harg6 arg7 harg7 arg8 harg8 arg9 harg9 arg10 harg10 arg11 harg11 arg12 harg12 arg13 harg13 Kk Q V f3 f4 f5 hK hQ hV b hb q
  rw [hn] at H
  have A := col1_step Kk Q V (by omega) q _ _ _ _ _ (VP c i arg5 f5 h2) H.2.1
    fun d κ => vb1024_at (c := c) (hV := hV) (h := off12_eq i h2) (hj := by omega) (d := d) (κ := κ) |>.trans (by rw [hb])
  rw [hb1] at A
  refine diag1 (Sm Kk Q b (256 + q.val)) V (1024 * b) q _ _ _ A.1 A.2.1 A.2.2 _ _ (fun κ => ?_)
    (fun d κ => vb512_at (c := c) (hV := hV) (h := off14_eq i) (hj := hi) (d := d) (κ := κ) |>.trans (by rw [hb])) (fun u hu => if_neg (by have := q.2; omega)) (by omega) d
  unfold mk Sm
  by_cases h : κ.val ≤ q.val + 256 * 1
  · rw [if_pos h, if_pos (by omega)]
    refine (od_rd1 c arg8 _ κ q).trans ((congrFun (od8_1 c i arg3 arg4 arg8 f3 f4 h2) _).trans ?_)
    exact (sc1_at (c := c) (hK := hK) (hQ := hQ) (h := off11_eq i) (hj := hi) (q := q) (κ := _)).trans (by rw [hb])
  · rw [if_neg h, if_neg (by omega)]

theorem od_rd2 (f : Buf (Elt Ideal) (arg8.view.loc (c : Thread nD τ))) (κ : Fin 768) (q : Fin 256) :
    arg8.view.readAt (Elt Ideal) (Rect.unit (s := S4x1024x256) ![2, 0, 0] S1x768x256.size inb_S4x1024x256_S1x768x256_2_0_0).toLoadRect f (ix3 0 κ q) = g8_2 c arg8 f (ix3 0 ⟨κ.val, by have := κ.2; omega⟩ q) := by
  refine (readAt_unit _ _ _ _ _ _ (ix3 2 ⟨κ.val, by have := κ.2; omega⟩ q) fun a => ?_).trans (readAt_unit _ _ _ _ _ _ (ix3 2 ⟨κ.val, by have := κ.2; omega⟩ q) fun a => ?_).symm
  · fin_cases a <;> simp
  · fin_cases a <;> simp

theorem od8_2 (h2 : k0_cond2 i = 1#1) : g8_2 c arg8 (od8 c i arg3 arg4 arg8 f3 f4 h2) = sc (KD c i arg4 f4 h2) (qg2 c arg3 f3) := by
  unfold od8 bodyRunOdd.sl.H8_4
  dsimp only [g8_2]
  refine (readAt_skip _ _ _ _ _ _ ?_).trans ?_; · decide
  refine (readAt_head _ _ _ _ _).trans ?_
  try simp only [bodyRunOdd.sl.r_3]
  rfl

include hK hQ hV in
/-- Group 2 of the output block where the diagonal block's number is odd. -/
theorem od_out2 (h2 : k0_cond2 i = 1#1) (b : ℕ) (hb : (i 2).val = b) (q : Fin 256) (d : Fin 128) :
    outg (dA2 (arg8.view.readAt (Elt Ideal) (Rect.unit (s := S4x1024x256) ![2, 0, 0] S1x768x256.size inb_S4x1024x256_S1x768x256_2_0_0).toLoadRect (od8 c i arg3 arg4 arg8 f3 f4 h2)) (nM (g11_2 c arg11 (odR11 c i arg3 harg3 arg4 harg4 arg5 harg5 arg6 harg6 arg7 harg7 arg8 harg8 arg9 harg9 arg10 harg10 arg11 harg11 arg12 harg12 arg13 harg13 f3 f4 f5)) (g9_2 c arg9 (odR9 c i arg3 harg3 arg4 harg4 arg5 harg5 arg6 harg6 arg7 harg7 arg8 harg8 arg9 harg9 arg10 harg10 arg11 harg11 arg12 harg12 arg13 harg13 f3 f4 f5))) (nA (g7_2 c arg7 (odR7 c i arg3 harg3 arg4 harg4 arg5 harg5 arg6 harg6 arg7 harg7 arg8 harg8 arg9 harg9 arg10 harg10 arg11 harg11 arg12 harg12 arg13 harg13 f3 f4 f5)) (g11_2 c arg11 (odR11 c i arg3 harg3 arg4 harg4 arg5 harg5 arg6 harg6 arg7 harg7 arg8 harg8 arg9 harg9 arg10 harg10 arg11 harg11 arg12 harg12 arg13 harg13 f3 f4 f5)) (g9_2 c arg9 (odR9 c i arg3 harg3 arg4 harg4 arg5 harg5 arg6 harg6 arg7 harg7 arg8 harg8 arg9 harg9 arg10 harg10 arg11 harg11 arg12 harg12 arg13 harg13 f3 f4 f5)) (g13_2 c arg13 (odR13 c i arg3 harg3 arg4 harg4 arg5 harg5 arg6 harg6 arg7 harg7 arg8 harg8 arg9 harg9 arg10 harg10 arg11 harg11 arg12 harg12 arg13 harg13 f3 f4 f5)) (VP c i arg5 f5 h2)) (odV2 c i arg5 f5 h2)) (dL2 (arg8.view.readAt (Elt Ideal) (Rect.unit (s := S4x1024x256) ![2, 0, 0] S1x768x256.size inb_S4x1024x256_S1x768x256_2_0_0).toLoadRect (od8 c i arg3 arg4 arg8 f3 f4 h2)) (nM (g11_2 c arg11 (odR11 c i arg3 harg3 arg4 harg4 arg5 harg5 arg6 harg6 arg7 harg7 arg8 harg8 arg9 harg9 arg10 harg10 arg11 harg11 arg12 harg12 arg13 harg13 f3 f4 f5)) (g9_2 c arg9 (odR9 c i arg3 harg3 arg4 harg4 arg5 harg5 arg6 harg6 arg7 harg7 arg8 harg8 arg9 harg9 arg10 harg10 arg11 harg11 arg12 harg12 arg13 harg13 f3 f4 f5))) (nL (g7_2 c arg7 (odR7 c i arg3 harg3 arg4 harg4 arg5 harg5 arg6 harg6 arg7 harg7 arg8 harg8 arg9 harg9 arg10 harg10 arg11 harg11 arg12 harg12 arg13 harg13 f3 f4 f5)) (g11_2 c arg11 (odR11 c i arg3 harg3 arg4 harg4 arg5 harg5 arg6 harg6 arg7 harg7 arg8 harg8 arg9 harg9 arg10 harg10 arg11 harg11 arg12 harg12 arg13 harg13 f3 f4 f5)) (g9_2 c arg9 (odR9 c i arg3 harg3 arg4 harg4 arg5 harg5 arg6 harg6 arg7 harg7 arg8 harg8 arg9 harg9 arg10 harg10 arg11 harg11 arg12 harg12 arg13 harg13 f3 f4 f5)) (g12_2 c arg12 (odR12 c i arg3 harg3 arg4 harg4 arg5 harg5 arg6 harg6 arg7 harg7 arg8 harg8 arg9 harg9 arg10 harg10 arg11 harg11 arg12 harg12 arg13 harg13 f3 f4 f5)))) (ix3 0 q d)
      = Ideal.div (ra (Sm Kk Q b (512 + q.val)) (fun u => V u d) 16384) (rl (Sm Kk Q b (512 + q.val)) 16384) := by
  have ht := trips_eq i
  have he := odd_of i h2
  have hi : (i 2).val < 16 := (i 2).isLt
  have hn : 2 * (k0_t1_loop i).trips = b - 1 := by omega
  have hb1 : b - 1 + 1 = b := by omega
  rw [odR7_eq, odR9_eq, odR11_eq, odR12_eq, odR13_eq]
  have H := od_inv c i arg3 harg3 arg4 harg4 arg5 harg5 arg6 harg6 arg7 harg7 arg8 harg8 arg9 harg9 arg10 harg10 arg11 harg11 arg12 harg12 arg13 harg13 Kk Q V f3 f4 f5 hK hQ hV b hb q
  rw [hn] at H
  have A := col2_step Kk Q V (by omega) q _ _ _ _ _ (VP c i arg5 f5 h2) H.2.2.1
    fun d κ => vb1024_at (c := c) (hV := hV) (h := off12_eq i h2) (hj := by omega) (d := d) (κ := κ) |>.trans (by rw [hb])
  rw [hb1] at A
  refine diag2 (Sm Kk Q b (512 + q.val)) V (1024 * b) q _ _ _ A.1 A.2.1 A.2.2 _ _ (fun κ => ?_)
    (fun d κ => vb768_at (c := c) (hV := hV) (h := off15_eq i) (hj := hi) (d := d) (κ := κ) |>.trans (by rw [hb])) (fun u hu => if_neg (by have := q.2; omega)) (by omega) d
  unfold mk Sm
  by_cases h : κ.val ≤ q.val + 256 * 2
  · rw [if_pos h, if_pos (by omega)]
    refine (od_rd2 c arg8 _ κ q).trans ((congrFun (od8_2 c i arg3 arg4 arg8 f3 f4 h2) _).trans ?_)
    exact (sc2_at (c := c) (hK := hK) (hQ := hQ) (h := off11_eq i) (hj := hi) (q := q) (κ := _)).trans (by rw [hb])
  · rw [if_neg h, if_neg (by omega)]

theorem od_rd3 (f : Buf (Elt Ideal) (arg8.view.loc (c : Thread nD τ))) (κ : Fin 1024) (q : Fin 256) :
    arg8.view.readAt (Elt Ideal) (Rect.unit (s := S4x1024x256) ![3, 0, 0] S1x1024x256.size inb_S4x1024x256_S1x1024x256_3_0_0).toLoadRect f (ix3 0 κ q) = g8_3 c arg8 f (ix3 0 ⟨κ.val, by have := κ.2; omega⟩ q) := by
  refine (readAt_unit _ _ _ _ _ _ (ix3 3 ⟨κ.val, by have := κ.2; omega⟩ q) fun a => ?_).trans (readAt_unit _ _ _ _ _ _ (ix3 3 ⟨κ.val, by have := κ.2; omega⟩ q) fun a => ?_).symm
  · fin_cases a <;> simp
  · fin_cases a <;> simp

theorem od8_3 (h2 : k0_cond2 i = 1#1) : g8_3 c arg8 (od8 c i arg3 arg4 arg8 f3 f4 h2) = sc (KD c i arg4 f4 h2) (qg3 c arg3 f3) := by
  unfold od8 bodyRunOdd.sl.H8_4
  dsimp only [g8_3]
  refine (readAt_head _ _ _ _ _).trans ?_
  try simp only [bodyRunOdd.sl.r_3]
  rfl

include hK hQ hV in
/-- Group 3 of the output block where the diagonal block's number is odd. -/
theorem od_out3 (h2 : k0_cond2 i = 1#1) (b : ℕ) (hb : (i 2).val = b) (q : Fin 256) (d : Fin 128) :
    outg (dA3 (arg8.view.readAt (Elt Ideal) (Rect.unit (s := S4x1024x256) ![3, 0, 0] S1x1024x256.size inb_S4x1024x256_S1x1024x256_3_0_0).toLoadRect (od8 c i arg3 arg4 arg8 f3 f4 h2)) (nM (g11_3 c arg11 (odR11 c i arg3 harg3 arg4 harg4 arg5 harg5 arg6 harg6 arg7 harg7 arg8 harg8 arg9 harg9 arg10 harg10 arg11 harg11 arg12 harg12 arg13 harg13 f3 f4 f5)) (g9_3 c arg9 (odR9 c i arg3 harg3 arg4 harg4 arg5 harg5 arg6 harg6 arg7 harg7 arg8 harg8 arg9 harg9 arg10 harg10 arg11 harg11 arg12 harg12 arg13 harg13 f3 f4 f5))) (nA (g7_3 c arg7 (odR7 c i arg3 harg3 arg4 harg4 arg5 harg5 arg6 harg6 arg7 harg7 arg8 harg8 arg9 harg9 arg10 harg10 arg11 harg11 arg12 harg12 arg13 harg13 f3 f4 f5)) (g11_3 c arg11 (odR11 c i arg3 harg3 arg4 harg4 arg5 harg5 arg6 harg6 arg7 harg7 arg8 harg8 arg9 harg9 arg10 harg10 arg11 harg11 arg12 harg12 arg13 harg13 f3 f4 f5)) (g9_3 c arg9 (odR9 c i arg3 harg3 arg4 harg4 arg5 harg5 arg6 harg6 arg7 harg7 arg8 harg8 arg9 harg9 arg10 harg10 arg11 harg11 arg12 harg12 arg13 harg13 f3 f4 f5)) (g13_3 c arg13 (odR13 c i arg3 harg3 arg4 harg4 arg5 harg5 arg6 harg6 arg7 harg7 arg8 harg8 arg9 harg9 arg10 harg10 arg11 harg11 arg12 harg12 arg13 harg13 f3 f4 f5)) (VP c i arg5 f5 h2)) (odV3 c i arg5 f5 h2)) (dL3 (arg8.view.readAt (Elt Ideal) (Rect.unit (s := S4x1024x256) ![3, 0, 0] S1x1024x256.size inb_S4x1024x256_S1x1024x256_3_0_0).toLoadRect (od8 c i arg3 arg4 arg8 f3 f4 h2)) (nM (g11_3 c arg11 (odR11 c i arg3 harg3 arg4 harg4 arg5 harg5 arg6 harg6 arg7 harg7 arg8 harg8 arg9 harg9 arg10 harg10 arg11 harg11 arg12 harg12 arg13 harg13 f3 f4 f5)) (g9_3 c arg9 (odR9 c i arg3 harg3 arg4 harg4 arg5 harg5 arg6 harg6 arg7 harg7 arg8 harg8 arg9 harg9 arg10 harg10 arg11 harg11 arg12 harg12 arg13 harg13 f3 f4 f5))) (nL (g7_3 c arg7 (odR7 c i arg3 harg3 arg4 harg4 arg5 harg5 arg6 harg6 arg7 harg7 arg8 harg8 arg9 harg9 arg10 harg10 arg11 harg11 arg12 harg12 arg13 harg13 f3 f4 f5)) (g11_3 c arg11 (odR11 c i arg3 harg3 arg4 harg4 arg5 harg5 arg6 harg6 arg7 harg7 arg8 harg8 arg9 harg9 arg10 harg10 arg11 harg11 arg12 harg12 arg13 harg13 f3 f4 f5)) (g9_3 c arg9 (odR9 c i arg3 harg3 arg4 harg4 arg5 harg5 arg6 harg6 arg7 harg7 arg8 harg8 arg9 harg9 arg10 harg10 arg11 harg11 arg12 harg12 arg13 harg13 f3 f4 f5)) (g12_3 c arg12 (odR12 c i arg3 harg3 arg4 harg4 arg5 harg5 arg6 harg6 arg7 harg7 arg8 harg8 arg9 harg9 arg10 harg10 arg11 harg11 arg12 harg12 arg13 harg13 f3 f4 f5)))) (ix3 0 q d)
      = Ideal.div (ra (Sm Kk Q b (768 + q.val)) (fun u => V u d) 16384) (rl (Sm Kk Q b (768 + q.val)) 16384) := by
  have ht := trips_eq i
  have he := odd_of i h2
  have hi : (i 2).val < 16 := (i 2).isLt
  have hn : 2 * (k0_t1_loop i).trips = b - 1 := by omega
  have hb1 : b - 1 + 1 = b := by omega
  rw [odR7_eq, odR9_eq, odR11_eq, odR12_eq, odR13_eq]
  have H := od_inv c i arg3 harg3 arg4 harg4 arg5 harg5 arg6 harg6 arg7 harg7 arg8 harg8 arg9 harg9 arg10 harg10 arg11 harg11 arg12 harg12 arg13 harg13 Kk Q V f3 f4 f5 hK hQ hV b hb q
  rw [hn] at H
  have A := col3_step Kk Q V (by omega) q _ _ _ _ _ (VP c i arg5 f5 h2) H.2.2.2
    fun d κ => vb1024_at (c := c) (hV := hV) (h := off12_eq i h2) (hj := by omega) (d := d) (κ := κ) |>.trans (by rw [hb])
  rw [hb1] at A
  refine diag3 (Sm Kk Q b (768 + q.val)) V (1024 * b) q _ _ _ A.1 A.2.1 A.2.2 _ _ (fun κ => ?_)
    (fun d κ => vb1024_at (c := c) (hV := hV) (h := off16_eq i) (hj := hi) (d := d) (κ := κ) |>.trans (by rw [hb])) (fun u hu => if_neg (by have := q.2; omega)) (by omega) d
  unfold mk Sm
  by_cases h : κ.val ≤ q.val + 256 * 3
  · rw [if_pos h, if_pos (by omega)]
    refine (od_rd3 c arg8 _ κ q).trans ((congrFun (od8_3 c i arg3 arg4 arg8 f3 f4 h2) _).trans ?_)
    exact (sc3_at (c := c) (hK := hK) (hQ := hQ) (h := off11_eq i) (hj := hi) (q := q) (κ := _)).trans (by rw [hb])
  · rw [if_neg h, if_neg (by omega)]

include hK hQ hV in
theorem od_read (h1 : ¬ k0_cond1 i = 1#1) (h2 : k0_cond2 i = 1#1) (b : ℕ) (hb : (i 2).val = b) {sig' : RefSig} {κ' : Kind} {sp' : Space} (v : View sig' κ' sp' S1x1024x128 .f32)
    (f : v.ty.Contents (Elt Ideal)) (T : Fin 1024) (d : Fin 128) :
    v.read (Elt Ideal) (v.writes (Elt Ideal) f (bodyRunOdd (F := Ideal) c i arg3 harg3 arg4 harg4 arg5 harg5 arg6 harg6 arg7 harg7 arg8 harg8 arg9 harg9 arg10 harg10 arg11 harg11 arg12 harg12 arg13 harg13 h1 h2 f3 f4 f5).1) (ix3 0 T d)
      = Ideal.div (ra (Sm Kk Q b T.val) (fun u => V u d) 16384) (rl (Sm Kk Q b T.val) 16384) := by
  rw [od_pieces]
  exact four_read v f _ _ _ _ (fun T d => Ideal.div (ra (Sm Kk Q b T) (fun u => V u d) 16384) (rl (Sm Kk Q b T) 16384))
    (fun q d => od_out3 c i arg3 harg3 arg4 harg4 arg5 harg5 arg6 harg6 arg7 harg7 arg8 harg8 arg9 harg9 arg10 harg10 arg11 harg11 arg12 harg12 arg13 harg13 Kk Q V f3 f4 f5 hK hQ hV h2 b hb q d) (fun q d => od_out2 c i arg3 harg3 arg4 harg4 arg5 harg5 arg6 harg6 arg7 harg7 arg8 harg8 arg9 harg9 arg10 harg10 arg11 harg11 arg12 harg12 arg13 harg13 Kk Q V f3 f4 f5 hK hQ hV h2 b hb q d)
    (fun q d => od_out1 c i arg3 harg3 arg4 harg4 arg5 harg5 arg6 harg6 arg7 harg7 arg8 harg8 arg9 harg9 arg10 harg10 arg11 harg11 arg12 harg12 arg13 harg13 Kk Q V f3 f4 f5 hK hQ hV h2 b hb q d)
    (fun q d => (od_out0 c i arg3 harg3 arg4 harg4 arg5 harg5 arg6 harg6 arg7 harg7 arg8 harg8 arg9 harg9 arg10 harg10 arg11 harg11 arg12 harg12 arg13 harg13 Kk Q V f3 f4 f5 hK hQ hV h2 b hb q d)) T d

end Cert.FoxIdeal.Body

end
-- ==== Proof.FoxScore.lean ====
/- The scores as the kernel's host code arranges them: 128 products, and 128 further lanes that carry the forget gates. -/
module

public import proofs.«01_k».proof.Proof.FoxMath

@[expose] public section

set_option maxRecDepth 16384

noncomputable section

namespace Cert.FoxMath

open Idealize.ShloMosaic

/-- The query's further lanes: the three parts of its gate, then three ones. -/
def qlane (x : EReal) (e : ℕ) : EReal :=
  if e = 0 then x else if e = 1 then x - x else if e = 2 then (x - x) - (x - x) else if e < 6 then 1 else 0

/-- The key's further lanes: three ones, then the three parts of its gate negated. -/
def klane (y : EReal) (e : ℕ) : EReal :=
  if e < 3 then 1 else if e = 3 then -y else if e = 4 then -(y - y) else if e = 5 then -((y - y) - (y - y)) else 0

theorem lanes (x y : EReal) : ∑ e : Fin 128, klane y e.val * qlane x e.val = parts x + nparts y := by
  rw [Fin.sum_univ_eq_sum_range (fun e => klane y e * qlane x e) 128, show 128 = 6 + 122 from rfl, Finset.sum_range_add,
    Finset.sum_eq_zero (s := Finset.range 122)]
  · simp only [Finset.sum_range_succ, Finset.sum_range_zero, klane, qlane, parts, nparts]
    norm_num
    simp only [add_assoc]
  · intro e _
    have : klane y (6 + e) = 0 := by
      unfold klane
      rw [if_neg (by omega), if_neg (by omega), if_neg (by omega), if_neg (by omega)]
    rw [this, zero_mul]

/-- The 256 products of a query's row and a key's. -/
theorem score_sum (q k : Fin 128 → EReal) (s cq ck : EReal) (Q K : Fin 256 → EReal)
    (hq1 : ∀ d : Fin 128, Q (Fin.castAdd 128 d) = q d * (s * (lg : ℝ))) (hq2 : ∀ d : Fin 128, Q (Fin.natAdd 128 d) = qlane (cq * (lg : ℝ)) d.val)
    (hk1 : ∀ d : Fin 128, K (Fin.castAdd 128 d) = k d) (hk2 : ∀ d : Fin 128, K (Fin.natAdd 128 d) = klane (ck * (lg : ℝ)) d.val) :
    ∑ d, K d * Q d = (lg : ℝ) * (∑ d, q d * s * k d) + (parts (cq * (lg : ℝ)) + nparts (ck * (lg : ℝ))) := by
  refine (Fin.sum_univ_add (a := 128) (b := 128) (fun d : Fin (128 + 128) => K d * Q d)).trans ?_
  simp only [hq1, hq2, hk1, hk2]
  rw [lanes, mul_comm _ (∑ d, q d * s * k d), sum_mul_real _ _ lg_pos.le]
  congr 1
  exact Finset.sum_congr rfl fun d _ => by ac_rfl

theorem rm_fin (S : ℕ → EReal) (n : ℕ) : rm S n = Finset.univ.sup fun u : Fin n => S u.val := by
  have h := rm_add S 0 n (fun u : Fin n => S u.val) fun k => by rw [Nat.zero_add]
  rw [Nat.zero_add, rm_zero] at h
  rw [← h]; simp

/-- The quotient the kernel leaves is the one the reference takes. -/
theorem quot (n : ℕ) (S V : ℕ → EReal) (s v : Fin n → EReal) (h : SameRow (fun u : Fin n => S u.val) s) (hv : ∀ u : Fin n, V u.val = v u) :
    Ideal.div (ra S V n) (rl S n) = Ideal.div (∑ u, w1 (s u) (Finset.univ.sup s) * v u) (∑ u, w1 (s u) (Finset.univ.sup s)) := by
  have e : ∀ u : Fin n, w2 (S u.val) (rm S n) = w1 (s u) (Finset.univ.sup s) := fun u => by
    rw [rm_fin]; exact h.weight Finset.univ (Finset.mem_univ u)
  unfold ra rl
  rw [Finset.sum_range, Finset.sum_range]
  simp only [e, hv]
  congr 1
  exact Finset.sum_congr rfl fun u _ => mul_comm _ _

/-- The scale of the exponents' base, as the host computes it. -/
theorem lg_host : Ideal.div 1 (Ideal.log 2) = ((lg : ℝ) : EReal) := by
  have h : Ideal.log 2 = ((Real.log 2 : ℝ) : EReal) := by
    show Ideal.log ((2 : ℝ) : EReal) = _
    rw [Ideal.log_coe, if_neg (by norm_num)]
  rw [h, Ideal.div, if_neg (by exact_mod_cast log2_pos.ne'), one_mul, ← EReal.coe_inv]

end Cert.FoxMath

end
-- ==== Proof.FoxHost.lean ====
/- The operands the attention kernel's host code prepares, read at an index: the queries with their further lanes, the keys with theirs, and the values. -/
module

public import proofs.«01_k».proof.Proof.Gen.FoxIdeal.Frame
public import proofs.«01_k».proof.Proof.FoxScore
public import Idealize.ShloMosaic.Lib.Claim
public import Idealize.ShloMosaic.Lib.Pipeline.ValueKit
public import Idealize.ShloMosaic.Lib.Pointwise
public import Idealize.ShloMosaic.Lib.StableHlo.RunRead

@[expose] public section

set_option maxRecDepth 16384
noncomputable section
namespace Cert.FoxIdeal.Body
open Cert.FoxIdeal Cert.FoxIdeal.Gen Idealize.ShloMosaic Idealize.ShloMosaic.TcCoe Idealize.SL.Sem Cert.FoxMath
open Idealize.ShloMosaic.Pipeline (Dat)
variable (m : (ℓ : Loc nD τ sig) → Buf (Elt Ideal) ℓ)

/-- The block each window takes at a grid point. -/
theorem idx : ∀ t : Fin cfg0.N, win0_0.index t = ![t.val / 64, t.val / 16 % 4, t.val % 16, 0, 0] ∧ win0_1.index t = ![t.val / 64, t.val / 16 % 4, 0, 0, 0]
    ∧ win0_2.index t = ![t.val / 64, t.val / 16 % 4, 0, 0, 0] ∧ win0_3.index t = ![t.val / 64, t.val % 16, t.val / 16 % 4] ∧ (grid0.coords t 2).val = t.val % 16 ∧ t.val < 128 :=
  (by decide +kernel : ∀ t : Fin grid0.N, _)

theorem pt_lt (t : Fin cfg0.N) : t.val < 128 := (idx t).2.2.2.2.2

theorem emb0 (t : Fin cfg0.N) (r : Fin 1024) (d : Fin 256) : (win0_0.blk t).view.emb (ix5 0 0 0 r d)
    = ix5 ⟨t.val / 64, by have := pt_lt t; omega⟩ ⟨t.val / 16 % 4, by omega⟩ ⟨t.val % 16, by omega⟩ r d := by
  have h := (idx t).1
  refine funext fun (a : Fin 5) => Fin.ext ?_
  refine (win0_0.rect_emb_val t (ix5 0 0 0 r d) a).trans ?_
  rw [h]
  match a with
  | ⟨0, _⟩ => show t.val / 64 * 1 + 0 = t.val / 64; omega
  | ⟨1, _⟩ => show (t.val / 16 % 4) * 1 + 0 = t.val / 16 % 4; omega
  | ⟨2, _⟩ => show (t.val % 16) * 1 + 0 = t.val % 16; omega
  | ⟨3, _⟩ => show 0 * 1024 + r.val = r.val; omega
  | ⟨4, _⟩ => show 0 * 256 + d.val = d.val; omega

theorem emb1 (t : Fin cfg0.N) (j : Fin 16) (r : Fin 1024) (d : Fin 256) : (win0_1.blk t).view.emb (ix5 0 0 j r d)
    = ix5 ⟨t.val / 64, by have := pt_lt t; omega⟩ ⟨t.val / 16 % 4, by omega⟩ j r d := by
  have h := (idx t).2.1
  refine funext fun (a : Fin 5) => Fin.ext ?_
  refine (win0_1.rect_emb_val t (ix5 0 0 j r d) a).trans ?_
  rw [h]
  match a with
  | ⟨0, _⟩ => show t.val / 64 * 1 + 0 = t.val / 64; omega
  | ⟨1, _⟩ => show (t.val / 16 % 4) * 1 + 0 = t.val / 16 % 4; omega
  | ⟨2, _⟩ => show 0 * 16 + j.val = j.val; omega
  | ⟨3, _⟩ => show 0 * 1024 + r.val = r.val; omega
  | ⟨4, _⟩ => show 0 * 256 + d.val = d.val; omega

theorem emb2 (t : Fin cfg0.N) (j : Fin 16) (d : Fin 128) (r : Fin 1024) : (win0_2.blk t).view.emb (ix5 0 0 j d r)
    = ix5 ⟨t.val / 64, by have := pt_lt t; omega⟩ ⟨t.val / 16 % 4, by omega⟩ j d r := by
  have h := (idx t).2.2.1
  refine funext fun (a : Fin 5) => Fin.ext ?_
  refine (win0_2.rect_emb_val t (ix5 0 0 j d r) a).trans ?_
  rw [h]
  match a with
  | ⟨0, _⟩ => show t.val / 64 * 1 + 0 = t.val / 64; omega
  | ⟨1, _⟩ => show (t.val / 16 % 4) * 1 + 0 = t.val / 16 % 4; omega
  | ⟨2, _⟩ => show 0 * 16 + j.val = j.val; omega
  | ⟨3, _⟩ => show 0 * 128 + d.val = d.val; omega
  | ⟨4, _⟩ => show 0 * 1024 + r.val = r.val; omega

/-- The float pattern of two. -/
theorem ofBits_two : Ideal.ofBits .f32 0x40000000#32 = (2 : EReal) := by
  rw [show (2 : EReal) = ((2 : ℝ) : EReal) by norm_cast]
  simp [Ideal.ofBits, Ideal.ieee, -EReal.coe_mul]; norm_num

theorem sel_if {α : Type} (p : Prop) [Decidable p] (a b : α) : Scalar.select (if p then 1#1 else 0#1) a b = if p then a else b := by
  split <;> rfl

theorem eq0 : ∀ e : Fin 128, IntOp.cmpi CmpIPredicate.eq (BitVec.ofNat 32 e.val) 0#32 = if e.val = 0 then 1#1 else 0#1 := by decide +kernel
theorem eq1 : ∀ e : Fin 128, IntOp.cmpi CmpIPredicate.eq (BitVec.ofNat 32 e.val) 1#32 = if e.val = 1 then 1#1 else 0#1 := by decide +kernel
theorem eq2 : ∀ e : Fin 128, IntOp.cmpi CmpIPredicate.eq (BitVec.ofNat 32 e.val) 2#32 = if e.val = 2 then 1#1 else 0#1 := by decide +kernel
theorem eq3 : ∀ e : Fin 128, IntOp.cmpi CmpIPredicate.eq (BitVec.ofNat 32 e.val) 3#32 = if e.val = 3 then 1#1 else 0#1 := by decide +kernel
theorem eq4 : ∀ e : Fin 128, IntOp.cmpi CmpIPredicate.eq (BitVec.ofNat 32 e.val) 4#32 = if e.val = 4 then 1#1 else 0#1 := by decide +kernel
theorem eq5 : ∀ e : Fin 128, IntOp.cmpi CmpIPredicate.eq (BitVec.ofNat 32 e.val) 5#32 = if e.val = 5 then 1#1 else 0#1 := by decide +kernel
theorem lt3 : ∀ e : Fin 128, IntOp.cmpi CmpIPredicate.slt (BitVec.ofNat 32 e.val) 3#32 = if e.val < 3 then 1#1 else 0#1 := by decide +kernel
theorem lt6 : ∀ e : Fin 128, IntOp.cmpi CmpIPredicate.slt (BitVec.ofNat 32 e.val) 6#32 = if e.val < 6 then 1#1 else 0#1 := by decide +kernel

/-- A gate times the scale of the exponents' base. -/
def gx (c : Dev nD) (b : Fin 2) (t : Fin 16384) (h : Fin 4) : EReal :=
  HMul.hMul (α := EReal) (β := EReal) (γ := EReal) (m ((c : Thread nD τ).loc main_arg3) (ix3 b t h)) ((lg : ℝ) : EReal)

theorem v58_at (c : Dev nD) (b : Fin 2) (h : Fin 4) (j : Fin 16) (d : Fin 128) (κ : Fin 1024) : V m c main_v58 (ix5 b h j d κ)
    = m ((c : Thread nD τ).loc main_arg2) (ix4 b ⟨1024 * j.val + κ.val, by omega⟩ h d) := by
  simp only [V]
  after_reads_simp
  pointwise
  simp only [Nat.mul_comm]

theorem v30_at (c : Dev nD) (b : Fin 2) (h : Fin 4) (t : Fin 16384) (e : Fin 128) : V m c main_v30 (ix4 b h t e) = qlane (gx m c b t h) e.val := by
  simp only [V]
  after_reads_simp
  simp only [StableHlo.TRef.toBuf, StableHlo.TRef.ofBuf, cast_eq, id]
  pointwise
  rw [ofBits_two, lg_host, eq0, eq1, eq2, lt6]
  simp only [sel_if]
  rfl

theorem v46_at (c : Dev nD) (b : Fin 2) (h : Fin 4) (t : Fin 16384) (e : Fin 128) : V m c main_v46 (ix4 b h t e) = klane (gx m c b t h) e.val := by
  simp only [V]
  after_reads_simp
  simp only [StableHlo.TRef.toBuf, StableHlo.TRef.ofBuf, cast_eq, id]
  pointwise
  rw [ofBits_two, lg_host, lt3, eq3, eq4, eq5]
  simp only [sel_if]
  rfl

theorem v53_at (c : Dev nD) (b : Fin 2) (h : Fin 4) (t : Fin 16384) (e : Fin 128) : V m c main_v53 (ix4 b h t e) = m ((c : Thread nD τ).loc main_arg1) (ix4 b t h e) := by
  simp only [V]
  after_reads_simp
  pointwise

theorem v51_at (c : Dev nD) (b : Fin 2) (h : Fin 4) (t : Fin 16384) (e : Fin 128) : V m c main_v51 (ix4 b h t e)
    = HMul.hMul (α := EReal) (β := EReal) (γ := EReal) (m ((c : Thread nD τ).loc main_arg0) (ix4 b t h e)) (Ideal.ofBits FTy.f32 0x3DB504F3#32 * ((lg : ℝ) : EReal)) := by
  simp only [V]
  after_reads_simp
  pointwise
  rw [ofBits_two, lg_host]

/-- Two arrays side by side along the last axis. -/
def cat (a b : FVec Ideal S2x4x16384x128 .bf16) : FVec Ideal S2x4x16384x256 .bf16 :=
  concatenate S2x4x16384x256 3 [⟨S2x4x16384x128, a⟩, ⟨S2x4x16384x128, b⟩] concatenates_S2x4x16384x128_S2x4x16384x128_S2x4x16384x256_d3

theorem cat_at (a b : FVec Ideal S2x4x16384x128 .bf16) (n : Fin 2) (h : Fin 4) (i : Fin 16) (r : Fin 1024) (d : Fin 256) :
    shapeCast S2x4x16x1024x256 (cat a b) shapeCasts_S2x4x16384x256_S2x4x16x1024x256 (ix5 n h i r d)
      = if hd : d.val < 128 then a (ix4 n h ⟨1024 * i.val + r.val, by omega⟩ ⟨d.val, hd⟩) else b (ix4 n h ⟨1024 * i.val + r.val, by omega⟩ ⟨d.val - 128, by omega⟩) := by
  unfold cat
  pointwise
  simp only [Nat.mul_comm]

theorem aft_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- What the host has computed before its last stretch of operations. -/
def W (c : Dev nD) : Valuation τ sig (Elt Ideal) :=
  StableHlo.after (List.flatten [hostOps0, hostOps0_1, hostOps0_2, hostOps0_3, hostOps0_4, hostOps0_5, hostOps0_6, hostOps0_7, hostOps0_8, hostOps0_9, hostOps0_10]) (fun b => m (c, b))

theorem V_split (c : Dev nD) (b : Ref sig .tc) : V m c b = StableHlo.after hostOps0_11 (W m c) (Proc.devRef .tc b) := by
  have e : List.flatten [hostOps0 (F := Ideal), hostOps0_1, hostOps0_2, hostOps0_3, hostOps0_4, hostOps0_5, hostOps0_6, hostOps0_7, hostOps0_8, hostOps0_9, hostOps0_10, hostOps0_11]
      = List.flatten [hostOps0 (F := Ideal), hostOps0_1, hostOps0_2, hostOps0_3, hostOps0_4, hostOps0_5, hostOps0_6, hostOps0_7, hostOps0_8, hostOps0_9, hostOps0_10] ++ hostOps0_11 :=
    (List.flatten_append (L₁ := [hostOps0 (F := Ideal), hostOps0_1, hostOps0_2, hostOps0_3, hostOps0_4, hostOps0_5, hostOps0_6, hostOps0_7, hostOps0_8, hostOps0_9, hostOps0_10]) (L₂ := [hostOps0_11])).trans
      (congrArg _ (List.append_nil _))
  unfold V W
  rw [e, aft_append]

theorem c59 (U : Valuation τ sig (Elt Ideal)) : StableHlo.after hostOps0_11 U (Proc.devRef .tc main_v59)
    = shapeCast S2x4x16x1024x256 (cat (StableHlo.after hostOps0_11 U (Proc.devRef .tc main_v51)) (StableHlo.after hostOps0_11 U (Proc.devRef .tc main_v30))) shapeCasts_S2x4x16384x256_S2x4x16x1024x256 := by
  after_reads_simp
  rfl

theorem c60 (U : Valuation τ sig (Elt Ideal)) : StableHlo.after hostOps0_11 U (Proc.devRef .tc main_v60)
    = shapeCast S2x4x16x1024x256 (cat (StableHlo.after hostOps0_11 U (Proc.devRef .tc main_v53)) (StableHlo.after hostOps0_11 U (Proc.devRef .tc main_v46))) shapeCasts_S2x4x16384x256_S2x4x16x1024x256 := by
  after_reads_simp
  rfl

theorem v59_eq (c : Dev nD) : V m c main_v59 = shapeCast S2x4x16x1024x256 (cat (V m c main_v51) (V m c main_v30)) shapeCasts_S2x4x16384x256_S2x4x16x1024x256 := by
  rw [V_split, V_split, V_split]; exact c59 _

theorem v60_eq (c : Dev nD) : V m c main_v60 = shapeCast S2x4x16x1024x256 (cat (V m c main_v53) (V m c main_v46)) shapeCasts_S2x4x16384x256_S2x4x16x1024x256 := by
  rw [V_split, V_split, V_split]; exact c60 _

theorem rdQ (f : main_v59.ty.Contents (Elt Ideal)) (t : Fin cfg0.N) (r : Fin 1024) (d : Fin 256) : (win0_0.blk t).view.read (Elt Ideal) f (ix5 0 0 0 r d)
    = f (ix5 ⟨t.val / 64, by have := pt_lt t; omega⟩ ⟨t.val / 16 % 4, by omega⟩ ⟨t.val % 16, by omega⟩ r d) :=
  congrArg f (emb0 t r d)

theorem blkQw (c : Dev nD) (t : Fin cfg0.N) (r : Fin 1024) (d : Fin 256) : iblk m c 0 t (ix5 0 0 0 r d)
    = V m c main_v59 (ix5 ⟨t.val / 64, by have := pt_lt t; omega⟩ ⟨t.val / 16 % 4, by omega⟩ ⟨t.val % 16, by omega⟩ r d) := by
  unfold iblk
  exact rdQ (V m c main_v59) t r d

theorem rdK (f : main_v60.ty.Contents (Elt Ideal)) (t : Fin cfg0.N) (j : Fin 16) (κ : Fin 1024) (d : Fin 256) : (win0_1.blk t).view.read (Elt Ideal) f (ix5 0 0 j κ d)
    = f (ix5 ⟨t.val / 64, by have := pt_lt t; omega⟩ ⟨t.val / 16 % 4, by omega⟩ j κ d) :=
  congrArg f (emb1 t j κ d)

theorem blkKw (c : Dev nD) (t : Fin cfg0.N) (j : Fin 16) (κ : Fin 1024) (d : Fin 256) : iblk m c 1 t (ix5 0 0 j κ d)
    = V m c main_v60 (ix5 ⟨t.val / 64, by have := pt_lt t; omega⟩ ⟨t.val / 16 % 4, by omega⟩ j κ d) := by
  unfold iblk
  exact rdK (V m c main_v60) t j κ d

theorem rdV (f : main_v58.ty.Contents (Elt Ideal)) (t : Fin cfg0.N) (j : Fin 16) (d : Fin 128) (κ : Fin 1024) : (win0_2.blk t).view.read (Elt Ideal) f (ix5 0 0 j d κ)
    = f (ix5 ⟨t.val / 64, by have := pt_lt t; omega⟩ ⟨t.val / 16 % 4, by omega⟩ j d κ) :=
  congrArg f (emb2 t j d κ)

theorem blkVw (c : Dev nD) (t : Fin cfg0.N) (j : Fin 16) (d : Fin 128) (κ : Fin 1024) : iblk m c 2 t (ix5 0 0 j d κ)
    = V m c main_v58 (ix5 ⟨t.val / 64, by have := pt_lt t; omega⟩ ⟨t.val / 16 % 4, by omega⟩ j d κ) := by
  unfold iblk
  exact rdV (V m c main_v58) t j d κ

end Cert.FoxIdeal.Body

end
-- ==== Proof.FoxRefRows.lean ====
/- The forgetting attention's reference, read at an index. -/
module

public import proofs.«01_k».proof.Proof.Gen.FoxRefIdeal.Read
public import proofs.«01_k».proof.Proof.FoxMath
public import Idealize.ShloMosaic.Lib.Pointwise

@[expose] public section

set_option maxRecDepth 16384

noncomputable section

namespace Cert.FoxRefIdeal.Read

open Cert.FoxRefIdeal Cert.FoxRefIdeal.Gen Idealize.ShloMosaic Cert.FoxMath

variable (x0 x1 x2 : FVec Ideal S2x16384x4x128 .f32) (x3 : FVec Ideal S2x16384x4 .f32)

/-- The product of the scaled query at `t` and the key at `u`. -/
def prod (b : Fin 2) (h : Fin 4) (t u : Fin 16384) : EReal :=
  ∑ d : Fin 128, x0 (ix4 b t h d) * Ideal.ofBits FTy.f32 0x3DB504F3#32 * x1 (ix4 b u h d)

/-- The score of the key at `u` for the query at `t`. -/
def score (b : Fin 2) (h : Fin 4) (t u : Fin 16384) : EReal :=
  if u.val ≤ t.val then prod x0 x1 b h t u + x3 (ix3 b t h) - x3 (ix3 b u h) else ⊥

theorem v9_at (b : Fin 2) (h : Fin 4) (t u : Fin 16384) : val_main_v9 (F := Ideal) x0 x1 x3 (ix4 b h t u)
    = prod x0 x1 b h t u + x3 (ix3 b t h) - x3 (ix3 b u h) := by
  pointwise [val_main_v9, val_main_v8, val_main_v7, val_main_v6, val_main_v5, val_main_v4, val_main_v3, val_main_v2, val_main_v1, val_main_v0, val_main_cst, prod]

theorem pick {a b : ℕ} (ha : a < 16384) (hb : b < 16384) (x y : EReal) :
    Scalar.select (IntOp.cmpi CmpIPredicate.sle (BitVec.ofNat 32 a) (BitVec.ofNat 32 b)) x y = if a ≤ b then x else y := by
  have e : IntOp.cmpi CmpIPredicate.sle (BitVec.ofNat 32 a) (BitVec.ofNat 32 b) = if a ≤ b then 1#1 else 0#1 := by
    have h : (BitVec.ofNat 32 a).sle (BitVec.ofNat 32 b) = decide (a ≤ b) := by
      have h1 : (BitVec.ofNat 32 a).toNat = a := by simp; omega
      have h2 : (BitVec.ofNat 32 b).toNat = b := by simp; omega
      rw [BitVec.sle_eq_decide, BitVec.toInt_eq_toNat_of_lt (by omega), BitVec.toInt_eq_toNat_of_lt (by omega), h1, h2]
      simp
    show BitVec.ofBool ((BitVec.ofNat 32 a).sle (BitVec.ofNat 32 b)) = _
    rw [h]; by_cases q : a ≤ b <;> simp [q]
  rw [e]; by_cases q : a ≤ b <;> simp [q, Scalar.select]

theorem v13_at (b : Fin 2) (h : Fin 4) (t u : Fin 16384) : val_main_v13 (F := Ideal) x0 x1 x3 (ix4 b h t u) = score x0 x1 x3 b h t u := by
  rw [val_main_v13_apply, v9_at, val_main_v12_apply, val_main_v11_apply, val_main_v10_apply, val_main_call0_v1_apply,
    val_main_call0_v0_apply, val_main_cst_0_apply]
  exact pick u.2 t.2 _ _

theorem v14_at (b : Fin 2) (h : Fin 4) (t : Fin 16384) : val_main_v14 (F := Ideal) x0 x1 x3 (ix3 b h t)
    = Finset.univ.sup (score x0 x1 x3 b h t) := by
  have e : val_main_v14 (F := Ideal) x0 x1 x3 (ix3 b h t)
      = Finset.fold max (Ideal.ofBits FTy.f32 4286578688#32) (fun u => val_main_v13 (F := Ideal) x0 x1 x3 (ix4 b h t u)) Finset.univ := by
    pointwise [val_main_v14, val_main_cst_1]
  rw [e]; simp only [v13_at]; rfl

theorem v18_at (b : Fin 2) (h : Fin 4) (t u : Fin 16384) : val_main_v18 (F := Ideal) x0 x1 x3 (ix4 b h t u)
    = w1 (score x0 x1 x3 b h t u) (Finset.univ.sup (score x0 x1 x3 b h t)) := by
  rw [← v13_at, ← v14_at]
  pointwise [val_main_v18, val_main_v17, val_main_v16, val_main_v15, w1]

theorem v19_at (b : Fin 2) (h : Fin 4) (t : Fin 16384) : val_main_v19 (F := Ideal) x0 x1 x3 (ix3 b h t)
    = ∑ u, w1 (score x0 x1 x3 b h t u) (Finset.univ.sup (score x0 x1 x3 b h t)) := by
  simp only [← v18_at]
  pointwise [val_main_v19, val_main_cst_2]

theorem v20_at (b : Fin 2) (h : Fin 4) (t : Fin 16384) (d : Fin 128) : val_main_v20 (F := Ideal) x0 x1 x2 x3 (ix4 b h t d)
    = ∑ u, w1 (score x0 x1 x3 b h t u) (Finset.univ.sup (score x0 x1 x3 b h t)) * x2 (ix4 b u h d) := by
  simp only [← v18_at]
  pointwise [val_main_v20]

/-- The result: the values averaged by the weights of their scores. -/
theorem v25_at (b : Fin 2) (t : Fin 16384) (j : Fin 512) : val_main_v25 (F := Ideal) x0 x1 x2 x3 (ix3 b t j)
    = Ideal.div
        (∑ u, w1 (score x0 x1 x3 b ⟨j.val / 128, by omega⟩ t u) (Finset.univ.sup (score x0 x1 x3 b ⟨j.val / 128, by omega⟩ t)) * x2 (ix4 b u ⟨j.val / 128, by omega⟩ ⟨j.val % 128, by omega⟩))
        (∑ u, w1 (score x0 x1 x3 b ⟨j.val / 128, by omega⟩ t u) (Finset.univ.sup (score x0 x1 x3 b ⟨j.val / 128, by omega⟩ t))) := by
  rw [← v20_at, ← v19_at]
  pointwise [val_main_v25, val_main_v24, val_main_v23, val_main_v22, val_main_v21]

end Cert.FoxRefIdeal.Read

end
-- ==== Proof.FoxIdealLaunch.lean ====
module

public import proofs.«01_k».proof.Proof.FoxIdealBody
public import Idealize.ShloMosaic.Lib.Claim

/-! The attention's launch: what the output holds point by point, the proof data, the body's obligation, the run
    and the frame. -/

@[expose] public section

set_option maxRecDepth 16384

noncomputable section

namespace Cert.FoxIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FoxIdeal.Gen

variable {F : FTy → Type} [FloatOps F]

local notation "𝕄" => MT nD τ sig Unit (Elt F) ℕ (UR sig nD τ) ℕ

section Out

variable (c : Dev nD) (i : grid0.Coords) (arg3 : Memref sig .tc .vmem S1x1x1x1024x256 .bf16) (harg3 : arg3.IsWhole) (arg4 : Memref sig .tc .vmem S1x1x16x1024x256 .bf16) (harg4 : arg4.IsWhole) (arg5 : Memref sig .tc .vmem S1x1x16x128x1024 .bf16) (harg5 : arg5.IsWhole) (arg6 : Memref sig .tc .vmem S1x1024x128 .f32) (harg6 : arg6.IsWhole) (arg7 : Memref sig .tc .vmem S4x1024x256 .f32) (harg7 : arg7.IsWhole) (arg8 : Memref sig .tc .vmem S4x1024x256 .f32) (harg8 : arg8.IsWhole) (arg9 : Memref sig .tc .vmem S4x1x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x1x256 .f32) (harg12 : arg12.IsWhole) (arg13 : Memref sig .tc .vmem S4x128x256 .f32) (harg13 : arg13.IsWhole)

/-- Each query block is of even number or of odd number, and the two branches tell which. -/
theorem parity : ∀ i : grid0.Coords, (k0_cond1 i = 1#1 ∧ ¬ k0_cond2 i = 1#1) ∨ (¬ k0_cond1 i = 1#1 ∧ k0_cond2 i = 1#1) := by
  decide +kernel

/-- The pieces the body stores into the output. -/
def pieces (f3 : Buf (Elt F) (arg3.view.loc (c : Thread nD τ))) (f4 : Buf (Elt F) (arg4.view.loc (c : Thread nD τ))) (f5 : Buf (Elt F) (arg5.view.loc (c : Thread nD τ))) : List (View.Piece (Elt F) S1x1024x128 .f32) :=
  if h : k0_cond1 i = 1#1 then
    (bodyRunEven c i arg3 harg3 arg4 harg4 arg5 harg5 arg6 harg6 arg7 harg7 arg8 harg8 arg9 harg9 arg10 harg10 arg11 harg11 arg12 harg12 arg13 harg13 h (fun h2 => (parity i).elim (fun q => q.2 h2) (fun q => q.1 h)) f3 f4 f5).1
  else
    (bodyRunOdd c i arg3 harg3 arg4 harg4 arg5 harg5 arg6 harg6 arg7 harg7 arg8 harg8 arg9 harg9 arg10 harg10 arg11 harg11 arg12 harg12 arg13 harg13 h ((parity i).elim (fun q => absurd q.1 h) (fun q => q.2)) f3 f4 f5).1

/-- The whole body at any point. -/
theorem bodyRun (f3 : Buf (Elt F) (arg3.view.loc (c : Thread nD τ))) (f4 : Buf (Elt F) (arg4.view.loc (c : Thread nD τ))) (f5 : Buf (Elt F) (arg5.view.loc (c : Thread nD τ))) (K : PUnit → sProp 𝕄) :
    iprop(at_ c arg3 f3 ∗ at_ c arg4 f4 ∗ at_ c arg5 f5 ∗ (∃ f, at_ c arg6 f) ∗ (∃ f, at_ c arg7 f) ∗ (∃ f, at_ c arg8 f) ∗ (∃ f, at_ c arg9 f) ∗ (∃ f, at_ c arg10 f) ∗ (∃ f, at_ c arg11 f) ∗ (∃ f, at_ c arg12 f) ∗ (∃ f, at_ c arg13 f)
          ∗ (iprop(at_ c arg3 f3 ∗ at_ c arg4 f4 ∗ at_ c arg5 f5 ∗ (∃ f, at_ c arg6 (arg6.view.writes (Elt F) f (pieces c i arg3 harg3 arg4 harg4 arg5 harg5 arg6 harg6 arg7 harg7 arg8 harg8 arg9 harg9 arg10 harg10 arg11 harg11 arg12 harg12 arg13 harg13 f3 f4 f5))) ∗ (∃ f, at_ c arg7 f) ∗ (∃ f, at_ c arg8 f) ∗ (∃ f, at_ c arg9 f) ∗ (∃ f, at_ c arg10 f) ∗ (∃ f, at_ c arg11 f) ∗ (∃ f, at_ c arg12 f) ∗ (∃ f, at_ c arg13 f)) -∗ K ⟨⟩))
        ⊢ wp frame (wpE (defs₀ (F := F)) Variants.none (c : Thread nD τ) none) Set.univ (cc0_fox (F := F) i arg3 harg3 arg4 harg4 arg5 harg5 arg6 harg6 arg7 harg7 arg8 harg8 arg9 harg9 arg10 harg10 arg11 harg11 arg12 harg12 arg13 harg13) K := by
  unfold pieces
  by_cases h : k0_cond1 i = 1#1
  · rw [dif_pos h]; exact (bodyRunEven c i arg3 harg3 arg4 harg4 arg5 harg5 arg6 harg6 arg7 harg7 arg8 harg8 arg9 harg9 arg10 harg10 arg11 harg11 arg12 harg12 arg13 harg13 h _ f3 f4 f5).2 K
  · rw [dif_neg h]; exact (bodyRunOdd c i arg3 harg3 arg4 harg4 arg5 harg5 arg6 harg6 arg7 harg7 arg8 harg8 arg9 harg9 arg10 harg10 arg11 harg11 arg12 harg12 arg13 harg13 h _ f3 f4 f5).2 K

/-- The pieces tile the output's block: four groups of 256 queries. -/
theorem pieces_cover (f3 : Buf (Elt F) (arg3.view.loc (c : Thread nD τ))) (f4 : Buf (Elt F) (arg4.view.loc (c : Thread nD τ))) (f5 : Buf (Elt F) (arg5.view.loc (c : Thread nD τ))) (y : S1x1024x128.Idx) :
    ∃ pc ∈ pieces c i arg3 harg3 arg4 harg4 arg5 harg5 arg6 harg6 arg7 harg7 arg8 harg8 arg9 harg9 arg10 harg10 arg11 harg11 arg12 harg12 arg13 harg13 f3 f4 f5, y ∈ pc.1.set := by
  unfold pieces
  by_cases h : k0_cond1 i = 1#1
  · rw [dif_pos h]; exact View.cover_of_tiledL (s := S1x1024x128) _ S1x256x128.size (by sl_kernel_rfl) y
  · rw [dif_neg h]; exact View.cover_of_tiledL (s := S1x1024x128) _ S1x256x128.size (by sl_kernel_rfl) y

end Out

variable (m : (ℓ : Loc nD τ sig) → Buf (Elt F) ℓ) (ρ : Dev nD → PrngReg)

/-- The output's view through its first staging buffer: which one carries a block does not change its contents. -/
abbrev VO : View sig .tc .vmem S1x1024x128 .f32 := (Memref.whole cc0_stg3_0 : Memref sig .tc .vmem S1x1024x128 .f32).view

/-- Window 0's staging buffer at point `t`. -/
abbrev ms0 (t : Fin cfg0.N) : Memref sig .tc .vmem S1x1x1x1024x256 .bf16 := win0_0.stage (cfg0.slots t 0)
abbrev hs0 (t : Fin cfg0.N) : (ms0 t).IsWhole := hstage0_0 ((cfg0.slots t 0).cast nbuf0_0)
/-- Window 1's staging buffer at point `t`. -/
abbrev ms1 (t : Fin cfg0.N) : Memref sig .tc .vmem S1x1x16x1024x256 .bf16 := win0_1.stage (cfg0.slots t 1)
abbrev hs1 (t : Fin cfg0.N) : (ms1 t).IsWhole := hstage0_1 ((cfg0.slots t 1).cast nbuf0_1)
/-- Window 2's staging buffer at point `t`. -/
abbrev ms2 (t : Fin cfg0.N) : Memref sig .tc .vmem S1x1x16x128x1024 .bf16 := win0_2.stage (cfg0.slots t 2)
abbrev hs2 (t : Fin cfg0.N) : (ms2 t).IsWhole := hstage0_2 ((cfg0.slots t 2).cast nbuf0_2)
/-- Window 3's staging buffer at point `t`. -/
abbrev ms3 (t : Fin cfg0.N) : Memref sig .tc .vmem S1x1024x128 .f32 := win0_3.stage (cfg0.slots t 3)
abbrev hs3 (t : Fin cfg0.N) : (ms3 t).IsWhole := hstage0_3 ((cfg0.slots t 3).cast nbuf0_3)

/-- The pieces stored at point `t`, on the point's input blocks. -/
def piecesAt (c : Dev nD) (t : Fin cfg0.N) : List (View.Piece (Elt F) S1x1024x128 .f32) :=
  pieces c (grid0.coords t) (ms0 t) (hs0 t) (ms1 t) (hs1 t) (ms2 t) (hs2 t) (ms3 t) (hs3 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) ((hs0 t).unread (iblk m c 0 t)) ((hs1 t).unread (iblk m c 1 t)) ((hs2 t).unread (iblk m c 2 t))

/-- What the output's block holds after the body at point `t`. -/
def outAt (c : Dev nD) (t : Fin cfg0.N) : Vec F S1x1024x128 .f32 :=
  VO.read (Elt F) (VO.writes (Elt F) VO.junk (piecesAt m c t))

/-- The proof data: each input's buffer left at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is handed besides its windows: the seven scratch buffers at some contents, and the generator. -/
theorem rest_eq (c : Dev nD) :
    (Pipeline.ΦA spec0 c : sProp 𝕄)
      = iprop(((∃ f, at_ c (Memref.whole cc0_scratch0) f) ∗ (∃ f, at_ c (Memref.whole cc0_scratch1) f) ∗ (∃ f, at_ c (Memref.whole cc0_scratch2) f) ∗ (∃ f, at_ c (Memref.whole cc0_scratch3) f) ∗ (∃ f, at_ c (Memref.whole cc0_scratch4) f) ∗ (∃ f, at_ c (Memref.whole cc0_scratch5) f) ∗ (∃ f, at_ c (Memref.whole cc0_scratch6) f)) ∗ (∃ r, prngReg c r)) := by
  unfold Pipeline.ΦA; rw [scopedRest0_eq]
  simp only [at_, Memref.view_whole, View.set_whole]; try rfl

/-- The body's precondition at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)))

/-- Its postcondition. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  rw [show (dats m 0 c).Φ t.castSucc = Pipeline.ΦA spec0 c from rfl, rest_eq]
  unfold owns
  iintro ⟨⟨⟨HS0, HS1, HS2, HS3, HS4, HS5, HS6⟩, Hg⟩, Ho, ⟨%d0, %f0, %e0, H0⟩, ⟨%d1, %f1, %e1, H1⟩, ⟨%d2, %f2, %e2, H2⟩, ⟨%d3, %f3, -, H3⟩⟩
  obtain rfl := (hs0 t).eq_unread e0; obtain rfl := (hs1 t).eq_unread e1; obtain rfl := (hs2 t).eq_unread e2
  iapply (bodyRun c (grid0.coords t) (ms0 t) (hs0 t) (ms1 t) (hs1 t) (ms2 t) (hs2 t) (ms3 t) (hs3 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) ((hs0 t).unread (iblk m c 0 t)) ((hs1 t).unread (iblk m c 1 t)) ((hs2 t).unread (iblk m c 2 t)) _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, ⟨%e3, H3⟩, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]
  · iexists _; isplitr; · ipureintro; exact (hs0 t).read_unread _
    iexact H0
  isplitl [H1]
  · iexists _; isplitr; · ipureintro; exact (hs1 t).read_unread _
    iexact H1
  isplitl [H2]
  · iexists _; isplitr; · ipureintro; exact (hs2 t).read_unread _
    iexact H2
  iexists _; isplitr
  swap; · iexact H3
  ipureintro; exact View.read_writes_of_cover _ _ _ _ _ (pieces_cover c _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, and every semaphore at zero after it. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FoxIdeal.Body

end
-- ==== Proof.FoxFinal.lean ====
/- The forgetting attention: the kernel's result array is the reference's. -/
module

public import proofs.«01_k».proof.Proof.FoxEnd
public import proofs.«01_k».proof.Proof.FoxHost
public import proofs.«01_k».proof.Proof.FoxRefRows
public import proofs.«01_k».proof.Proof.FoxIdealLaunch

@[expose] public section

set_option maxRecDepth 16384

noncomputable section

namespace Cert.FoxIdeal.Body

open Cert.FoxIdeal Cert.FoxIdeal.Gen Idealize.ShloMosaic Idealize.ShloMosaic.TcCoe Idealize.SL.Sem Cert.FoxMath
open Idealize.ShloMosaic.Pipeline (Dat)

variable (m : (ℓ : Loc nD τ sig) → Buf (Elt Ideal) ℓ)

theorem blkV (c : Dev nD) (t : Fin cfg0.N) (j : Fin 16) (d : Fin 128) (κ : Fin 1024) : iblk m c 2 t (ix5 0 0 j d κ)
    = m ((c : Thread nD τ).loc main_arg2) (ix4 ⟨t.val / 64, by have := pt_lt t; omega⟩ ⟨1024 * j.val + κ.val, by omega⟩ ⟨t.val / 16 % 4, by omega⟩ d) := by
  rw [blkVw, v58_at]

theorem blkQ1 (c : Dev nD) (t : Fin cfg0.N) (r : Fin 1024) (d : Fin 128) : iblk m c 0 t (ix5 0 0 0 r (Fin.castAdd 128 d))
    = HMul.hMul (α := EReal) (β := EReal) (γ := EReal) (m ((c : Thread nD τ).loc main_arg0) (ix4 ⟨t.val / 64, by have := pt_lt t; omega⟩ ⟨1024 * (t.val % 16) + r.val, by omega⟩ ⟨t.val / 16 % 4, by omega⟩ d)) (Ideal.ofBits FTy.f32 0x3DB504F3#32 * ((lg : ℝ) : EReal)) := by
  rw [blkQw, v59_eq, cat_at, dif_pos (show (Fin.castAdd 128 d).val < 128 from d.2), ← v51_at]
  rfl

theorem blkQ2 (c : Dev nD) (t : Fin cfg0.N) (r : Fin 1024) (d : Fin 128) : iblk m c 0 t (ix5 0 0 0 r (Fin.natAdd 128 d))
    = qlane (gx m c ⟨t.val / 64, by have := pt_lt t; omega⟩ ⟨1024 * (t.val % 16) + r.val, by omega⟩ ⟨t.val / 16 % 4, by omega⟩) d.val := by
  have hd : ¬ (Fin.natAdd 128 d).val < 128 := by simp
  rw [blkQw, v59_eq, cat_at, dif_neg hd, v30_at]
  exact congrArg _ (Nat.add_sub_cancel_left 128 d.val)

theorem blkK1 (c : Dev nD) (t : Fin cfg0.N) (j : Fin 16) (κ : Fin 1024) (d : Fin 128) : iblk m c 1 t (ix5 0 0 j κ (Fin.castAdd 128 d))
    = m ((c : Thread nD τ).loc main_arg1) (ix4 ⟨t.val / 64, by have := pt_lt t; omega⟩ ⟨1024 * j.val + κ.val, by omega⟩ ⟨t.val / 16 % 4, by omega⟩ d) := by
  rw [blkKw, v60_eq, cat_at, dif_pos (show (Fin.castAdd 128 d).val < 128 from d.2)]
  exact v53_at m c _ _ _ d

theorem blkK2 (c : Dev nD) (t : Fin cfg0.N) (j : Fin 16) (κ : Fin 1024) (d : Fin 128) : iblk m c 1 t (ix5 0 0 j κ (Fin.natAdd 128 d))
    = klane (gx m c ⟨t.val / 64, by have := pt_lt t; omega⟩ ⟨1024 * j.val + κ.val, by omega⟩ ⟨t.val / 16 % 4, by omega⟩) d.val := by
  have hd : ¬ (Fin.natAdd 128 d).val < 128 := by simp
  rw [blkKw, v60_eq, cat_at, dif_neg hd, v46_at]
  exact congrArg _ (Nat.add_sub_cancel_left 128 d.val)

/-! The three operands as rows: a key's, a query's and a value's. -/

def Kf (c : Dev nD) (t : Fin cfg0.N) (u : ℕ) (d : Fin 256) : EReal :=
  iblk m c 1 t (ix5 0 0 ⟨u / 1024 % 16, by omega⟩ ⟨u % 1024, by omega⟩ d)
def Qf (c : Dev nD) (t : Fin cfg0.N) (r : ℕ) (d : Fin 256) : EReal := iblk m c 0 t (ix5 0 0 0 ⟨r % 1024, by omega⟩ d)
def Vf (c : Dev nD) (t : Fin cfg0.N) (u : ℕ) (d : Fin 128) : EReal :=
  iblk m c 2 t (ix5 0 0 ⟨u / 1024 % 16, by omega⟩ d ⟨u % 1024, by omega⟩)

theorem hKf (c : Dev nD) (t : Fin cfg0.N) (j : Fin 16) (κ : Fin 1024) (d : Fin 256) :
    (ms1 t).view.read (Elt Ideal) ((hs1 t).unread (iblk m c 1 t)) (ix5 0 0 j κ d) = Kf m c t (1024 * j.val + κ.val) d := by
  rw [(hs1 t).read_unread]
  unfold Kf
  congr 2 <;> exact Fin.ext (by dsimp only; omega)

theorem hQf (c : Dev nD) (t : Fin cfg0.N) (r : Fin 1024) (d : Fin 256) :
    (ms0 t).view.read (Elt Ideal) ((hs0 t).unread (iblk m c 0 t)) (ix5 0 0 0 r d) = Qf m c t r.val d := by
  rw [(hs0 t).read_unread]
  unfold Qf
  congr 2; exact Fin.ext (by dsimp only; omega)

theorem hVf (c : Dev nD) (t : Fin cfg0.N) (j : Fin 16) (d : Fin 128) (κ : Fin 1024) :
    (ms2 t).view.read (Elt Ideal) ((hs2 t).unread (iblk m c 2 t)) (ix5 0 0 j d κ) = Vf m c t (1024 * j.val + κ.val) d := by
  rw [(hs2 t).read_unread]
  unfold Vf
  congr 2 <;> exact Fin.ext (by dsimp only; omega)

/-- What a grid point leaves: each query's values averaged by the weights. -/
theorem outAt_at (c : Dev nD) (t : Fin cfg0.N) (T : Fin 1024) (d : Fin 128) : outAt m c t (ix3 0 T d)
    = Ideal.div (ra (Sm (Kf m c t) (Qf m c t) (t.val % 16) T.val) (fun u => Vf m c t u d) 16384) (rl (Sm (Kf m c t) (Qf m c t) (t.val % 16) T.val) 16384) := by
  have hb : ((grid0.coords t) 2).val = t.val % 16 := (idx t).2.2.2.2.1
  unfold outAt piecesAt pieces
  by_cases h : k0_cond1 (grid0.coords t) = 1#1
  · rw [dif_pos h]
    exact ev_read c (grid0.coords t) (ms0 t) (hs0 t) (ms1 t) (hs1 t) (ms2 t) (hs2 t) (ms3 t) (hs3 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Kf m c t) (Qf m c t) (Vf m c t) _ _ _ (hKf m c t) (hQf m c t) (hVf m c t) h _ (t.val % 16) hb VO VO.junk T d
  · rw [dif_neg h]
    exact od_read c (grid0.coords t) (ms0 t) (hs0 t) (ms1 t) (hs1 t) (ms2 t) (hs2 t) (ms3 t) (hs3 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Kf m c t) (Qf m c t) (Vf m c t) _ _ _ (hKf m c t) (hQf m c t) (hVf m c t) h _ (t.val % 16) hb VO VO.junk T d

/-! The arguments, and the batch entry and head of a grid point. -/

abbrev aq (c : Dev nD) : FVec Ideal S2x16384x4x128 .f32 := m ((c : Thread nD τ).loc main_arg0)
abbrev ak (c : Dev nD) : FVec Ideal S2x16384x4x128 .f32 := m ((c : Thread nD τ).loc main_arg1)
abbrev av (c : Dev nD) : FVec Ideal S2x16384x4x128 .f32 := m ((c : Thread nD τ).loc main_arg2)
abbrev ac (c : Dev nD) : FVec Ideal S2x16384x4 .f32 := m ((c : Thread nD τ).loc main_arg3)
abbrev bt (t : Fin cfg0.N) : Fin 2 := ⟨t.val / 64, by have := pt_lt t; omega⟩
abbrev ht (t : Fin cfg0.N) : Fin 4 := ⟨t.val / 16 % 4, by omega⟩
abbrev tt (t : Fin cfg0.N) (r : Fin 1024) : Fin 16384 := ⟨1024 * (t.val % 16) + r.val, by omega⟩

theorem Sc_at (c : Dev nD) (t : Fin cfg0.N) (T : Fin 1024) (u : Fin 16384) : Sc (Kf m c t) (Qf m c t) T.val u.val
    = ((lg : ℝ) : EReal) * Cert.FoxRefIdeal.Read.prod (aq m c) (ak m c) (bt t) (ht t) (tt t T) u
      + (parts (gx m c (bt t) (tt t T) (ht t)) + nparts (gx m c (bt t) u (ht t))) := by
  unfold Sc Cert.FoxRefIdeal.Read.prod
  have eT : (⟨T.val % 1024, by omega⟩ : Fin 1024) = T := Fin.ext (by dsimp only; omega)
  have eu : ∀ h, (⟨1024 * (u.val / 1024 % 16) + u.val % 1024, h⟩ : Fin 16384) = u := fun h => Fin.ext (by dsimp only; omega)
  refine score_sum (fun d => aq m c (ix4 (bt t) (tt t T) (ht t) d)) (fun d => ak m c (ix4 (bt t) u (ht t) d)) _ (ac m c (ix3 (bt t) (tt t T) (ht t))) (ac m c (ix3 (bt t) u (ht t))) _ _ (fun d => ?_) (fun d => ?_) (fun d => ?_) (fun d => ?_)
  · unfold Qf; rw [eT, blkQ1]
  · unfold Qf; rw [eT, blkQ2]; rfl
  · unfold Kf; rw [blkK1]; simp only [eu]
  · unfold Kf; rw [blkK2]; simp only [eu]; rfl

theorem same (c : Dev nD) (t : Fin cfg0.N) (T : Fin 1024) :
    SameRow (fun u : Fin 16384 => Sm (Kf m c t) (Qf m c t) (t.val % 16) T.val u.val)
      (Cert.FoxRefIdeal.Read.score (aq m c) (ak m c) (ac m c) (bt t) (ht t) (tt t T)) := by
  have h := sameRow (fun u : Fin 16384 => Cert.FoxRefIdeal.Read.prod (aq m c) (ak m c) (bt t) (ht t) (tt t T) u)
    (fun u => ac m c (ix3 (bt t) u (ht t))) (ac m c (ix3 (bt t) (tt t T) (ht t))) (fun u => u.val ≤ 1024 * (t.val % 16) + T.val)
  have e : (fun u : Fin 16384 => Sm (Kf m c t) (Qf m c t) (t.val % 16) T.val u.val) = fun u : Fin 16384 => if u.val ≤ 1024 * (t.val % 16) + T.val
      then ((lg : ℝ) : EReal) * Cert.FoxRefIdeal.Read.prod (aq m c) (ak m c) (bt t) (ht t) (tt t T) u
        + (parts (gx m c (bt t) (tt t T) (ht t)) + nparts (gx m c (bt t) u (ht t))) else ⊥ := by
    funext u; unfold Sm; rw [Sc_at]
  rw [e]; exact h

/-- The reference's result, of the kernel's arguments. -/
def ref (c : Dev nD) : FVec Ideal S2x16384x512 .f32 :=
  Cert.FoxRefIdeal.Read.val_main_v25 (F := Ideal) (aq m c) (ak m c) (av m c) (ac m c)

theorem out_ref (c : Dev nD) (t : Fin cfg0.N) (T : Fin 1024) (d : Fin 128) :
    outAt m c t (ix3 0 T d) = ref m c (ix3 (bt t) (tt t T) ⟨128 * (ht t).val + d.val, by have := (ht t).2; omega⟩) := by
  rw [outAt_at]
  unfold ref
  rw [Cert.FoxRefIdeal.Read.v25_at]
  have eh : ∀ q, (⟨(128 * (ht t).val + d.val) / 128, q⟩ : Fin 4) = ht t := fun q => Fin.ext (by dsimp only; omega)
  have ed : ∀ q, (⟨(128 * (ht t).val + d.val) % 128, q⟩ : Fin 128) = d := fun q => Fin.ext (by dsimp only; omega)
  simp only [eh, ed]
  refine quot 16384 _ _ _ (fun u => av m c (ix4 (bt t) u (ht t) d)) (same m c t T) fun u => ?_
  have eu : ∀ h, (⟨1024 * (u.val / 1024 % 16) + u.val % 1024, h⟩ : Fin 16384) = u := fun h => Fin.ext (by dsimp only; omega)
  unfold Vf; rw [blkV]; simp only [eu]

theorem emb3 (t : Fin cfg0.N) (r : Fin 1024) (d : Fin 128) : (win0_3.blk t).view.emb (ix3 0 r d)
    = ix3 (bt t) (tt t r) ⟨128 * (ht t).val + d.val, by have := (ht t).2; omega⟩ := by
  have h := (idx t).2.2.2.1
  refine funext fun (a : Fin 3) => Fin.ext ?_
  refine (win0_3.rect_emb_val t (ix3 0 r d) a).trans ?_
  rw [h]
  match a with
  | ⟨0, _⟩ => show t.val / 64 * 1 + 0 = t.val / 64; omega
  | ⟨1, _⟩ => show t.val % 16 * 1024 + r.val = 1024 * (t.val % 16) + r.val; omega
  | ⟨2, _⟩ => show t.val / 16 % 4 * 128 + d.val = 128 * (t.val / 16 % 4) + d.val; omega

theorem final (c : Dev nD) : (dats m 0 c).arrAt 3 cfg0.N = ref m c := by
  refine (dats m 0 c).arrAt_eq_of_covers 3 _ (by decide +kernel) fun t _ y => ?_
  blk_simp
  rw [after_3]
  idx_vars y
  obtain rfl : y0 = 0 := Subsingleton.elim _ _
  exact (out_ref m c t y1 y2).trans (congrArg (ref m c) (emb3 t y1 y2).symm)

/-- The run, with the result array named and the arguments unchanged. -/
theorem run_value (ρ : Dev nD → PrngReg) : θ_run defs (onTc (τ := τ) (main (F := Ideal))) ⟨m, fun _ => 0, ρ⟩ fun r => ∀ c : Dev nD,
      r.2.mem ((c : Thread nD τ).loc main_v61) = ref m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.FoxIdeal.Body

end
-- ==== Proof.FoxClaim.lean ====
/- The forgetting attention: the claims about the call and about its reference. -/
module

public import proofs.«01_k».proof.Defs
public import proofs.«01_k».proof.Proof.FoxFinal
public import proofs.«01_k».proof.Proof.FoxLaunch
public import proofs.«01_k».proof.Proof.Gen.FoxRefIdeal.Run
public import Idealize.ShloMosaic.Lib.Quiescent

@[expose] public section

set_option maxRecDepth 16384

noncomputable section

open Idealize.ShloMosaic Idealize.ShloMosaic.TcCoe Idealize.SL.Sem

namespace Cert.Proof.FoxClaim

theorem frame_p : Cert.quiescent_Fox := fun m ρ _ => Cert.Fox.Body.frame m ρ

theorem frame_i : Cert.quiescent_FoxIdeal := fun m ρ _ => Cert.FoxIdeal.Body.frame m ρ

theorem frame_r : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The call's result array is the reference's, whatever the arguments. -/
theorem algebraic : Cert.algebraic_FoxIdeal_FoxRefIdeal := by
  intro m ρ m' ρ' _ hag
  refine ⟨fun c => Cert.FoxIdeal.Body.ref m c, Cert.FoxIdeal.Body.run_value m ρ,
    (θ_run Cert.FoxRefIdeal.defs _ _).mono (fun r h c => ⟨(h c).1.trans ?_, (h c).2⟩)
      (Cert.FoxRefIdeal.Value.run (F := Ideal) m' ρ')⟩
  obtain ⟨h0, h1, h2, h3⟩ := hag c
  rw [Cert.FoxRefIdeal.Read.val_main_v25_eq]
  simp only [h0, h1, h2, h3]
  rfl

end Cert.Proof.FoxClaim

end
-- ==== Proof.lean ====
module

public import proofs.«01_k».proof.Defs
public import proofs.«01_k».proof.Proof.ConvClaim
public import proofs.«01_k».proof.Proof.MixClaim
public import proofs.«01_k».proof.Proof.FoxClaim
public import Idealize.ShloMosaic.Adequacy
public import Idealize.ShloMosaic.Init

@[expose] public section

noncomputable section

namespace Cert.Proof

open Idealize.ShloMosaic Idealize.SL.Sem

theorem claim : Cert.Claim := ⟨Cert.Conv.Gen.facts, Cert.ConvIdeal.Gen.facts, Cert.ConvRefIdeal.Gen.facts, Cert.Mix.Gen.facts, Cert.MixIdeal.Gen.facts, Cert.MixRefIdeal.Gen.facts, Cert.Fox.Gen.facts, Cert.FoxIdeal.Gen.facts, Cert.FoxRefIdeal.Gen.facts,
  ConvClaim.frame_p, ConvClaim.frame_i, ConvClaim.frame_r, MixClaim.frame_p, MixClaim.frame_i, MixClaim.frame_r, FoxClaim.frame_p, FoxClaim.frame_i, FoxClaim.frame_r,
  trivial, ConvClaim.algebraic, trivial, MixClaim.algebraic, trivial, FoxClaim.algebraic⟩

end Cert.Proof

end
